-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v17) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v77) = v0 c
          ∧ r.2.mem ((c.tc : Thread Cert.Reference6Ideal.nD Cert.Reference6Ideal.τ).loc Cert.Reference6Ideal.main_v78) = v1 c
          ∧ r.2.mem ((c.tc : Thread Cert.Reference6Ideal.nD Cert.Reference6Ideal.τ).loc Cert.Reference6Ideal.main_v79) = v2 c
          ∧ r.2.mem ((c.tc : Thread Cert.Reference6Ideal.nD Cert.Reference6Ideal.τ).loc Cert.Reference6Ideal.main_v80) = v3 c
          ∧ r.2.mem ((c.tc : Thread Cert.Reference6Ideal.nD Cert.Reference6Ideal.τ).loc Cert.Reference6Ideal.main_v81) = v4 c
          ∧ r.2.mem ((c.tc : Thread Cert.Reference6Ideal.nD Cert.Reference6Ideal.τ).loc Cert.Reference6Ideal.main_v82) = v5 c
          ∧ r.2.mem ((c.tc : Thread Cert.Reference6Ideal.nD Cert.Reference6Ideal.τ).loc Cert.Reference6Ideal.main_v83) = v6 c
          ∧ r.2.mem ((c.tc : Thread Cert.Reference6Ideal.nD Cert.Reference6Ideal.τ).loc Cert.Reference6Ideal.main_v21) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v27) = v0 c
          ∧ r.2.mem ((c.tc : Thread Cert.Reference11Ideal.nD Cert.Reference11Ideal.τ).loc Cert.Reference11Ideal.main_v28) = v1 c
          ∧ r.2.mem ((c.tc : Thread Cert.Reference11Ideal.nD Cert.Reference11Ideal.τ).loc Cert.Reference11Ideal.main_v29) = v2 c
          ∧ r.2.mem ((c.tc : Thread Cert.Reference11Ideal.nD Cert.Reference11Ideal.τ).loc Cert.Reference11Ideal.main_v26) = v3 c
          ∧ r.2.mem ((c.tc : Thread Cert.Reference11Ideal.nD Cert.Reference11Ideal.τ).loc Cert.Reference11Ideal.main_v42) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v32) = v1 c
          ∧ r.2.mem ((c.tc : Thread Cert.Reference12Ideal.nD Cert.Reference12Ideal.τ).loc Cert.Reference12Ideal.main_v37) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v41) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_v15) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v17) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite3 : Cert.Pre_finite3.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S8448x5632 : Shape := ⟨2, ![8448, 5632]⟩
abbrev S1024x5632 : Shape := ⟨2, ![1024, 5632]⟩
abbrev S8448x1024 : Shape := ⟨2, ![8448, 1024]⟩
abbrev S1x1024 : Shape := ⟨2, ![1, 1024]⟩
abbrev S_ : Shape := ⟨0, ![]⟩

class Facts : Prop where
  bitsLt_bf16_f32 : FTy.bits .bf16 < FTy.bits .f32
  bcast_S_S8448x5632 : S_.BroadcastsInDim S8448x5632 (![] : Fin 0 → Fin S8448x5632.rank)
  reducesTo_S8448x5632_S_d0_1 : S8448x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S8448x1024 : S_.BroadcastsInDim S8448x1024 (![] : Fin 0 → Fin S8448x1024.rank)
  reducesTo_S8448x1024_S_d0_1 : S8448x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg3 : FVec F S1x1024 .f32) (main_arg4 : FVec F S8448x1024 .f32) (main_v16 : IVec S_ 1) : IVec S_ 1 :=
  let main_v17 : FVec F S1x1024 .f32 := Host.absf main_arg3
  let main_cst_5 : FVec F S_ .f32 := constant S_ .f32 0x7F800000#32
  let main_v18 : FVec F S1x1024 .f32 := broadcastInDim S1x1024 ![] bcast_S_S1x1024 main_cst_5
  let main_v19 : IVec S1x1024 1 := cmpf .olt main_v17 main_v18
  let main_c_6 : IVec S_ 1 := constantI S_ 1 1#1
  let main_v20 : IVec S_ 1 := (fun x v => Host.reduce IntOp.andi x v reducesTo_S1x1024_S_d0_1 h_S_) main_v19 main_c_6
  let main_v21 : IVec S_ 1 := andi main_v16 main_v20
  let main_v22 : FVec F S8448x1024 .f32 := Host.absf main_arg4
  let main_cst_7 : FVec F S_ .f32 := constant S_ .f32 0x7F800000#32
  let main_v23 : FVec F S8448x1024 .f32 := broadcastInDim S8448x1024 ![] bcast_S_S8448x1024 main_cst_7
  let main_v24 : IVec S8448x1024 1 := cmpf .olt main_v22 main_v23
  let main_c_8 : IVec S_ 1 := constantI S_ 1 1#1
  let main_v25 : IVec S_ 1 := (fun x v => Host.reduce IntOp.andi x v reducesTo_S8448x1024_S_d0_1 h_S_) main_v24 main_c_8
  let main_v26 : IVec S_ 1 := andi main_v21 main_v25
  main_v26

def fn {F : FTy → Type} [FloatOps F] (main_arg0 : FVec F S8448x5632 .bf16) (main_arg1 : FVec F S1024x5632 .bf16) (main_arg2 : FVec F S8448x1024 .f32) (main_arg3 : FVec F S1x1024 .f32) (main_arg4 : FVec F S8448x1024 .f32) : IVec S_ 1 :=
  let main_v0 : FVec F S8448x5632 .f32 := (extf .f32 · bitsLt_bf16_f32) main_arg0
  let main_v1 : FVec F S8448x5632 .f32 := Host.absf main_v0
  let main_cst : FVec F S_ .f32 := constant S_ .f32 0x7F800000#32
  let main_v2 : FVec F S8448x5632 .f32 := broadcastInDim S8448x5632 ![] bcast_S_S8448x5632 main_cst
  let main_v3 : IVec S8448x5632 1 := cmpf .olt main_v1 main_v2
  let main_c : IVec S_ 1 := constantI S_ 1 1#1
  let main_v4 : IVec S_ 1 := (fun x v => Host.reduce IntOp.andi x v reducesTo_S8448x5632_S_d0_1 h_S_) main_v3 main_c
  let main_c_0 : IVec S_ 1 := constantI S_ 1 1#1
  let main_v5 : IVec S_ 1 := andi main_c_0 main_v4
  let main_v6 : FVec F S1024x5632 .f32 := (extf .f32 · bitsLt_bf16_f32) main_arg1
  let main_v7 : FVec F S1024x5632 .f32 := Host.absf main_v6
  let main_cst_1 : FVec F S_ .f32 := constant S_ .f32 0x7F800000#32
  let main_v8 : FVec F S1024x5632 .f32 := broadcastInDim S1024x5632 ![] bcast_S_S1024x5632 main_cst_1
  let main_v9 : IVec S1024x5632 1 := cmpf .olt main_v7 main_v8
  let main_c_2 : IVec S_ 1 := constantI S_ 1 1#1
  let main_v10 : IVec S_ 1 := (fun x v => Host.reduce IntOp.andi x v reducesTo_S1024x5632_S_d0_1 h_S_) main_v9 main_c_2
  let main_v11 : IVec S_ 1 := andi main_v5 main_v10
  let main_v12 : FVec F S8448x1024 .f32 := Host.absf main_arg2
  let main_cst_3 : FVec F S_ .f32 := constant S_ .f32 0x7F800000#32
  let main_v13 : FVec F S8448x1024 .f32 := broadcastInDim S8448x1024 ![] bcast_S_S8448x1024 main_cst_3
  let main_v14 : IVec S8448x1024 1 := cmpf .olt main_v12 main_v13
  let main_c_4 : IVec S_ 1 := constantI S_ 1 1#1
  let main_v15 : IVec S_ 1 := (fun x v => Host.reduce IntOp.andi x v reducesTo_S8448x1024_S_d0_1 h_S_) main_v14 main_c_4
  let main_v16 : IVec S_ 1 := andi main_v11 main_v15
  fn_part1 (F := F) main_arg3 main_arg4 main_v16
-- ==== Pre_finite3.lean ====
abbrev S8448x1024 : Shape := ⟨2, ![8448, 1024]⟩
abbrev S1x1024 : Shape := ⟨2, ![1, 1024]⟩
abbrev S2816x1024 : Shape := ⟨2, ![2816, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v14 : IVec S_ 1) (main_v16 : FVec F S2816x1024 .f32) : IVec S_ 1 :=
  let main_cst_5 : FVec F S_ .f32 := constant S_ .f32 0x7F800000#32
  let main_v17 : FVec F S2816x1024 .f32 := broadcastInDim S2816x1024 ![] bcast_S_S2816x1024 main_cst_5
  let main_v18 : IVec S2816x1024 1 := cmpf .olt main_v16 main_v17
  let main_c_6 : IVec S_ 1 := constantI S_ 1 1#1
  let main_v19 : IVec S_ 1 := (fun x v => Host.reduce IntOp.andi x v reducesTo_S2816x1024_S_d0_1 h_S_) main_v18 main_c_6
  let main_v20 : IVec S_ 1 := andi main_v14 main_v19
  main_v20

def fn {F : FTy → Type} [FloatOps F] (main_arg0 : FVec F S8448x1024 .f32) (main_arg1 : FVec F S8448x1024 .f32) (main_arg2 : FVec F S1x1024 .f32) (main_arg3 : FVec F S2816x1024 .bf16) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_c_0 : IVec S_ 1 := constantI S_ 1 1#1
  let main_v4 : IVec S_ 1 := andi main_c_0 main_v3
  let main_v5 : FVec F S8448x1024 .f32 := Host.absf main_arg1
  let main_cst_1 : FVec F S_ .f32 := constant S_ .f32 0x7F800000#32
  let main_v6 : FVec F S8448x1024 .f32 := broadcastInDim S8448x1024 ![] bcast_S_S8448x1024 main_cst_1
  let main_v7 : IVec S8448x1024 1 := cmpf .olt main_v5 main_v6
  let main_c_2 : IVec S_ 1 := constantI S_ 1 1#1
  let main_v8 : IVec S_ 1 := (fun x v => Host.reduce IntOp.andi x v reducesTo_S8448x1024_S_d0_1 h_S_) main_v7 main_c_2
  let main_v9 : IVec S_ 1 := andi main_v4 main_v8
  let main_v10 : FVec F S1x1024 .f32 := Host.absf main_arg2
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S2816x1024 .f32 := (extf .f32 · bitsLt_bf16_f32) main_arg3
  let main_v16 : FVec F S2816x1024 .f32 := Host.absf main_v15
  fn_part1 (F := F) main_v14 main_v16
-- ==== Pre_finite6.lean ====
abbrev S8448x1024 : Shape := ⟨2, ![8448, 1024]⟩
abbrev S1x1024 : Shape := ⟨2, ![1, 1024]⟩
abbrev S1024x1024 : Shape := ⟨2, ![1024, 1024]⟩
abbrev S8448x5120 : Shape := ⟨2, ![8448, 5120]⟩
abbrev S512x1024 : Shape := ⟨2, ![512, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S8448x5120 : S_.BroadcastsInDim S8448x5120 (![] : Fin 0 → Fin S8448x5120.rank)
  reducesTo_S8448x5120_S_d0_1 : S8448x5120.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part2 {F : FTy → Type} [FloatOps F] (main_arg7 : FVec F S512x1024 .bf16) (main_arg8 : FVec F S512x1024 .bf16) (main_v32 : IVec S_ 1) (main_v34 : FVec F S8448x1024 .f32) : IVec S_ 1 :=
  let main_cst_11 : FVec F S_ .f32 := constant S_ .f32 0x7F800000#32
  let main_v35 : FVec F S8448x1024 .f32 := broadcastInDim S8448x1024 ![] bcast_S_S8448x1024 main_cst_11
  let main_v36 : IVec S8448x1024 1 := cmpf .olt main_v34 main_v35
  let main_c_12 : IVec S_ 1 := constantI S_ 1 1#1
  let main_v37 : IVec S_ 1 := (fun x v => Host.reduce IntOp.andi x v reducesTo_S8448x1024_S_d0_1 h_S_) main_v36 main_c_12
  let main_v38 : IVec S_ 1 := andi main_v32 main_v37
  let main_v39 : FVec F S512x1024 .f32 := (extf .f32 · bitsLt_bf16_f32) main_arg7
  let main_v40 : FVec F S512x1024 .f32 := Host.absf main_v39
  let main_cst_13 : FVec F S_ .f32 := constant S_ .f32 0x7F800000#32
  let main_v41 : FVec F S512x1024 .f32 := broadcastInDim S512x1024 ![] bcast_S_S512x1024 main_cst_13
  let main_v42 : IVec S512x1024 1 := cmpf .olt main_v40 main_v41
  let main_c_14 : IVec S_ 1 := constantI S_ 1 1#1
  let main_v43 : IVec S_ 1 := (fun x v => Host.reduce IntOp.andi x v reducesTo_S512x1024_S_d0_1 h_S_) main_v42 main_c_14
  let main_v44 : IVec S_ 1 := andi main_v38 main_v43
  let main_v45 : FVec F S512x1024 .f32 := (extf .f32 · bitsLt_bf16_f32) main_arg8
  let main_v46 : FVec F S512x1024 .f32 := Host.absf main_v45
  let main_cst_15 : FVec F S_ .f32 := constant S_ .f32 0x7F800000#32
  let main_v47 : FVec F S512x1024 .f32 := broadcastInDim S512x1024 ![] bcast_S_S512x1024 main_cst_15
  let main_v48 : IVec S512x1024 1 := cmpf .olt main_v46 main_v47
  let main_c_16 : IVec S_ 1 := constantI S_ 1 1#1
  let main_v49 : IVec S_ 1 := (fun x v => Host.reduce IntOp.andi x v reducesTo_S512x1024_S_d0_1 h_S_) main_v48 main_c_16
  let main_v50 : IVec S_ 1 := andi main_v44 main_v49
  main_v50

def fn_part1 {F : FTy → Type} [FloatOps F] (main_arg4 : FVec F S8448x5120 .bf16) (main_arg5 : FVec F S8448x1024 .bf16) (main_arg6 : FVec F S8448x1024 .bf16) (main_arg7 : FVec F S512x1024 .bf16) (main_arg8 : FVec F S512x1024 .bf16) (main_v14 : IVec S_ 1) (main_v16 : FVec F S1024x1024 .f32) : IVec S_ 1 :=
  let main_cst_5 : FVec F S_ .f32 := constant S_ .f32 0x7F800000#32
  let main_v17 : FVec F S1024x1024 .f32 := broadcastInDim S1024x1024 ![] bcast_S_S1024x1024 main_cst_5
  let main_v18 : IVec S1024x1024 1 := cmpf .olt main_v16 main_v17
  let main_c_6 : IVec S_ 1 := constantI S_ 1 1#1
  let main_v19 : IVec S_ 1 := (fun x v => Host.reduce IntOp.andi x v reducesTo_S1024x1024_S_d0_1 h_S_) main_v18 main_c_6
  let main_v20 : IVec S_ 1 := andi main_v14 main_v19
  let main_v21 : FVec F S8448x5120 .f32 := (extf .f32 · bitsLt_bf16_f32) main_arg4
  let main_v22 : FVec F S8448x5120 .f32 := Host.absf main_v21
  let main_cst_7 : FVec F S_ .f32 := constant S_ .f32 0x7F800000#32
  let main_v23 : FVec F S8448x5120 .f32 := broadcastInDim S8448x5120 ![] bcast_S_S8448x5120 main_cst_7
  let main_v24 : IVec S8448x5120 1 := cmpf .olt main_v22 main_v23
  let main_c_8 : IVec S_ 1 := constantI S_ 1 1#1
  let main_v25 : IVec S_ 1 := (fun x v => Host.reduce IntOp.andi x v reducesTo_S8448x5120_S_d0_1 h_S_) main_v24 main_c_8
  let main_v26 : IVec S_ 1 := andi main_v20 main_v25
  let main_v27 : FVec F S8448x1024 .f32 := (extf .f32 · bitsLt_bf16_f32) main_arg5
  let main_v28 : FVec F S8448x1024 .f32 := Host.absf main_v27
  let main_cst_9 : FVec F S_ .f32 := constant S_ .f32 0x7F800000#32
  let main_v29 : FVec F S8448x1024 .f32 := broadcastInDim S8448x1024 ![] bcast_S_S8448x1024 main_cst_9
  let main_v30 : IVec S8448x1024 1 := cmpf .olt main_v28 main_v29
  let main_c_10 : IVec S_ 1 := constantI S_ 1 1#1
  let main_v31 : IVec S_ 1 := (fun x v => Host.reduce IntOp.andi x v reducesTo_S8448x1024_S_d0_1 h_S_) main_v30 main_c_10
  let main_v32 : IVec S_ 1 := andi main_v26 main_v31
  let main_v33 : FVec F S8448x1024 .f32 := (extf .f32 · bitsLt_bf16_f32) main_arg6
  let main_v34 : FVec F S8448x1024 .f32 := Host.absf main_v33
  fn_part2 (F := F) main_arg7 main_arg8 main_v32 main_v34

def fn {F : FTy → Type} [FloatOps F] (main_arg0 : FVec F S8448x1024 .f32) (main_arg1 : FVec F S8448x1024 .f32) (main_arg2 : FVec F S1x1024 .f32) (main_arg3 : FVec F S1024x1024 .bf16) (main_arg4 : FVec F S8448x5120 .bf16) (main_arg5 : FVec F S8448x1024 .bf16) (main_arg6 : FVec F S8448x1024 .bf16) (main_arg7 : FVec F S512x1024 .bf16) (main_arg8 : FVec F S512x1024 .bf16) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_c_0 : IVec S_ 1 := constantI S_ 1 1#1
  let main_v4 : IVec S_ 1 := andi main_c_0 main_v3
  let main_v5 : FVec F S8448x1024 .f32 := Host.absf main_arg1
  let main_cst_1 : FVec F S_ .f32 := constant S_ .f32 0x7F800000#32
  let main_v6 : FVec F S8448x1024 .f32 := broadcastInDim S8448x1024 ![] bcast_S_S8448x1024 main_cst_1
  let main_v7 : IVec S8448x1024 1 := cmpf .olt main_v5 main_v6
  let main_c_2 : IVec S_ 1 := constantI S_ 1 1#1
  let main_v8 : IVec S_ 1 := (fun x v => Host.reduce IntOp.andi x v reducesTo_S8448x1024_S_d0_1 h_S_) main_v7 main_c_2
  let main_v9 : IVec S_ 1 := andi main_v4 main_v8
  let main_v10 : FVec F S1x1024 .f32 := Host.absf main_arg2
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S1024x1024 .f32 := (extf .f32 · bitsLt_bf16_f32) main_arg3
  let main_v16 : FVec F S1024x1024 .f32 := Host.absf main_v15
  fn_part1 (F := F) main_arg4 main_arg5 main_arg6 main_arg7 main_arg8 main_v14 main_v16
-- ==== Kernel.lean ====
abbrev S8448x5632 : Shape := ⟨2, ![8448, 5632]⟩
abbrev S1024x5632 : Shape := ⟨2, ![1024, 5632]⟩
abbrev S8448x1024 : Shape := ⟨2, ![8448, 1024]⟩
abbrev S1x1024 : Shape := ⟨2, ![1, 1024]⟩
abbrev S768x1408 : Shape := ⟨2, ![768, 1408]⟩
abbrev S1024x1408 : Shape := ⟨2, ![1024, 1408]⟩
abbrev S768x1024 : Shape := ⟨2, ![768, 1024]⟩
abbrev S768 : Shape := ⟨1, ![768]⟩
abbrev S768x1 : Shape := ⟨2, ![768, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S1x1024, .f32⟩
  | .local _ .vmem, ⟨0, _⟩ => ⟨S768x1408, .bf16⟩
  | .local _ .vmem, ⟨1, _⟩ => ⟨S768x1408, .bf16⟩
  | .local _ .vmem, ⟨2, _⟩ => ⟨S1024x1408, .bf16⟩
  | .local _ .vmem, ⟨3, _⟩ => ⟨S1024x1408, .bf16⟩
  | .local _ .vmem, ⟨4, _⟩ => ⟨S768x1024, .f32⟩
  | .local _ .vmem, ⟨5, _⟩ => ⟨S768x1024, .f32⟩
  | .local _ .vmem, ⟨6, _⟩ => ⟨S1x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S1x1024, .f32⟩
  | .local _ .vmem, ⟨12, _⟩ => ⟨S768x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![11, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_25 : BitVec 32 := 0#32
  let v45 : BitVec 1 := Scalar.cmpi .eq arg0 c0_i32_25
  let v46 : BitVec 32 := Scalar.extui v45
  let c0_i32_26 : BitVec 32 := 0#32
  let v47 : BitVec 1 := Scalar.cmpi .ne v46 c0_i32_26
  v47

def k0_cond4 (i : grid0.Coords) : BitVec 1 :=
  let arg0 : BitVec 32 := BitVec.ofNat 32 (i 0).val
  let c0_i32_27 : BitVec 32 := 0#32
  let v48 : BitVec 1 := Scalar.cmpi .sgt arg0 c0_i32_27
  let v49 : BitVec 32 := Scalar.extui v48
  let c0_i32_28 : BitVec 32 := 0#32
  let v50 : BitVec 1 := Scalar.cmpi .ne v49 c0_i32_28
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S8448x5632 : Shape := ⟨2, ![8448, 5632]⟩
abbrev S1024x5632 : Shape := ⟨2, ![1024, 5632]⟩
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S1024x5632, .f32⟩
  | .hbm, ⟨6, _⟩ => ⟨S8448x1024, .f32⟩
  | .hbm, ⟨7, _⟩ => ⟨S_, .f32⟩
  | .hbm, ⟨8, _⟩ => ⟨S8448, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x5632, .f32⟩
  | .hbm, ⟨26, _⟩ => ⟨S8448x5632, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S_, .f32⟩
  | .hbm, ⟨36, _⟩ => ⟨S8448, .f32⟩
  | .hbm, ⟨37, _⟩ => ⟨S8448x1, .f32⟩
  | .hbm, ⟨38, _⟩ => ⟨S8448x1024, .f32⟩
  | .hbm, ⟨39, _⟩ => ⟨S8448x1024, .f32⟩
  | .hbm, ⟨40, _⟩ => ⟨S8448x1, .f32⟩
  | .hbm, ⟨41, _⟩ => ⟨S_, .f32⟩
  | .hbm, ⟨42, _⟩ => ⟨S8448x1, .f32⟩
  | .hbm, ⟨43, _⟩ => ⟨S8448x1, .f32⟩
  | .hbm, ⟨44, _⟩ => ⟨S_, .f32⟩
  | .hbm, ⟨45, _⟩ => ⟨S8448, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel2.lean ====
abbrev S8448x1024 : Shape := ⟨2, ![8448, 1024]⟩
abbrev S8448x5632 : Shape := ⟨2, ![8448, 5632]⟩
abbrev S1024x5632 : Shape := ⟨2, ![1024, 5632]⟩
abbrev S768x1024 : Shape := ⟨2, ![768, 1024]⟩
abbrev S768x1408 : Shape := ⟨2, ![768, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S1024x5632, .f32⟩
  | .local _ .vmem, ⟨0, _⟩ => ⟨S768x1024, .bf16⟩
  | .local _ .vmem, ⟨1, _⟩ => ⟨S768x1024, .bf16⟩
  | .local _ .vmem, ⟨2, _⟩ => ⟨S768x1408, .bf16⟩
  | .local _ .vmem, ⟨3, _⟩ => ⟨S768x1408, .bf16⟩
  | .local _ .vmem, ⟨4, _⟩ => ⟨S1024x1408, .f32⟩
  | .local _ .vmem, ⟨5, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8448x1024 : Shape := ⟨2, ![8448, 1024]⟩
abbrev S8448x5632 : Shape := ⟨2, ![8448, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S_, .f32⟩
  | .hbm, ⟨3, _⟩ => ⟨S1024x5632, .f32⟩
  | .hbm, ⟨4, _⟩ => ⟨S8448x1024, .f32⟩
  | .hbm, ⟨5, _⟩ => ⟨S8448x5632, .f32⟩
  | .hbm, ⟨6, _⟩ => ⟨S8448x5632, .f32⟩
  | .hbm, ⟨7, _⟩ => ⟨S5632x1024, .f32⟩
  | .hbm, ⟨8, _⟩ => ⟨S1024x5632, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8448x1024 : Shape := ⟨2, ![8448, 1024]⟩
abbrev S1x1024 : Shape := ⟨2, ![1, 1024]⟩
abbrev S2816x1024 : Shape := ⟨2, ![2816, 1024]⟩
abbrev S8448x2816 : Shape := ⟨2, ![8448, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1x1024, .f32⟩
  | .hbm, ⟨3, _⟩ => ⟨S2816x1024, .bf16⟩
  | .hbm, ⟨4, _⟩ => ⟨S8448x1024, .bf16⟩
  | .hbm, ⟨5, _⟩ => ⟨S8448x2816, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2816x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2816, .bf16⟩
  | .local _ .vmem, ⟨9, _⟩ => ⟨S256x2816, .bf16⟩
  | .local _ .vmem, ⟨10, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_17 : BitVec 32 := 0#32
  let v36 : BitVec 1 := Scalar.cmpi .ne v35 c0_i32_17
  v36

def k0_cond2 (i : grid0.Coords) : BitVec 1 :=
  let arg0 : BitVec 32 := BitVec.ofNat 32 (i 0).val
  let c0_i32_18 : BitVec 32 := 0#32
  let v37 : BitVec 1 := Scalar.cmpi .sgt arg0 c0_i32_18
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S8448x1024 : Shape := ⟨2, ![8448, 1024]⟩
abbrev S1x1024 : Shape := ⟨2, ![1, 1024]⟩
abbrev S2816x1024 : Shape := ⟨2, ![2816, 1024]⟩
abbrev S_ : Shape := ⟨0, ![]⟩
abbrev S8448 : Shape := ⟨1, ![8448]⟩
abbrev S8448x1 : Shape := ⟨2, ![8448, 1]⟩
abbrev S1024 : Shape := ⟨1, ![1024]⟩
abbrev S8448x2816 : Shape := ⟨2, ![8448, 2816]⟩

abbrev nBuf : Space → Nat
  | .hbm => 53
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1x1024, .f32⟩
  | .hbm, ⟨3, _⟩ => ⟨S2816x1024, .bf16⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8448x1024, .f32⟩
  | .hbm, ⟨28, _⟩ => ⟨S8448x1024, .f32⟩
  | .hbm, ⟨29, _⟩ => ⟨S8448x1024, .f32⟩
  | .hbm, ⟨30, _⟩ => ⟨S_, .f32⟩
  | .hbm, ⟨31, _⟩ => ⟨S8448, .f32⟩
  | .hbm, ⟨32, _⟩ => ⟨S8448x1, .f32⟩
  | .hbm, ⟨33, _⟩ => ⟨S8448x1024, .f32⟩
  | .hbm, ⟨34, _⟩ => ⟨S8448x1024, .f32⟩
  | .hbm, ⟨35, _⟩ => ⟨S8448x1, .f32⟩
  | .hbm, ⟨36, _⟩ => ⟨S_, .f32⟩
  | .hbm, ⟨37, _⟩ => ⟨S8448x1, .f32⟩
  | .hbm, ⟨38, _⟩ => ⟨S8448x1, .f32⟩
  | .hbm, ⟨39, _⟩ => ⟨S_, .f32⟩
  | .hbm, ⟨40, _⟩ => ⟨S8448, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S_, .f32⟩
  | .hbm, ⟨47, _⟩ => ⟨S8448x2816, .f32⟩
  | .hbm, ⟨48, _⟩ => ⟨S2816x1024, .f32⟩
  | .hbm, ⟨49, _⟩ => ⟨S8448x1024, .f32⟩
  | .hbm, ⟨50, _⟩ => ⟨S8448x2816, .f32⟩
  | .hbm, ⟨51, _⟩ => ⟨S8448x1024, .bf16⟩
  | .hbm, ⟨52, _⟩ => ⟨S8448x2816, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel4.lean ====
abbrev S8448x2816 : Shape := ⟨2, ![8448, 2816]⟩
abbrev S8448x1024 : Shape := ⟨2, ![8448, 1024]⟩
abbrev S2816x1024 : Shape := ⟨2, ![2816, 1024]⟩
abbrev S768x1408 : Shape := ⟨2, ![768, 1408]⟩
abbrev S768x1024 : Shape := ⟨2, ![768, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .f32⟩
  | .local _ .vmem, ⟨0, _⟩ => ⟨S768x1408, .bf16⟩
  | .local _ .vmem, ⟨1, _⟩ => ⟨S768x1408, .bf16⟩
  | .local _ .vmem, ⟨2, _⟩ => ⟨S768x1024, .bf16⟩
  | .local _ .vmem, ⟨3, _⟩ => ⟨S768x1024, .bf16⟩
  | .local _ .vmem, ⟨4, _⟩ => ⟨S1408x1024, .f32⟩
  | .local _ .vmem, ⟨5, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S8448x1024, .f32⟩
  | .hbm, ⟨7, _⟩ => ⟨S1024x2816, .f32⟩
  | .hbm, ⟨8, _⟩ => ⟨S2816x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8448x1024 : Shape := ⟨2, ![8448, 1024]⟩
abbrev S1x1024 : Shape := ⟨2, ![1, 1024]⟩
abbrev S1024x1024 : Shape := ⟨2, ![1024, 1024]⟩
abbrev S8448x5120 : Shape := ⟨2, ![8448, 5120]⟩
abbrev S512x1024 : Shape := ⟨2, ![512, 1024]⟩
abbrev S8448x512 : Shape := ⟨2, ![8448, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024 : Shape := ⟨1, ![1024]⟩

abbrev nBuf : Space → Nat
  | .hbm => 17
  | .vmem => 31
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1x1024, .f32⟩
  | .hbm, ⟨3, _⟩ => ⟨S1024x1024, .bf16⟩
  | .hbm, ⟨4, _⟩ => ⟨S8448x5120, .bf16⟩
  | .hbm, ⟨5, _⟩ => ⟨S8448x1024, .bf16⟩
  | .hbm, ⟨6, _⟩ => ⟨S8448x1024, .bf16⟩
  | .hbm, ⟨7, _⟩ => ⟨S512x1024, .bf16⟩
  | .hbm, ⟨8, _⟩ => ⟨S512x1024, .bf16⟩
  | .hbm, ⟨9, _⟩ => ⟨S8448x1024, .bf16⟩
  | .hbm, ⟨10, _⟩ => ⟨S8448x1024, .bf16⟩
  | .hbm, ⟨11, _⟩ => ⟨S8448x1024, .bf16⟩
  | .hbm, ⟨12, _⟩ => ⟨S8448x1024, .bf16⟩
  | .hbm, ⟨13, _⟩ => ⟨S8448x1024, .bf16⟩
  | .hbm, ⟨14, _⟩ => ⟨S8448x512, .bf16⟩
  | .hbm, ⟨15, _⟩ => ⟨S8448x512, .bf16⟩
  | .hbm, ⟨16, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S512x1024, .bf16⟩
  | .local _ .vmem, ⟨15, _⟩ => ⟨S512x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v70 : BitVec 1 := Scalar.cmpi .eq arg0 c0_i32
  let v71 : BitVec 32 := Scalar.extui v70
  let c0_i32_43 : BitVec 32 := 0#32
  let v72 : BitVec 1 := Scalar.cmpi .ne v71 c0_i32_43
  v72

def k0_cond2 (i : grid0.Coords) : BitVec 1 :=
  let arg0 : BitVec 32 := BitVec.ofNat 32 (i 0).val
  let c0_i32_44 : BitVec 32 := 0#32
  let v73 : BitVec 1 := Scalar.cmpi .sgt arg0 c0_i32_44
  let v74 : BitVec 32 := Scalar.extui v73
  let c0_i32_45 : BitVec 32 := 0#32
  let v75 : BitVec 1 := Scalar.cmpi .ne v74 c0_i32_45
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference6Ideal.lean ====
abbrev S8448x1024 : Shape := ⟨2, ![8448, 1024]⟩
abbrev S1x1024 : Shape := ⟨2, ![1, 1024]⟩
abbrev S1024x1024 : Shape := ⟨2, ![1024, 1024]⟩
abbrev S8448x5120 : Shape := ⟨2, ![8448, 5120]⟩
abbrev S512x1024 : Shape := ⟨2, ![512, 1024]⟩
abbrev S_ : Shape := ⟨0, ![]⟩
abbrev S8448 : Shape := ⟨1, ![8448]⟩
abbrev S8448x1 : Shape := ⟨2, ![8448, 1]⟩
abbrev S1024 : Shape := ⟨1, ![1024]⟩
abbrev S8448x512 : Shape := ⟨2, ![8448, 512]⟩

abbrev nBuf : Space → Nat
  | .hbm => 108
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1x1024, .f32⟩
  | .hbm, ⟨3, _⟩ => ⟨S1024x1024, .bf16⟩
  | .hbm, ⟨4, _⟩ => ⟨S8448x5120, .bf16⟩
  | .hbm, ⟨5, _⟩ => ⟨S8448x1024, .bf16⟩
  | .hbm, ⟨6, _⟩ => ⟨S8448x1024, .bf16⟩
  | .hbm, ⟨7, _⟩ => ⟨S512x1024, .bf16⟩
  | .hbm, ⟨8, _⟩ => ⟨S512x1024, .bf16⟩
  | .hbm, ⟨9, _⟩ => ⟨S8448x1024, .bf16⟩
  | .hbm, ⟨10, _⟩ => ⟨S8448x1024, .f32⟩
  | .hbm, ⟨11, _⟩ => ⟨S8448x1024, .bf16⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S8448x1, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S_, .f32⟩
  | .hbm, ⟨40, _⟩ => ⟨S8448, .f32⟩
  | .hbm, ⟨41, _⟩ => ⟨S8448x1, .f32⟩
  | .hbm, ⟨42, _⟩ => ⟨S8448x1024, .f32⟩
  | .hbm, ⟨43, _⟩ => ⟨S8448x1024, .f32⟩
  | .hbm, ⟨44, _⟩ => ⟨S8448x1, .f32⟩
  | .hbm, ⟨45, _⟩ => ⟨S_, .f32⟩
  | .hbm, ⟨46, _⟩ => ⟨S8448x1, .f32⟩
  | .hbm, ⟨47, _⟩ => ⟨S8448x1, .f32⟩
  | .hbm, ⟨48, _⟩ => ⟨S_, .f32⟩
  | .hbm, ⟨49, _⟩ => ⟨S8448, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S8448x1024, .f32⟩
  | .hbm, ⟨54, _⟩ => ⟨S8448x1024, .f32⟩
  | .hbm, ⟨55, _⟩ => ⟨S8448x1024, .f32⟩
  | .hbm, ⟨56, _⟩ => ⟨S8448x1024, .f32⟩
  | .hbm, ⟨57, _⟩ => ⟨S1024x1024, .f32⟩
  | .hbm, ⟨58, _⟩ => ⟨S8448x1024, .f32⟩
  | .hbm, ⟨59, _⟩ => ⟨S8448x1024, .f32⟩
  | .hbm, ⟨60, _⟩ => ⟨S_, .f32⟩
  | .hbm, ⟨61, _⟩ => ⟨S8448x1024, .f32⟩
  | .hbm, ⟨62, _⟩ => ⟨S8448x1024, .f32⟩
  | .hbm, ⟨63, _⟩ => ⟨S_, .f32⟩
  | .hbm, ⟨64, _⟩ => ⟨S8448x1024, .f32⟩
  | .hbm, ⟨65, _⟩ => ⟨S8448x1024, .f32⟩
  | .hbm, ⟨66, _⟩ => ⟨S_, .f32⟩
  | .hbm, ⟨67, _⟩ => ⟨S8448x1024, .f32⟩
  | .hbm, ⟨68, _⟩ => ⟨S8448x1024, .f32⟩
  | .hbm, ⟨69, _⟩ => ⟨S8448x1024, .f32⟩
  | .hbm, ⟨70, _⟩ => ⟨S8448x1024, .f32⟩
  | .hbm, ⟨71, _⟩ => ⟨S8448x1024, .f32⟩
  | .hbm, ⟨72, _⟩ => ⟨S8448x1024, .f32⟩
  | .hbm, ⟨73, _⟩ => ⟨S_, .f32⟩
  | .hbm, ⟨74, _⟩ => ⟨S8448x1024, .f32⟩
  | .hbm, ⟨75, _⟩ => ⟨S8448x1024, .f32⟩
  | .hbm, ⟨76, _⟩ => ⟨S_, .f32⟩
  | .hbm, ⟨77, _⟩ => ⟨S8448x1024, .f32⟩
  | .hbm, ⟨78, _⟩ => ⟨S8448x1024, .f32⟩
  | .hbm, ⟨79, _⟩ => ⟨S_, .f32⟩
  | .hbm, ⟨80, _⟩ => ⟨S8448x1024, .f32⟩
  | .hbm, ⟨81, _⟩ => ⟨S8448x1024, .f32⟩
  | .hbm, ⟨82, _⟩ => ⟨S8448x1024, .f32⟩
  | .hbm, ⟨83, _⟩ => ⟨S8448x1024, .f32⟩
  | .hbm, ⟨84, _⟩ => ⟨S8448x1024, .f32⟩
  | .hbm, ⟨85, _⟩ => ⟨S8448x1024, .f32⟩
  | .hbm, ⟨86, _⟩ => ⟨S8448x1024, .f32⟩
  | .hbm, ⟨87, _⟩ => ⟨S8448x1024, .f32⟩
  | .hbm, ⟨88, _⟩ => ⟨S8448x1024, .f32⟩
  | .hbm, ⟨89, _⟩ => ⟨S8448x1024, .f32⟩
  | .hbm, ⟨90, _⟩ => ⟨S8448x1024, .f32⟩
  | .hbm, ⟨91, _⟩ => ⟨S8448x1024, .f32⟩
  | .hbm, ⟨92, _⟩ => ⟨S8448x1024, .f32⟩
  | .hbm, ⟨93, _⟩ => ⟨S_, .f32⟩
  | .hbm, ⟨94, _⟩ => ⟨S8448x512, .f32⟩
  | .hbm, ⟨95, _⟩ => ⟨S512x1024, .f32⟩
  | .hbm, ⟨96, _⟩ => ⟨S8448x1024, .f32⟩
  | .hbm, ⟨97, _⟩ => ⟨S8448x512, .f32⟩
  | .hbm, ⟨98, _⟩ => ⟨S512x1024, .f32⟩
  | .hbm, ⟨99, _⟩ => ⟨S8448x1024, .f32⟩
  | .hbm, ⟨100, _⟩ => ⟨S8448x512, .f32⟩
  | .hbm, ⟨101, _⟩ => ⟨S8448x1024, .bf16⟩
  | .hbm, ⟨102, _⟩ => ⟨S8448x1024, .bf16⟩
  | .hbm, ⟨103, _⟩ => ⟨S8448x1024, .bf16⟩
  | .hbm, ⟨104, _⟩ => ⟨S8448x1024, .bf16⟩
  | .hbm, ⟨105, _⟩ => ⟨S8448x1024, .bf16⟩
  | .hbm, ⟨106, _⟩ => ⟨S8448x512, .bf16⟩
  | .hbm, ⟨107, _⟩ => ⟨S8448x512, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== Kernel7.lean ====
abbrev S8448x1024 : Shape := ⟨2, ![8448, 1024]⟩
abbrev S1x1024 : Shape := ⟨2, ![1, 1024]⟩
abbrev S1024x5632 : Shape := ⟨2, ![1024, 5632]⟩
abbrev S8448x5632 : Shape := ⟨2, ![8448, 5632]⟩
abbrev S768x1024 : Shape := ⟨2, ![768, 1024]⟩
abbrev S1024x1408 : Shape := ⟨2, ![1024, 1408]⟩
abbrev S768x1408 : Shape := ⟨2, ![768, 1408]⟩
abbrev S768 : Shape := ⟨1, ![768]⟩
abbrev S768x1 : Shape := ⟨2, ![768, 1]⟩

abbrev nBuf : Space → Nat
  | .hbm => 5
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x5632, .bf16⟩
  | .hbm, ⟨3, _⟩ => ⟨S8448x5632, .bf16⟩
  | .hbm, ⟨4, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S768x1408, .bf16⟩
  | .local _ .vmem, ⟨6, _⟩ => ⟨S768x1408, .bf16⟩
  | .local _ .vmem, ⟨7, _⟩ => ⟨S768x1024, .bf16⟩
  | .local _ .vmem, ⟨8, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![11, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S8448x1024 : Shape := ⟨2, ![8448, 1024]⟩
abbrev S1x1024 : Shape := ⟨2, ![1, 1024]⟩
abbrev S1024x5632 : Shape := ⟨2, ![1024, 5632]⟩
abbrev S_ : Shape := ⟨0, ![]⟩
abbrev S8448 : Shape := ⟨1, ![8448]⟩
abbrev S8448x1 : Shape := ⟨2, ![8448, 1]⟩
abbrev S8448x5632 : Shape := ⟨2, ![8448, 5632]⟩

abbrev nBuf : Space → Nat
  | .hbm => 22
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x5632, .bf16⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S1024x5632, .f32⟩
  | .hbm, ⟨19, _⟩ => ⟨S8448x5632, .f32⟩
  | .hbm, ⟨20, _⟩ => ⟨S8448x5632, .bf16⟩
  | .hbm, ⟨21, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S8448x5632 : Shape := ⟨2, ![8448, 5632]⟩
abbrev S3x5632 : Shape := ⟨2, ![3, 5632]⟩
abbrev S128x5632 : Shape := ⟨2, ![128, 5632]⟩
abbrev S16x5632 : Shape := ⟨2, ![16, 5632]⟩
abbrev S128x256 : Shape := ⟨2, ![128, 256]⟩
abbrev S1x256 : Shape := ⟨2, ![1, 256]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S3x5632, .f32⟩
  | .hbm, ⟨2, _⟩ => ⟨S8448x5632, .bf16⟩
  | .local _ .vmem, ⟨0, _⟩ => ⟨S128x5632, .bf16⟩
  | .local _ .vmem, ⟨1, _⟩ => ⟨S128x5632, .bf16⟩
  | .local _ .vmem, ⟨2, _⟩ => ⟨S16x5632, .bf16⟩
  | .local _ .vmem, ⟨3, _⟩ => ⟨S16x5632, .bf16⟩
  | .local _ .vmem, ⟨4, _⟩ => ⟨S3x5632, .f32⟩
  | .local _ .vmem, ⟨5, _⟩ => ⟨S128x5632, .bf16⟩
  | .local _ .vmem, ⟨6, _⟩ => ⟨S128x5632, .bf16⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c527_i32 : BitVec 32 := 527#32
  let v2 : BitVec 32 := Scalar.minsi v1 c527_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8448x5632 : Shape := ⟨2, ![8448, 5632]⟩
abbrev S3x5632 : Shape := ⟨2, ![3, 5632]⟩
abbrev S_ : Shape := ⟨0, ![]⟩
abbrev S1x5632 : Shape := ⟨2, ![1, 5632]⟩
abbrev S2x5632 : Shape := ⟨2, ![2, 5632]⟩
abbrev S8450x5632 : Shape := ⟨2, ![8450, 5632]⟩
abbrev S5632 : Shape := ⟨1, ![5632]⟩

abbrev nBuf : Space → Nat
  | .hbm => 51
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S3x5632, .f32⟩
  | .hbm, ⟨2, _⟩ => ⟨S_, .f32⟩
  | .hbm, ⟨3, _⟩ => ⟨S8448x5632, .f32⟩
  | .hbm, ⟨4, _⟩ => ⟨S_, .f32⟩
  | .hbm, ⟨5, _⟩ => ⟨S1x5632, .f32⟩
  | .hbm, ⟨6, _⟩ => ⟨S_, .f32⟩
  | .hbm, ⟨7, _⟩ => ⟨S2x5632, .f32⟩
  | .hbm, ⟨8, _⟩ => ⟨S8450x5632, .f32⟩
  | .hbm, ⟨9, _⟩ => ⟨S_, .f32⟩
  | .hbm, ⟨10, _⟩ => ⟨S2x5632, .f32⟩
  | .hbm, ⟨11, _⟩ => ⟨S1x5632, .f32⟩
  | .hbm, ⟨12, _⟩ => ⟨S5632, .f32⟩
  | .hbm, ⟨13, _⟩ => ⟨S8448x5632, .f32⟩
  | .hbm, ⟨14, _⟩ => ⟨S1x5632, .f32⟩
  | .hbm, ⟨15, _⟩ => ⟨S8448x5632, .f32⟩
  | .hbm, ⟨16, _⟩ => ⟨S8448x5632, .f32⟩
  | .hbm, ⟨17, _⟩ => ⟨S8448x5632, .f32⟩
  | .hbm, ⟨18, _⟩ => ⟨S8448x5632, .f32⟩
  | .hbm, ⟨19, _⟩ => ⟨S1x5632, .f32⟩
  | .hbm, ⟨20, _⟩ => ⟨S5632, .f32⟩
  | .hbm, ⟨21, _⟩ => ⟨S8448x5632, .f32⟩
  | .hbm, ⟨22, _⟩ => ⟨S1x5632, .f32⟩
  | .hbm, ⟨23, _⟩ => ⟨S8448x5632, .f32⟩
  | .hbm, ⟨24, _⟩ => ⟨S8448x5632, .f32⟩
  | .hbm, ⟨25, _⟩ => ⟨S8448x5632, .f32⟩
  | .hbm, ⟨26, _⟩ => ⟨S1x5632, .f32⟩
  | .hbm, ⟨27, _⟩ => ⟨S5632, .f32⟩
  | .hbm, ⟨28, _⟩ => ⟨S8448x5632, .f32⟩
  | .hbm, ⟨29, _⟩ => ⟨S1x5632, .f32⟩
  | .hbm, ⟨30, _⟩ => ⟨S8448x5632, .f32⟩
  | .hbm, ⟨31, _⟩ => ⟨S8448x5632, .f32⟩
  | .hbm, ⟨32, _⟩ => ⟨S8448x5632, .f32⟩
  | .hbm, ⟨33, _⟩ => ⟨S8448x5632, .f32⟩
  | .hbm, ⟨34, _⟩ => ⟨S8448x5632, .f32⟩
  | .hbm, ⟨35, _⟩ => ⟨S8448x5632, .f32⟩
  | .hbm, ⟨36, _⟩ => ⟨S_, .f32⟩
  | .hbm, ⟨37, _⟩ => ⟨S8450x5632, .f32⟩
  | .hbm, ⟨38, _⟩ => ⟨S8448x5632, .f32⟩
  | .hbm, ⟨39, _⟩ => ⟨S8448x5632, .f32⟩
  | .hbm, ⟨40, _⟩ => ⟨S_, .f32⟩
  | .hbm, ⟨41, _⟩ => ⟨S8450x5632, .f32⟩
  | .hbm, ⟨42, _⟩ => ⟨S8450x5632, .f32⟩
  | .hbm, ⟨43, _⟩ => ⟨S8448x5632, .f32⟩
  | .hbm, ⟨44, _⟩ => ⟨S8448x5632, .f32⟩
  | .hbm, ⟨45, _⟩ => ⟨S_, .f32⟩
  | .hbm, ⟨46, _⟩ => ⟨S8450x5632, .f32⟩
  | .hbm, ⟨47, _⟩ => ⟨S8450x5632, .f32⟩
  | .hbm, ⟨48, _⟩ => ⟨S2x5632, .f32⟩
  | .hbm, ⟨49, _⟩ => ⟨S8448x5632, .f32⟩
  | .hbm, ⟨50, _⟩ => ⟨S8448x5632, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Kernel9.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8448x512 : Shape := ⟨2, ![8448, 512]⟩
abbrev S8448x1024 : Shape := ⟨2, ![8448, 1024]⟩
abbrev S512x1024 : Shape := ⟨2, ![512, 1024]⟩
abbrev S768x512 : Shape := ⟨2, ![768, 512]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S512x1024, .f32⟩
  | .local _ .vmem, ⟨0, _⟩ => ⟨S768x512, .bf16⟩
  | .local _ .vmem, ⟨1, _⟩ => ⟨S768x512, .bf16⟩
  | .local _ .vmem, ⟨2, _⟩ => ⟨S768x1024, .bf16⟩
  | .local _ .vmem, ⟨3, _⟩ => ⟨S768x1024, .bf16⟩
  | .local _ .vmem, ⟨4, _⟩ => ⟨S512x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8448x512 : Shape := ⟨2, ![8448, 512]⟩
abbrev S8448x1024 : Shape := ⟨2, ![8448, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S_, .f32⟩
  | .hbm, ⟨3, _⟩ => ⟨S512x1024, .f32⟩
  | .hbm, ⟨4, _⟩ => ⟨S8448x512, .f32⟩
  | .hbm, ⟨5, _⟩ => ⟨S8448x1024, .f32⟩
  | .hbm, ⟨6, _⟩ => ⟨S8448x1024, .f32⟩
  | .hbm, ⟨7, _⟩ => ⟨S1024x512, .f32⟩
  | .hbm, ⟨8, _⟩ => ⟨S512x1024, .f32⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8448x512 : Shape := ⟨2, ![8448, 512]⟩
abbrev S8448x5120 : Shape := ⟨2, ![8448, 5120]⟩
abbrev S8448x1024 : Shape := ⟨2, ![8448, 1024]⟩
abbrev S512x1024 : Shape := ⟨2, ![512, 1024]⟩
abbrev S1024x1024 : Shape := ⟨2, ![1024, 1024]⟩
abbrev S1x1024 : Shape := ⟨2, ![1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 24
  | .smem => 0
  | _ => 0

abbrev bufTy : (tb : Table) → Fin (tcTables nBuf tb) → BufTy
  | .hbm, ⟨0, _⟩ => ⟨S8448x512, .bf16⟩
  | .hbm, ⟨1, _⟩ => ⟨S8448x512, .bf16⟩
  | .hbm, ⟨2, _⟩ => ⟨S8448x5120, .bf16⟩
  | .hbm, ⟨3, _⟩ => ⟨S8448x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S8448x1024, .bf16⟩
  | .hbm, ⟨9, _⟩ => ⟨S8448x1024, .bf16⟩
  | .hbm, ⟨10, _⟩ => ⟨S8448x1024, .bf16⟩
  | .hbm, ⟨11, _⟩ => ⟨S8448x1024, .f32⟩
  | .hbm, ⟨12, _⟩ => ⟨S8448x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference11Ideal.lean ====
abbrev S8448x512 : Shape := ⟨2, ![8448, 512]⟩
abbrev S8448x5120 : Shape := ⟨2, ![8448, 5120]⟩
abbrev S8448x1024 : Shape := ⟨2, ![8448, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩

abbrev nBuf : Space → Nat
  | .hbm => 58
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x512, .bf16⟩
  | .hbm, ⟨2, _⟩ => ⟨S8448x5120, .bf16⟩
  | .hbm, ⟨3, _⟩ => ⟨S8448x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S8448x1024, .bf16⟩
  | .hbm, ⟨9, _⟩ => ⟨S8448x1024, .f32⟩
  | .hbm, ⟨10, _⟩ => ⟨S8448x1024, .bf16⟩
  | .hbm, ⟨11, _⟩ => ⟨S8448x1024, .f32⟩
  | .hbm, ⟨12, _⟩ => ⟨S8448x512, .f32⟩
  | .hbm, ⟨13, _⟩ => ⟨S512x1024, .f32⟩
  | .hbm, ⟨14, _⟩ => ⟨S8448x1024, .f32⟩
  | .hbm, ⟨15, _⟩ => ⟨S8448x512, .f32⟩
  | .hbm, ⟨16, _⟩ => ⟨S512x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448x1024, .f32⟩
  | .hbm, ⟨22, _⟩ => ⟨S8448x1024, .f32⟩
  | .hbm, ⟨23, _⟩ => ⟨S_, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S8448x1024, .f32⟩
  | .hbm, ⟨31, _⟩ => ⟨S8448x1024, .f32⟩
  | .hbm, ⟨32, _⟩ => ⟨S_, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S1024x1024, .f32⟩
  | .hbm, ⟨38, _⟩ => ⟨S8448x1024, .f32⟩
  | .hbm, ⟨39, _⟩ => ⟨S8448x1024, .bf16⟩
  | .hbm, ⟨40, _⟩ => ⟨S8448x1024, .bf16⟩
  | .hbm, ⟨41, _⟩ => ⟨S8448x1024, .bf16⟩
  | .hbm, ⟨42, _⟩ => ⟨S8448x1024, .f32⟩
  | .hbm, ⟨43, _⟩ => ⟨S_, .f32⟩
  | .hbm, ⟨44, _⟩ => ⟨S8448, .f32⟩
  | .hbm, ⟨45, _⟩ => ⟨S8448x1, .f32⟩
  | .hbm, ⟨46, _⟩ => ⟨S_, .f32⟩
  | .hbm, ⟨47, _⟩ => ⟨S8448x1, .f32⟩
  | .hbm, ⟨48, _⟩ => ⟨S8448x1, .f32⟩
  | .hbm, ⟨49, _⟩ => ⟨S_, .f32⟩
  | .hbm, ⟨50, _⟩ => ⟨S8448x1, .f32⟩
  | .hbm, ⟨51, _⟩ => ⟨S8448x1, .f32⟩
  | .hbm, ⟨52, _⟩ => ⟨S8448x1, .f32⟩
  | .hbm, ⟨53, _⟩ => ⟨S8448x1024, .f32⟩
  | .hbm, ⟨54, _⟩ => ⟨S8448x1024, .f32⟩
  | .hbm, ⟨55, _⟩ => ⟨S8448x1024, .f32⟩
  | .hbm, ⟨56, _⟩ => ⟨S8448x1024, .f32⟩
  | .hbm, ⟨57, _⟩ => ⟨S8448x1024, .f32⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel12.lean ====
abbrev S8448x2816 : Shape := ⟨2, ![8448, 2816]⟩
abbrev S2816x1024 : Shape := ⟨2, ![2816, 1024]⟩
abbrev S8448x1024 : Shape := ⟨2, ![8448, 1024]⟩
abbrev S1x1024 : Shape := ⟨2, ![1, 1024]⟩
abbrev S8192x1024 : Shape := ⟨2, ![8192, 1024]⟩
abbrev S8x128 : Shape := ⟨2, ![8, 128]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 8
  | .vmem => 13
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S1x1024, .f32⟩
  | .hbm, ⟨4, _⟩ => ⟨S8192x1024, .f32⟩
  | .hbm, ⟨5, _⟩ => ⟨S8448x1024, .f32⟩
  | .hbm, ⟨6, _⟩ => ⟨S8448x1024, .f32⟩
  | .hbm, ⟨7, _⟩ => ⟨S8x128, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x128, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference12Ideal.lean ====
abbrev S8448x2816 : Shape := ⟨2, ![8448, 2816]⟩
abbrev S2816x1024 : Shape := ⟨2, ![2816, 1024]⟩
abbrev S8448x1024 : Shape := ⟨2, ![8448, 1024]⟩
abbrev S1x1024 : Shape := ⟨2, ![1, 1024]⟩
abbrev S8192x1024 : Shape := ⟨2, ![8192, 1024]⟩
abbrev S_ : Shape := ⟨0, ![]⟩
abbrev S8448 : Shape := ⟨1, ![8448]⟩
abbrev S8448x1 : Shape := ⟨2, ![8448, 1]⟩
abbrev S8192 : Shape := ⟨1, ![8192]⟩
abbrev S8x128 : Shape := ⟨2, ![8, 128]⟩

abbrev nBuf : Space → Nat
  | .hbm => 56
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S1x1024, .f32⟩
  | .hbm, ⟨4, _⟩ => ⟨S8192x1024, .f32⟩
  | .hbm, ⟨5, _⟩ => ⟨S8448x2816, .f32⟩
  | .hbm, ⟨6, _⟩ => ⟨S2816x1024, .f32⟩
  | .hbm, ⟨7, _⟩ => ⟨S8448x1024, .f32⟩
  | .hbm, ⟨8, _⟩ => ⟨S8448x1024, .f32⟩
  | .hbm, ⟨9, _⟩ => ⟨S_, .f32⟩
  | .hbm, ⟨10, _⟩ => ⟨S8448, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8448x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S_, .f32⟩
  | .hbm, ⟨55, _⟩ => ⟨S8x128, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== Kernel13.lean ====
abbrev S8448x5632 : Shape := ⟨2, ![8448, 5632]⟩
abbrev S3x5632 : Shape := ⟨2, ![3, 5632]⟩
abbrev S1x5632 : Shape := ⟨2, ![1, 5632]⟩
abbrev S8448x2816 : Shape := ⟨2, ![8448, 2816]⟩
abbrev S128x5632 : Shape := ⟨2, ![128, 5632]⟩
abbrev S16x5632 : Shape := ⟨2, ![16, 5632]⟩
abbrev S128x2816 : Shape := ⟨2, ![128, 2816]⟩
abbrev S128x256 : Shape := ⟨2, ![128, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S8448x5632, .bf16⟩
  | .hbm, ⟨1, _⟩ => ⟨S3x5632, .f32⟩
  | .hbm, ⟨2, _⟩ => ⟨S1x5632, .f32⟩
  | .hbm, ⟨3, _⟩ => ⟨S8448x2816, .bf16⟩
  | .local _ .vmem, ⟨0, _⟩ => ⟨S128x5632, .bf16⟩
  | .local _ .vmem, ⟨1, _⟩ => ⟨S128x5632, .bf16⟩
  | .local _ .vmem, ⟨2, _⟩ => ⟨S16x5632, .bf16⟩
  | .local _ .vmem, ⟨3, _⟩ => ⟨S16x5632, .bf16⟩
  | .local _ .vmem, ⟨4, _⟩ => ⟨S3x5632, .f32⟩
  | .local _ .vmem, ⟨5, _⟩ => ⟨S1x5632, .f32⟩
  | .local _ .vmem, ⟨6, _⟩ => ⟨S128x2816, .bf16⟩
  | .local _ .vmem, ⟨7, _⟩ => ⟨S128x2816, .bf16⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S8448x5632 : Shape := ⟨2, ![8448, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S8450x5632 : Shape := ⟨2, ![8450, 5632]⟩
abbrev S5632 : Shape := ⟨1, ![5632]⟩
abbrev S8448x2816 : Shape := ⟨2, ![8448, 2816]⟩

abbrev nBuf : Space → Nat
  | .hbm => 50
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S3x5632, .f32⟩
  | .hbm, ⟨2, _⟩ => ⟨S1x5632, .f32⟩
  | .hbm, ⟨3, _⟩ => ⟨S8448x5632, .f32⟩
  | .hbm, ⟨4, _⟩ => ⟨S_, .f32⟩
  | .hbm, ⟨5, _⟩ => ⟨S2x5632, .f32⟩
  | .hbm, ⟨6, _⟩ => ⟨S8450x5632, .f32⟩
  | .hbm, ⟨7, _⟩ => ⟨S1x5632, .f32⟩
  | .hbm, ⟨8, _⟩ => ⟨S5632, .f32⟩
  | .hbm, ⟨9, _⟩ => ⟨S8448x5632, .f32⟩
  | .hbm, ⟨10, _⟩ => ⟨S1x5632, .f32⟩
  | .hbm, ⟨11, _⟩ => ⟨S8448x5632, .f32⟩
  | .hbm, ⟨12, _⟩ => ⟨S8448x5632, .f32⟩
  | .hbm, ⟨13, _⟩ => ⟨S8448x5632, .f32⟩
  | .hbm, ⟨14, _⟩ => ⟨S8448x5632, .f32⟩
  | .hbm, ⟨15, _⟩ => ⟨S1x5632, .f32⟩
  | .hbm, ⟨16, _⟩ => ⟨S5632, .f32⟩
  | .hbm, ⟨17, _⟩ => ⟨S8448x5632, .f32⟩
  | .hbm, ⟨18, _⟩ => ⟨S1x5632, .f32⟩
  | .hbm, ⟨19, _⟩ => ⟨S8448x5632, .f32⟩
  | .hbm, ⟨20, _⟩ => ⟨S8448x5632, .f32⟩
  | .hbm, ⟨21, _⟩ => ⟨S8448x5632, .f32⟩
  | .hbm, ⟨22, _⟩ => ⟨S1x5632, .f32⟩
  | .hbm, ⟨23, _⟩ => ⟨S5632, .f32⟩
  | .hbm, ⟨24, _⟩ => ⟨S8448x5632, .f32⟩
  | .hbm, ⟨25, _⟩ => ⟨S1x5632, .f32⟩
  | .hbm, ⟨26, _⟩ => ⟨S8448x5632, .f32⟩
  | .hbm, ⟨27, _⟩ => ⟨S8448x5632, .f32⟩
  | .hbm, ⟨28, _⟩ => ⟨S8448x5632, .f32⟩
  | .hbm, ⟨29, _⟩ => ⟨S8448x2816, .f32⟩
  | .hbm, ⟨30, _⟩ => ⟨S8448x2816, .f32⟩
  | .hbm, ⟨31, _⟩ => ⟨S8448x2816, .f32⟩
  | .hbm, ⟨32, _⟩ => ⟨S8448x2816, .f32⟩
  | .hbm, ⟨33, _⟩ => ⟨S_, .f32⟩
  | .hbm, ⟨34, _⟩ => ⟨S8448x2816, .f32⟩
  | .hbm, ⟨35, _⟩ => ⟨S8448x2816, .f32⟩
  | .hbm, ⟨36, _⟩ => ⟨S8448x2816, .f32⟩
  | .hbm, ⟨37, _⟩ => ⟨S_, .f32⟩
  | .hbm, ⟨38, _⟩ => ⟨S8448x2816, .f32⟩
  | .hbm, ⟨39, _⟩ => ⟨S8448x2816, .f32⟩
  | .hbm, ⟨40, _⟩ => ⟨S8448x2816, .f32⟩
  | .hbm, ⟨41, _⟩ => ⟨S_, .f32⟩
  | .hbm, ⟨42, _⟩ => ⟨S8448x2816, .f32⟩
  | .hbm, ⟨43, _⟩ => ⟨S8448x2816, .f32⟩
  | .hbm, ⟨44, _⟩ => ⟨S_, .f32⟩
  | .hbm, ⟨45, _⟩ => ⟨S8448x2816, .f32⟩
  | .hbm, ⟨46, _⟩ => ⟨S8448x2816, .f32⟩
  | .hbm, ⟨47, _⟩ => ⟨S8448x2816, .f32⟩
  | .hbm, ⟨48, _⟩ => ⟨S8448x2816, .f32⟩
  | .hbm, ⟨49, _⟩ => ⟨S8448x2816, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== Kernel14.lean ====
abbrev S8448x1024 : Shape := ⟨2, ![8448, 1024]⟩
abbrev S1x1024 : Shape := ⟨2, ![1, 1024]⟩
abbrev S1024x5120 : Shape := ⟨2, ![1024, 5120]⟩
abbrev S8448x5120 : Shape := ⟨2, ![8448, 5120]⟩
abbrev S768x1024 : Shape := ⟨2, ![768, 1024]⟩
abbrev S1024x1280 : Shape := ⟨2, ![1024, 1280]⟩
abbrev S768x1280 : Shape := ⟨2, ![768, 1280]⟩
abbrev S768 : Shape := ⟨1, ![768]⟩
abbrev S768x1 : Shape := ⟨2, ![768, 1]⟩

abbrev nBuf : Space → Nat
  | .hbm => 5
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x5120, .bf16⟩
  | .hbm, ⟨3, _⟩ => ⟨S8448x5120, .bf16⟩
  | .hbm, ⟨4, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S768x1280, .bf16⟩
  | .local _ .vmem, ⟨6, _⟩ => ⟨S768x1280, .bf16⟩
  | .local _ .vmem, ⟨7, _⟩ => ⟨S768x1024, .bf16⟩
  | .local _ .vmem, ⟨8, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![11, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference14Ideal.lean ====
abbrev S8448x1024 : Shape := ⟨2, ![8448, 1024]⟩
abbrev S1x1024 : Shape := ⟨2, ![1, 1024]⟩
abbrev S1024x5120 : Shape := ⟨2, ![1024, 5120]⟩
abbrev S_ : Shape := ⟨0, ![]⟩
abbrev S8448 : Shape := ⟨1, ![8448]⟩
abbrev S8448x1 : Shape := ⟨2, ![8448, 1]⟩
abbrev S8448x5120 : Shape := ⟨2, ![8448, 5120]⟩

abbrev nBuf : Space → Nat
  | .hbm => 22
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x5120, .bf16⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S1024x5120, .f32⟩
  | .hbm, ⟨19, _⟩ => ⟨S8448x5120, .f32⟩
  | .hbm, ⟨20, _⟩ => ⟨S8448x5120, .bf16⟩
  | .hbm, ⟨21, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel15.lean ====
abbrev S8448x1024 : Shape := ⟨2, ![8448, 1024]⟩
abbrev S1024x128 : Shape := ⟨2, ![1024, 128]⟩
abbrev S1x128 : Shape := ⟨2, ![1, 128]⟩
abbrev S8448x128 : Shape := ⟨2, ![8448, 128]⟩
abbrev S768x1024 : Shape := ⟨2, ![768, 1024]⟩
abbrev S768x128 : Shape := ⟨2, ![768, 128]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x128, .bf16⟩
  | .hbm, ⟨2, _⟩ => ⟨S1x128, .f32⟩
  | .hbm, ⟨3, _⟩ => ⟨S8448x128, .f32⟩
  | .local _ .vmem, ⟨0, _⟩ => ⟨S768x1024, .bf16⟩
  | .local _ .vmem, ⟨1, _⟩ => ⟨S768x1024, .bf16⟩
  | .local _ .vmem, ⟨2, _⟩ => ⟨S1024x128, .bf16⟩
  | .local _ .vmem, ⟨3, _⟩ => ⟨S1x128, .f32⟩
  | .local _ .vmem, ⟨4, _⟩ => ⟨S768x128, .f32⟩
  | .local _ .vmem, ⟨5, _⟩ => ⟨S768x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S8448x1024 : Shape := ⟨2, ![8448, 1024]⟩
abbrev S1024x128 : Shape := ⟨2, ![1024, 128]⟩
abbrev S1x128 : Shape := ⟨2, ![1, 128]⟩
abbrev S8448x128 : Shape := ⟨2, ![8448, 128]⟩
abbrev S_ : Shape := ⟨0, ![]⟩
abbrev S8448 : Shape := ⟨1, ![8448]⟩
abbrev S8448x1 : Shape := ⟨2, ![8448, 1]⟩
abbrev S128 : Shape := ⟨1, ![128]⟩

abbrev nBuf : Space → Nat
  | .hbm => 41
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x128, .bf16⟩
  | .hbm, ⟨2, _⟩ => ⟨S1x128, .f32⟩
  | .hbm, ⟨3, _⟩ => ⟨S8448x1024, .f32⟩
  | .hbm, ⟨4, _⟩ => ⟨S1024x128, .f32⟩
  | .hbm, ⟨5, _⟩ => ⟨S8448x128, .f32⟩
  | .hbm, ⟨6, _⟩ => ⟨S8448x128, .f32⟩
  | .hbm, ⟨7, _⟩ => ⟨S8448x128, .f32⟩
  | .hbm, ⟨8, _⟩ => ⟨S8448x128, .f32⟩
  | .hbm, ⟨9, _⟩ => ⟨S_, .f32⟩
  | .hbm, ⟨10, _⟩ => ⟨S8448x128, .f32⟩
  | .hbm, ⟨11, _⟩ => ⟨S8448x128, .f32⟩
  | .hbm, ⟨12, _⟩ => ⟨S8448x128, .f32⟩
  | .hbm, ⟨13, _⟩ => ⟨S8448x128, .f32⟩
  | .hbm, ⟨14, _⟩ => ⟨S8448x128, .i1⟩
  | .hbm, ⟨15, _⟩ => ⟨S8448x128, .f32⟩
  | .hbm, ⟨16, _⟩ => ⟨S8448x128, .f32⟩
  | .hbm, ⟨17, _⟩ => ⟨S8448x128, .f32⟩
  | .hbm, ⟨18, _⟩ => ⟨S8448x128, .f32⟩
  | .hbm, ⟨19, _⟩ => ⟨S8448x128, .f32⟩
  | .hbm, ⟨20, _⟩ => ⟨S8448x128, .f32⟩
  | .hbm, ⟨21, _⟩ => ⟨S8448x128, .f32⟩
  | .hbm, ⟨22, _⟩ => ⟨S8448x128, .f32⟩
  | .hbm, ⟨23, _⟩ => ⟨S8448x128, .f32⟩
  | .hbm, ⟨24, _⟩ => ⟨S8448, .i32⟩
  | .hbm, ⟨25, _⟩ => ⟨S8448x1, .i32⟩
  | .hbm, ⟨26, _⟩ => ⟨S_, .i32⟩
  | .hbm, ⟨27, _⟩ => ⟨S8448x1, .i32⟩
  | .hbm, ⟨28, _⟩ => ⟨S8448x1, .i1⟩
  | .hbm, ⟨29, _⟩ => ⟨S128, .i32⟩
  | .hbm, ⟨30, _⟩ => ⟨S1x128, .i32⟩
  | .hbm, ⟨31, _⟩ => ⟨S_, .i32⟩
  | .hbm, ⟨32, _⟩ => ⟨S1x128, .i32⟩
  | .hbm, ⟨33, _⟩ => ⟨S1x128, .i1⟩
  | .hbm, ⟨34, _⟩ => ⟨S8448x128, .i1⟩
  | .hbm, ⟨35, _⟩ => ⟨S8448x128, .i1⟩
  | .hbm, ⟨36, _⟩ => ⟨S8448x128, .i1⟩
  | .hbm, ⟨37, _⟩ => ⟨S_, .f32⟩
  | .hbm, ⟨38, _⟩ => ⟨S_, .f32⟩
  | .hbm, ⟨39, _⟩ => ⟨S8448x128, .f32⟩
  | .hbm, ⟨40, _⟩ => ⟨S8448x128, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v17 : Ref sig .tc := ⟨.hbm, 40, rfl⟩

abbrev nD : Nat := 1
abbrev τ : Topo := Topo.v7x

variable {F : FTy → Type} [FloatOps F]
-- ==== Proof.Reals.lean ====
/- Extended reals that are real numbers: sums and quotients of coerced reals, and the constants the programs use. -/
module

public import Idealize.ShloMosaic.Lib.Pipeline.ValueKit
public import Idealize.ShloMosaic.Lib.ReduceAll

@[expose] public section

noncomputable section

namespace Cert.Reals

open Idealize.ShloMosaic

/-- A finite sum of coerced reals is the coerced sum. -/
theorem coe_sum {ι : Type} (s : Finset ι) (f : ι → ℝ) : (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

/-- Two sums of extended reals whose terms are equal. -/
theorem sum_eq {n : ℕ} (f g : Fin n → EReal) (h : ∀ k, f k = g k) : ∑ k, f k = ∑ k, g k :=
  Finset.sum_congr rfl fun k _ => h k

/-- A quotient of reals by a real that is not zero. -/
theorem div_coe_coe (a : ℝ) {b : ℝ} (hb : b ≠ 0) : Ideal.div (a : EReal) (b : EReal) = ((a / b : ℝ) : EReal) := by
  rw [Ideal.div_coe hb, ← EReal.coe_mul, mul_one_div]

/-- The reciprocal root of a positive real. -/
theorem rsqrt_pos {a : ℝ} (ha : 0 < a) : Ideal.rsqrt (a : EReal) = (((Real.sqrt a)⁻¹ : ℝ) : EReal) := by
  rw [Ideal.rsqrt_coe, if_neg (not_lt.mpr ha.le), if_neg ha.ne']

/-- `1024`. -/
theorem c1024 : Ideal.ofBits .f32 0x44800000#32 = ((1024 : ℝ) : EReal) := by
  simp [Ideal.ofBits, Ideal.ieee, -EReal.coe_mul]; norm_num

/-- `-1/2`. -/
theorem cneg_half : Ideal.ofBits .f32 0xBF000000#32 = ((-(1 / 2) : ℝ) : EReal) := by
  simp [Ideal.ofBits, Ideal.ieee, -EReal.coe_mul, -EReal.coe_neg]; norm_num

/-- The norm's small constant is a positive real. -/
theorem ceps : ∃ e : ℝ, 0 < e ∧ Ideal.ofBits .f32 0x358637BD#32 = (e : EReal) := by
  refine ⟨(8796093 : ℝ) * 2 ^ (-43 : ℤ), by norm_num, ?_⟩
  simp [Ideal.ofBits, Ideal.ieee, -EReal.coe_mul]

/-- An extended real whose absolute value is below the infinity is a real. -/
theorem exists_real {x : EReal} (h : max x (-x) < ⊤) : ∃ r : ℝ, x = r := by
  induction x using EReal.rec with
  | bot => simp at h
  | coe r => exact ⟨r, rfl⟩
  | top => simp at h

/-- The infinity's word. -/
theorem cinf : Ideal.ofBits .f32 0x7F800000#32 = ⊤ := by simp [Ideal.ofBits, Ideal.ieee]

/-- An array all of whose absolute values compare below the infinity is an array of reals. -/
theorem reals_of_all {s t u : Shape} {axes : List (Fin s.rank)} [Subsingleton t.Idx] (x y : FVec Ideal s .f32) (hy : ∀ i, y i = ⊤) (init : u.Idx → BitVec 1)
    (h : s.ReducesTo axes t) (hu : 0 < u.numel) (j : t.Idx)
    (e : Host.reduce IntOp.andi (cmpf .olt (Host.absf x) y) init h hu j = 1#1) : ∃ f : s.Idx → ℝ, x = fun i => (f i : EReal) := by
  have hx : ∀ i, ∃ r : ℝ, x i = (r : EReal) := fun i => by
    have h1 := Host.reduce_andi_all _ init h hu j e i
    refine exists_real ?_
    have h2 : Ideal.cmp .olt (max (x i) (-(x i))) (y i) = 1#1 := h1
    rw [hy i] at h2
    by_contra hn
    simp [Ideal.cmp, hn] at h2
  exact ⟨fun i => (hx i).choose, funext fun i => (hx i).choose_spec⟩

end Cert.Reals

end
-- ==== Proof.UpBwd.lean ====
/- The backward call of an RMS norm followed by a product, `dh + r * (dy wᵀ g - y * mean(dy wᵀ g y))` with the gains' gradient
   summed over the row tiles, equals `jax.vjp` of `rms_norm(h, g) @ w` for finite arguments. -/
module

public import proofs.«01_k».proof.Proof.Gen.KernelIdeal.Value
public import proofs.«01_k».proof.Proof.Gen.ReferenceIdeal.Run
public import Idealize.ShloMosaic.Lib.Pipeline.ValueKit
public import proofs.«01_k».proof.Proof.Reals
public import proofs.«01_k».proof.Defs
public import proofs.«01_k».proof.Proof.Gen.Pre_finite
public import proofs.«01_k».proof.Proof.Gen.Kernel
public import proofs.«01_k».proof.Proof.Gen.Kernel2
public import proofs.«01_k».proof.Proof.Gen.Kernel2Ideal
public import proofs.«01_k».proof.Proof.Gen.Reference2Ideal

@[expose] public section

set_option maxRecDepth 16384

noncomputable section

namespace Cert.KernelIdeal.NormBwd

open Idealize.ShloMosaic Idealize.ShloMosaic.TcCoe Idealize.SL.Sem
open Idealize.ShloMosaic.Pipeline (Dat)
open Cert.KernelIdeal Cert.KernelIdeal.Gen

/-! ## One grid point's values at an index -/

theorem fill_zero (j : S768x1024.Idx) : k0_pay1 (F := Ideal) j = 0 := by pointwise [k0_pay1]

theorem part (acc : FVec Ideal S768x1024 .f32) (d : FVec Ideal S768x1408 .bf16) (w : FVec Ideal S1024x1408 .bf16) (j : S768x1024.Idx) :
    k0_pay2 acc d w j = acc j + ∑ k : Fin 1408, d (ix2 (j 0) k) * w (ix2 (j 1) k) := by
  pointwise [k0_pay2]

/-- The reciprocal root mean square of a row, as both programs take it. -/
def rr (X : Fin 1024 → EReal) : EReal :=
  Ideal.rsqrt (Ideal.div (∑ k : Fin 1024, X k * X k) (Ideal.ofBits .f32 0x44800000#32) + Ideal.ofBits .f32 0x358637BD#32)

theorem inv_rms (x : FVec Ideal S768x1024 .f32) (j : S768x1.Idx) : k0_pay3 (F := Ideal) x j = rr fun k => x (ix2 (j 0) k) := by
  pointwise [k0_pay3, rr]

theorem yhat (x : FVec Ideal S768x1024 .f32) (j : S768x1024.Idx) : k0_pay4 (F := Ideal) x j = x j * rr fun k => x (ix2 (j 0) k) := by
  pointwise [k0_pay4, inv_rms]

theorem gain_part (a x : FVec Ideal S768x1024 .f32) (j : S1x1024.Idx) :
    k0_pay5 a x j = ∑ r : Fin 768, a (ix2 r (j 1)) * (x (ix2 r (j 1)) * rr fun k => x (ix2 r k)) := by
  pointwise [k0_pay5, yhat]

theorem gain_step (a x : FVec Ideal S768x1024 .f32) (p : FVec Ideal S1x1024 .f32) (j : S1x1024.Idx) :
    k0_pay7 a x p j = p j + k0_pay5 a x j := by
  pointwise [k0_pay7]

/-- The input's gradient of one row, as the kernel takes it. -/
def kdx (P G X : Fin 1024 → EReal) (q : Fin 1024) : EReal :=
  rr X * (P q * G q - X q * rr X * Ideal.div (∑ k : Fin 1024, P k * G k * (X k * rr X)) (Ideal.ofBits .f32 0x44800000#32))

theorem dh_part (a x : FVec Ideal S768x1024 .f32) (g : FVec Ideal S1x1024 .f32) (d : FVec Ideal S768x1024 .f32) (j : S768x1024.Idx) :
    k0_pay6 a x g d j = d j + kdx (fun k => a (ix2 (j 0) k)) (fun k => g (ix2 0 k)) (fun k => x (ix2 (j 0) k)) (j 1) := by
  pointwise [k0_pay6, yhat, inv_rms, kdx]

/-- An argument's element as an extended real. -/
abbrev el {s : Shape} {φ : FTy} (x : FVec Ideal s φ) (i : s.Idx) : EReal := x i

/-! ## The reference at an index -/

/-- The product `dy wᵀ` at an index. -/
def prod (D : FVec Ideal S8448x5632 .bf16) (W : FVec Ideal S1024x5632 .bf16) (r : Fin 8448) (q : Fin 1024) : EReal :=
  ∑ k : Fin 5632, D (ix2 r k) * W (ix2 q k)

/-- The input's gradient of one row, as the reference takes it. -/
def rdx (P G X : Fin 1024 → EReal) (q : Fin 1024) : EReal :=
  let s : EReal := Ideal.div ((∑ k : Fin 1024, X k * (P k * G k)) * (Ideal.ofBits .f32 0xBF000000#32 * Ideal.div (rr X)
    (Ideal.div (∑ k : Fin 1024, X k * X k) (Ideal.ofBits .f32 0x44800000#32) + Ideal.ofBits .f32 0x358637BD#32))) (Ideal.ofBits .f32 0x44800000#32)
  P q * G q * rr X + X q * s + s * X q

/-- Of real rows the two gradients are one. -/
theorem kdx_eq_rdx (P G X : Fin 1024 → ℝ) (q : Fin 1024) :
    kdx (fun k => P k) (fun k => G k) (fun k => X k) q = rdx (fun k => P k) (fun k => G k) (fun k => X k) q := by
  obtain ⟨e, he, hc⟩ := Reals.ceps
  have hu : 0 < (∑ k : Fin 1024, X k * X k) / 1024 + e := by
    have : 0 ≤ ∑ k : Fin 1024, X k * X k := Finset.sum_nonneg fun k _ => mul_self_nonneg _
    positivity
  generalize hU : (∑ k : Fin 1024, X k * X k) / 1024 + e = u at hu
  have h1 : Ideal.div (∑ k : Fin 1024, (X k : EReal) * (X k : EReal)) (Ideal.ofBits .f32 0x44800000#32) + Ideal.ofBits .f32 0x358637BD#32 = (u : EReal) := by
    rw [hc, Reals.c1024, ← hU]
    simp only [← EReal.coe_mul, ← Reals.coe_sum, ← EReal.coe_add]
    rw [Reals.div_coe_coe _ (by norm_num), ← EReal.coe_add]
  have hr : rr (fun k => (X k : EReal)) = (((Real.sqrt u)⁻¹ : ℝ) : EReal) := by rw [rr, h1, Reals.rsqrt_pos hu]
  have hq : (Real.sqrt u)⁻¹ / u = (Real.sqrt u)⁻¹ * ((Real.sqrt u)⁻¹ * (Real.sqrt u)⁻¹) := by
    rw [← mul_inv, Real.mul_self_sqrt hu.le, div_eq_mul_inv]
  simp only [kdx, rdx, h1, hr]
  simp only [Reals.c1024, Reals.cneg_half, Reals.div_coe_coe _ hu.ne', ← EReal.coe_mul, ← Reals.coe_sum]
  rw [Reals.div_coe_coe _ (by norm_num), Reals.div_coe_coe _ (by norm_num)]
  simp only [← EReal.coe_mul, ← EReal.coe_add, ← EReal.coe_sub]
  rw [EReal.coe_eq_coe_iff, hq]
  generalize (Real.sqrt u)⁻¹ = r
  have hs : ∑ k : Fin 1024, P k * G k * (X k * r) = (∑ k : Fin 1024, X k * (P k * G k)) * r := by
    rw [Finset.sum_mul]; exact Finset.sum_congr rfl fun k _ => by ring
  rw [hs]
  ring

variable (m : (ℓ : Loc nD τ sig) → Buf (Elt Ideal) ℓ)

/-! ## The run's contents -/

/-- The windows' block indices at every grid point. -/
theorem idx : ∀ t : Fin cfg0.N, win0_0.index t = ![t.val / 4, t.val % 4] ∧ win0_1.index t = ![0, t.val % 4] ∧ win0_2.index t = ![t.val / 4, 0]
    ∧ win0_3.index t = ![0, 0] ∧ win0_4.index t = ![t.val / 4, 0] ∧ win0_5.index t = ![t.val / 4, 0] ∧ win0_6.index t = ![0, 0] :=
  (by decide +kernel : ∀ t : Fin grid0.N, _)

theorem acc_reset (c : Dev nD) (t : Fin cfg0.N) (h : t.val % 4 = 0) (j : S768x1024.Idx) :
    (outsAt0 m c t.val t.isLt).2.2 j = 0 + ∑ k : Fin 1408, el (s := S768x1408) (φ := .bf16) (iblk m c 0 t) (ix2 (j 0) k) * el (s := S1024x1408) (φ := .bf16) (iblk m c 1 t) (ix2 (j 1) k) := by
  rw [outsAt0_A m c t h (by omega)]; frame_out; rw [part, fill_zero]

theorem acc_step (c : Dev nD) (t : Fin cfg0.N) (h : ¬t.val % 4 = 0) (j : S768x1024.Idx) :
    (outsAt0 m c t.val t.isLt).2.2 j = (outsAt0 m c (t.val - 1) (by omega)).2.2 j + ∑ k : Fin 1408, el (s := S768x1408) (φ := .bf16) (iblk m c 0 t) (ix2 (j 0) k) * el (s := S1024x1408) (φ := .bf16) (iblk m c 1 t) (ix2 (j 1) k) := by
  by_cases h1 : t.val % 4 = 3
  · by_cases h2 : t.val < 4
    · rw [outsAt0_C m c t h h1 h2 (by omega)]; frame_out; rw [part]; exact congrArg (· + _) (congrFun (Memref.IsWhole.read_unread _ _) j)
    · rw [outsAt0_D m c t h h1 h2 (by omega)]; frame_out; rw [part]; exact congrArg (· + _) (congrFun (Memref.IsWhole.read_unread _ _) j)
  · rw [outsAt0_B m c t h h1]; frame_out; rw [part]; exact congrArg (· + _) (congrFun (Memref.IsWhole.read_unread _ _) j)

theorem dh_out (c : Dev nD) (t : Fin cfg0.N) (h : t.val % 4 = 3) :
    (outsAt0 m c t.val t.isLt).1 = k0_pay6 (F := Ideal) (outsAt0 m c t.val t.isLt).2.2 (iblk m c 2 t) (iblk m c 3 t) (iblk m c 4 t) := by
  by_cases h2 : t.val < 4
  · rw [outsAt0_C m c t (by omega) h h2 (by omega)]; frame_out
  · rw [outsAt0_D m c t (by omega) h h2 (by omega)]; frame_out

/-- At a row tile's last point the accumulator holds the whole product of the tile's rows. -/
theorem acc_full (c : Dev nD) (t : Fin cfg0.N) (h : t.val % 4 = 3) (j : S768x1024.Idx) (r : Fin 8448) (hr : r.val = t.val / 4 * 768 + (j 0).val) :
    (outsAt0 m c t.val t.isLt).2.2 j = prod (m ((c : Thread nD τ).loc main_arg0)) (m ((c : Thread nD τ).loc main_arg1)) r (j 1) := by
  refine (Pipeline.eq_sum_fin_of_reset_step_apply_of_flush (fun n h => (outsAt0 m c n h).2.2) 4 (fun _ => 0) _
    (fun t h j => acc_reset m c t h j) (fun t h j => acc_step m c t h j) t h j).trans ?_
  rw [zero_add]
  refine Fin.sum_mul_add_congr fun s k hl => ?_
  simp only [el]
  blk_point [iblk, V, idx t, idx ⟨_, Pipeline.run_point_lt_of_flush t h s⟩]

/-- The rows' term of the gains' gradient. -/
def gterm (A X : Fin 8448 → Fin 1024 → EReal) (q : Fin 1024) (r : Fin 8448) : EReal := A r q * (X r q * rr (X r))

theorem dg_reset (c : Dev nD) (t : Fin cfg0.N) (h : t.val = 3) :
    (outsAt0 m c t.val t.isLt).2.1 = k0_pay5 (F := Ideal) (outsAt0 m c t.val t.isLt).2.2 (iblk m c 2 t) := by
  rw [outsAt0_C m c t (by omega) (by omega) (by omega) (by omega)]; frame_out

theorem dg_step (c : Dev nD) (t : Fin cfg0.N) (h : t.val % 4 = 3) (h4 : 4 ≤ t.val) :
    (outsAt0 m c t.val t.isLt).2.1 = k0_pay7 (F := Ideal) (outsAt0 m c t.val t.isLt).2.2 (iblk m c 2 t) (outsAt0 m c (t.val - 1) (by omega)).2.1 := by
  rw [outsAt0_D m c t (by omega) (by omega) (by omega) (by omega)]; frame_out

theorem dg_keep (c : Dev nD) (t : Fin cfg0.N) (h : ¬t.val % 4 = 3) (h4 : 0 < t.val) :
    (outsAt0 m c t.val t.isLt).2.1 = (outsAt0 m c (t.val - 1) (by omega)).2.1 := by
  by_cases h0 : t.val % 4 = 0
  · rw [outsAt0_A m c t h0 h]; dsimp only [out0_A_6]
  · rw [outsAt0_B m c t h0 h]; dsimp only [out0_B_6]

/-- The two arrays the norm's gradient is taken at: the product's rows and the norm's input. -/
abbrev A (c : Dev nD) : Fin 8448 → Fin 1024 → EReal := prod (m ((c : Thread nD τ).loc main_arg0)) (m ((c : Thread nD τ).loc main_arg1))
abbrev X (c : Dev nD) (r : Fin 8448) (q : Fin 1024) : EReal := el (s := S8448x1024) (φ := .f32) (m ((c : Thread nD τ).loc main_arg2)) (ix2 r q)

/-- The norm's input at a grid point's row. -/
theorem x_at (c : Dev nD) (t : Fin cfg0.N) (p : Fin 768) (q : Fin 1024) (h : t.val / 4 * 768 + p.val < 8448) :
    el (s := S768x1024) (φ := .f32) (iblk m c 2 t) (ix2 p q) = X m c ⟨t.val / 4 * 768 + p.val, h⟩ q := by
  simp only [el]
  blk_point [iblk, V, idx t]

/-- One row tile's part of the gains' gradient. -/
theorem dg_tile (c : Dev nD) (t : Fin cfg0.N) (h : t.val % 4 = 3) (j : S1x1024.Idx) (hb : ∀ p : Fin 768, t.val / 4 * 768 + p.val < 8448) :
    k0_pay5 (F := Ideal) (outsAt0 m c t.val t.isLt).2.2 (iblk m c 2 t) j = ∑ p : Fin 768, gterm (A m c) (X m c) (j 1) ⟨t.val / 4 * 768 + p.val, hb p⟩ := by
  rw [gain_part]
  refine Finset.sum_congr rfl fun p _ => ?_
  rw [acc_full m c t h (ix2 p (j 1)) ⟨_, hb p⟩ rfl]
  exact congrArg₂ (fun a (b : Fin 1024 → EReal) => _ * (a * rr b)) (x_at m c t p (j 1) (hb p)) (funext fun q => x_at m c t p q (hb p))

/-- What the point before a row tile's last points left stays. -/
theorem dg_back (c : Dev nD) (t u : Fin cfg0.N) (h : ¬t.val % 4 = 3) (h4 : t.val = u.val + 1) :
    (outsAt0 m c t.val t.isLt).2.1 = (outsAt0 m c u.val u.isLt).2.1 := by
  rw [dg_keep m c t h (by omega)]
  congr 2
  simp only [h4, Nat.add_sub_cancel]

/-- The gains' gradient after the row tiles up to the `i`-th. -/
theorem dg_sum (c : Dev nD) (j : S1x1024.Idx) : ∀ (i : ℕ) (t : Fin cfg0.N) (h : t.val = 4 * i + 3) (hb : ∀ (s : Fin (i + 1)) (p : Fin 768), s.val * 768 + p.val < 8448),
    (outsAt0 m c t.val t.isLt).2.1 j = ∑ s : Fin (i + 1), ∑ p : Fin 768, gterm (A m c) (X m c) (j 1) ⟨s.val * 768 + p.val, hb s p⟩
  | 0, t, h, hb => by
    have e : t.val / 4 = 0 := by omega
    rw [dg_reset m c t h, dg_tile m c t (by omega) j (fun p => by rw [e]; exact hb 0 p), Fin.sum_univ_one]
    refine Finset.sum_congr rfl fun p _ => congrArg _ (Fin.ext ?_)
    show t.val / 4 * 768 + p.val = _
    rw [e]; rfl
  | i + 1, t, h, hb => by
    have e : t.val / 4 = i + 1 := by omega
    have hN := t.isLt
    rw [dg_step m c t (by omega) (by omega), gain_step,
      dg_tile m c t (by omega) j (fun p => by rw [e]; exact hb (Fin.last (i + 1)) p), Fin.sum_univ_castSucc (n := i + 1)]
    refine congrArg₂ (fun a b : EReal => a + b) ?_ ?_
    · refine Eq.trans ?_ (dg_sum c j i ⟨t.val - 4, by omega⟩ (by show t.val - 4 = _; omega) (fun s p => hb s.castSucc p))
      refine congrFun ?_ j
      rw [dg_back m c ⟨t.val - 1, by omega⟩ ⟨t.val - 2, by omega⟩ (by show ¬(t.val - 1) % 4 = 3; omega) (by show t.val - 1 = t.val - 2 + 1; omega),
        dg_back m c ⟨t.val - 2, by omega⟩ ⟨t.val - 3, by omega⟩ (by show ¬(t.val - 2) % 4 = 3; omega) (by show t.val - 2 = t.val - 3 + 1; omega),
        dg_back m c ⟨t.val - 3, by omega⟩ ⟨t.val - 4, by omega⟩ (by show ¬(t.val - 3) % 4 = 3; omega) (by show t.val - 3 = t.val - 4 + 1; omega)]
    · refine Finset.sum_congr rfl fun p _ => congrArg _ (Fin.ext ?_)
      show t.val / 4 * 768 + p.val = (i + 1) * 768 + p.val
      rw [e]

theorem dg_all (c : Dev nD) (j : S1x1024.Idx) (t : Fin cfg0.N) (h : t.val = 43) :
    (outsAt0 m c t.val t.isLt).2.1 j = ∑ r : Fin 8448, gterm (A m c) (X m c) (j 1) r := by
  rw [dg_sum m c j 10 t h (fun s p => by have := s.isLt; have := p.isLt; omega)]
  exact Fin.sum_mul_add_congr (fun s k hl => rfl)

/-- The gains' gradient after the run. -/
theorem dg_final (c : Dev nD) : (dats m 0 c).arrAt 6 (cfgs 0).N
    = fun j : S1x1024.Idx => ∑ r : Fin 8448, gterm (A m c) (X m c) (j 1) r := by
  refine (dats m 0 c).arrAt_eq_of_covers 6 _ (by decide +kernel) fun t hf y => ?_
  blk_simp
  have hN : t.val < 44 := t.isLt
  have ht : t.val = 43 := by have := (flush0_6 t).mp hf; omega
  rw [after0_6, dg_all m c _ t ht]
  refine congrArg (fun q => ∑ r : Fin 8448, gterm (A m c) (X m c) q r) ?_
  refine Fin.ext ?_
  have e : ((win0_6.blk t).view.emb y 1 : Fin 1024).val = win0_6.index t 1 * 1024 + 1 * (y 1).val := rfl
  rw [e, (idx t).2.2.2.2.2.2]
  show (y 1).val = 0 * 1024 + 1 * (y 1).val
  omega

/-- One row tile of the input's gradient. -/
theorem dh_tile (c : Dev nD) (t : Fin cfg0.N) (h : t.val % 4 = 3) (y : S768x1024.Idx) (i : S8448x1024.Idx)
    (h0 : (i 0).val = t.val / 4 * 768 + (y 0).val) (h1 : (y 1).val = (i 1).val) :
    (outsAt0 m c t.val t.isLt).1 y = el (s := S8448x1024) (φ := .f32) (m ((c : Thread nD τ).loc main_arg4)) i
      + kdx (A m c (i 0)) (fun k => el (s := S1x1024) (φ := .f32) (m ((c : Thread nD τ).loc main_arg3)) (ix2 0 k)) (X m c (i 0)) (i 1) := by
  have hb : t.val / 4 * 768 + (y 0).val < 8448 := h0 ▸ (i 0).isLt
  have hi : i 0 = ⟨t.val / 4 * 768 + (y 0).val, hb⟩ := Fin.ext h0
  have hj : (y 1 : Fin 1024) = i 1 := Fin.ext h1
  rw [dh_out m c t h, dh_part]
  have ea : (fun k : Fin 1024 => (outsAt0 m c t.val t.isLt).2.2 (ix2 (y 0) k)) = A m c (i 0) :=
    funext fun k => acc_full m c t h (ix2 (y 0) k) (i 0) h0
  have ex : (fun k : Fin 1024 => el (s := S768x1024) (φ := .f32) (iblk m c 2 t) (ix2 (y 0) k)) = X m c (i 0) :=
    funext fun k => by rw [hi]; exact x_at m c t (y 0) k hb
  have eg : ∀ k : Fin 1024, el (s := S1x1024) (φ := .f32) (iblk m c 3 t) (ix2 0 k) = el (s := S1x1024) (φ := .f32) (m ((c : Thread nD τ).loc main_arg3)) (ix2 0 k) :=
    fun k => by simp only [el]; blk_point [iblk, V, idx t]
  have ed : el (s := S768x1024) (φ := .f32) (iblk m c 4 t) y = el (s := S8448x1024) (φ := .f32) (m ((c : Thread nD τ).loc main_arg4)) i := by
    simp only [el]; blk_ext [iblk, V, idx t, h0, h1]
  exact congrArg₂ (fun a b : EReal => a + b) ed (by rw [ea]; exact congrArg₂ (fun a b => kdx _ a b _) (funext eg) ex |>.trans (by rw [hj]))

/-- The input's gradient after the run. -/
theorem dh_final (c : Dev nD) : (dats m 0 c).arrAt 5 (cfgs 0).N
    = fun j : S8448x1024.Idx => el (s := S8448x1024) (φ := .f32) (m ((c : Thread nD τ).loc main_arg4)) j
      + kdx (A m c (j 0)) (fun k => el (s := S1x1024) (φ := .f32) (m ((c : Thread nD τ).loc main_arg3)) (ix2 0 k)) (X m c (j 0)) (j 1) := by
  refine (dats m 0 c).arrAt_eq_of_covers 5 _ (by decide +kernel) fun t hf y => ?_
  blk_simp
  rw [after0_5]
  have e0 : ((win0_5.blk t).view.emb y 0 : Fin 8448).val = win0_5.index t 0 * 768 + 1 * (y 0).val := rfl
  have e1 : ((win0_5.blk t).view.emb y 1 : Fin 1024).val = win0_5.index t 1 * 1024 + 1 * (y 1).val := rfl
  rw [(idx t).2.2.2.2.2.1] at e0 e1
  refine dh_tile m c t ((flush0_5 t).mp hf) y _ (e0.trans ?_) (Eq.trans ?_ e1.symm)
  · show t.val / 4 * 768 + 1 * (y 0).val = _
    rw [one_mul]
  · show _ = 0 * 1024 + 1 * (y 1).val
    omega

end Cert.KernelIdeal.NormBwd

namespace Cert.ReferenceIdeal.NormBwd
open Idealize.ShloMosaic Idealize.ShloMosaic.TcCoe Idealize.SL.Sem
open Cert.ReferenceIdeal Cert.ReferenceIdeal.Gen Cert.KernelIdeal.NormBwd

theorem dh_at (m : (ℓ : Loc nD τ sig) → Buf (Elt Ideal) ℓ) (c : Dev nD) (j : S8448x1024.Idx) :
    Value.res_main_v38 m c j = el (s := S8448x1024) (φ := .f32) (m ((c.tc : Thread nD τ).loc main_arg4)) j
      + rdx (prod (m ((c.tc : Thread nD τ).loc main_arg0)) (m ((c.tc : Thread nD τ).loc main_arg1)) (j 0))
          (fun k => el (s := S1x1024) (φ := .f32) (m ((c.tc : Thread nD τ).loc main_arg3)) (ix2 0 k))
          (fun k => el (s := S8448x1024) (φ := .f32) (m ((c.tc : Thread nD τ).loc main_arg2)) (ix2 (j 0) k)) (j 1) := by
  pointwise [Value.res_main_v38, rdx, prod, rr]
  simp only [Finset.univ_unique, Finset.sum_singleton]

/-- The reference's second result as a term of the arguments. -/
abbrev gains (D : FVec Ideal S8448x5632 .bf16) (W : FVec Ideal S1024x5632 .bf16) (H : FVec Ideal S8448x1024 .f32) : FVec Ideal S1x1024 .f32 :=
  shapeCast S1x1024 (Host.reduceAdd (mulf (mulf (H) (broadcastInDim S8448x1024 ![0, 1] bcast_S8448x1_S8448x1024_0_1 (Host.rsqrt (addf (Host.divf (broadcastInDim S8448x1 ![0] bcast_S8448_S8448x1_0 (Host.reduceAdd (mulf (H) (H)) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (Host.dotGeneral dot_S8448x5632_S1024x5632_S8448x1024_1_1_0_0_n_n none (extf .f32 (D) bitsLt_bf16_f32) (extf .f32 (W) bitsLt_bf16_f32))) (constant S_ .f32 0x00000000#32) reducesTo_S8448x1024_S1024_d0 h_S_) shapeCasts_S1024_S1x1024

/-- The gains' gradient of the reference at an index. -/
theorem gains_at (D : FVec Ideal S8448x5632 .bf16) (W : FVec Ideal S1024x5632 .bf16) (H : FVec Ideal S8448x1024 .f32) (j : S1x1024.Idx) :
    gains D W H j = ∑ r : Fin 8448, gterm (prod D W) (fun r q => el (s := S8448x1024) (φ := .f32) H (ix2 r q)) (j 1) r := by
  pointwise [gains, gterm, prod, rr]
  exact Finset.sum_congr rfl fun x _ => mul_comm _ _

end Cert.ReferenceIdeal.NormBwd

namespace Cert.Proof.NormBwd

open Idealize.ShloMosaic Idealize.SL.Sem Cert.KernelIdeal.NormBwd

/-- What the precondition says: every argument is an array of reals. -/
theorem reals (D : FVec Ideal Cert.KernelIdeal.S8448x5632 .bf16) (W : FVec Ideal Cert.KernelIdeal.S1024x5632 .bf16) (H : FVec Ideal Cert.KernelIdeal.S8448x1024 .f32)
    (G : FVec Ideal Cert.KernelIdeal.S1x1024 .f32) (E : FVec Ideal Cert.KernelIdeal.S8448x1024 .f32) (h : Cert.Pre_finite.fn (F := Ideal) D W H G E = fun _ => 1#1) :
    (∃ f : Cert.KernelIdeal.S8448x5632.Idx → ℝ, D = fun i => (f i : EReal)) ∧ (∃ f : Cert.KernelIdeal.S1024x5632.Idx → ℝ, W = fun i => (f i : EReal))
    ∧ (∃ f : Cert.KernelIdeal.S8448x1024.Idx → ℝ, H = fun i => (f i : EReal)) ∧ (∃ f : Cert.KernelIdeal.S1x1024.Idx → ℝ, G = fun i => (f i : EReal)) := by
  have h0 := congrFun h default
  obtain ⟨h1, -⟩ := IntOp.andi_eq_one.1 h0
  obtain ⟨h2, hG⟩ := IntOp.andi_eq_one.1 h1
  obtain ⟨h3, hH⟩ := IntOp.andi_eq_one.1 h2
  obtain ⟨h4, hW⟩ := IntOp.andi_eq_one.1 h3
  obtain ⟨-, hD⟩ := IntOp.andi_eq_one.1 h4
  exact ⟨Reals.reals_of_all _ _ (fun _ => Reals.cinf) _ _ _ _ hD, Reals.reals_of_all _ _ (fun _ => Reals.cinf) _ _ _ _ hW,
    Reals.reals_of_all _ _ (fun _ => Reals.cinf) _ _ _ _ hH, Reals.reals_of_all _ _ (fun _ => Reals.cinf) _ _ _ _ hG⟩

/-- Of reals the product's rows are reals. -/
theorem prod_real (f : Cert.KernelIdeal.S8448x5632.Idx → ℝ) (g : Cert.KernelIdeal.S1024x5632.Idx → ℝ) (r : Fin 8448) :
    prod (fun i => (f i : EReal)) (fun i => (g i : EReal)) r = fun q => ((∑ k : Fin 5632, f (ix2 r k) * g (ix2 q k) : ℝ) : EReal) := by
  funext q
  rw [prod, Reals.coe_sum]
  exact Finset.sum_congr rfl fun k _ => (EReal.coe_mul _ _).symm

/-- Of real arguments the two programs' gradients are one. -/
theorem dx_eq (D : FVec Ideal Cert.KernelIdeal.S8448x5632 .bf16) (W : FVec Ideal Cert.KernelIdeal.S1024x5632 .bf16) (H : FVec Ideal Cert.KernelIdeal.S8448x1024 .f32)
    (G : FVec Ideal Cert.KernelIdeal.S1x1024 .f32) (E : FVec Ideal Cert.KernelIdeal.S8448x1024 .f32) (h : Cert.Pre_finite.fn (F := Ideal) D W H G E = fun _ => 1#1)
    (r : Fin 8448) (q : Fin 1024) :
    kdx (prod D W r) (fun k => el G (ix2 0 k)) (fun k => el H (ix2 r k)) q = rdx (prod D W r) (fun k => el G (ix2 0 k)) (fun k => el H (ix2 r k)) q := by
  obtain ⟨⟨f, rfl⟩, ⟨w, rfl⟩, ⟨x, rfl⟩, ⟨g, rfl⟩⟩ := reals _ _ _ _ _ h
  rw [prod_real]
  exact kdx_eq_rdx _ _ _ _

theorem algebraic : Cert.algebraic_KernelIdeal_ReferenceIdeal_pre_finite := by
  intro m ρ m' ρ' hpre hag
  refine ⟨fun c => Cert.KernelIdeal.Value.G5 m c, fun c => Cert.KernelIdeal.Value.G6 m c, Cert.KernelIdeal.Value.run m ρ,
    (θ_run Cert.ReferenceIdeal.defs _ _).mono (fun r h c => ⟨(h c).1.trans ?_, (h c).2.1.trans ?_, (h c).2.2⟩) (Cert.ReferenceIdeal.Value.run m' ρ')⟩
  · refine Eq.trans ?_ ((Cert.KernelIdeal.Value.final5 m c).symm.trans (dh_final m c)).symm
    funext j
    refine (Cert.ReferenceIdeal.NormBwd.dh_at m' c j).trans ?_
    obtain ⟨h0, h1, h2, h3, h4⟩ := hag c
    rw [h0, h1, h2, h3, h4]
    exact congrArg (fun b : EReal => _ + b) (dx_eq _ _ _ _ _ (hpre c) (j 0) (j 1)).symm
  · refine Eq.trans ?_ ((Cert.KernelIdeal.Value.final6 m c).symm.trans (dg_final m c)).symm
    funext j
    refine (Cert.ReferenceIdeal.NormBwd.gains_at _ _ _ j).trans ?_
    obtain ⟨h0, h1, h2, h3, h4⟩ := hag c
    rw [h0, h1, h2]

end Cert.Proof.NormBwd

end
-- ==== Proof.DownBwd.lean ====
/- The backward call of a product followed by an RMS norm: the norm's gradient, the product's gradient by its left argument and
   the gains' gradient summed over the row tiles equal `jax.vjp`'s for finite arguments. -/
module

public import proofs.«01_k».proof.Proof.Gen.Kernel3Ideal.Value
public import proofs.«01_k».proof.Proof.Gen.Reference3Ideal.Run
public import Idealize.ShloMosaic.Lib.Pipeline.ValueKit
public import proofs.«01_k».proof.Proof.Reals
public import proofs.«01_k».proof.Proof.UpBwd
public import proofs.«01_k».proof.Defs
public import proofs.«01_k».proof.Proof.Gen.Pre_finite3

@[expose] public section

set_option maxRecDepth 16384

noncomputable section

namespace Cert.Reference3Ideal.DownBwd
open Idealize.ShloMosaic Idealize.ShloMosaic.TcCoe Idealize.SL.Sem
open Cert.Reference3Ideal Cert.Reference3Ideal.Gen
open Cert.KernelIdeal.NormBwd (rr rdx kdx gterm el)

/-- The reference's result `dffn` as a term of the arguments. -/
abbrev dffn (D : FVec Ideal S8448x1024 .f32) (X : FVec Ideal S8448x1024 .f32) (G : FVec Ideal S1x1024 .f32) : FVec Ideal S8448x1024 .bf16 :=
  truncf .bf16 (addf (addf (mulf (mulf D (broadcastInDim S8448x1024 ![0, 1] bcast_S1x1024_S8448x1024_0_1 G)) (broadcastInDim S8448x1024 ![0, 1] bcast_S8448x1_S8448x1024_0_1 (Host.rsqrt (addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (mulf X (broadcastInDim S8448x1024 ![0] bcast_S8448_S8448x1024_0 (Host.reduceAdd (Host.divf (mulf (shapeCast _ (Host.reduceAdd (mulf X (mulf D (broadcastInDim S8448x1024 ![0, 1] bcast_S1x1024_S8448x1024_0_1 G))) (constant S_ .f32 0x00000000#32) reducesTo_S8448x1024_S8448_d1 h_S_) shapeCasts_S8448_S8448x1) (mulf (broadcastInDim S8448x1 ![] bcast_S_S8448x1 (constant S_ .f32 0xBF000000#32)) (Host.divf (Host.rsqrt (addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))) (addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1 ![] bcast_S_S8448x1 (constant S_ .f32 0x44800000#32))) (constant S_ .f32 0x00000000#32) reducesTo_S8448x1_S8448_d1 h_S_)))) (mulf (broadcastInDim S8448x1024 ![0] bcast_S8448_S8448x1024_0 (Host.reduceAdd (Host.divf (mulf (shapeCast _ (Host.reduceAdd (mulf X (mulf D (broadcastInDim S8448x1024 ![0, 1] bcast_S1x1024_S8448x1024_0_1 G))) (constant S_ .f32 0x00000000#32) reducesTo_S8448x1024_S8448_d1 h_S_) shapeCasts_S8448_S8448x1) (mulf (broadcastInDim S8448x1 ![] bcast_S_S8448x1 (constant S_ .f32 0xBF000000#32)) (Host.divf (Host.rsqrt (addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))) (addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1 ![] bcast_S_S8448x1 (constant S_ .f32 0x44800000#32))) (constant S_ .f32 0x00000000#32) reducesTo_S8448x1_S8448_d1 h_S_)) X)) bitsLt_bf16_f32

/-- The reference's result `da` as a term of the arguments. -/
abbrev da (D : FVec Ideal S8448x1024 .f32) (X : FVec Ideal S8448x1024 .f32) (G : FVec Ideal S1x1024 .f32) (W : FVec Ideal S2816x1024 .bf16) : FVec Ideal S8448x2816 .bf16 :=
  truncf .bf16 (Host.dotGeneral dot_S8448x1024_S2816x1024_S8448x2816_1_1_0_0_n_n none (addf (addf (mulf (mulf D (broadcastInDim S8448x1024 ![0, 1] bcast_S1x1024_S8448x1024_0_1 G)) (broadcastInDim S8448x1024 ![0, 1] bcast_S8448x1_S8448x1024_0_1 (Host.rsqrt (addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (mulf X (broadcastInDim S8448x1024 ![0] bcast_S8448_S8448x1024_0 (Host.reduceAdd (Host.divf (mulf (shapeCast _ (Host.reduceAdd (mulf X (mulf D (broadcastInDim S8448x1024 ![0, 1] bcast_S1x1024_S8448x1024_0_1 G))) (constant S_ .f32 0x00000000#32) reducesTo_S8448x1024_S8448_d1 h_S_) shapeCasts_S8448_S8448x1) (mulf (broadcastInDim S8448x1 ![] bcast_S_S8448x1 (constant S_ .f32 0xBF000000#32)) (Host.divf (Host.rsqrt (addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))) (addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1 ![] bcast_S_S8448x1 (constant S_ .f32 0x44800000#32))) (constant S_ .f32 0x00000000#32) reducesTo_S8448x1_S8448_d1 h_S_)))) (mulf (broadcastInDim S8448x1024 ![0] bcast_S8448_S8448x1024_0 (Host.reduceAdd (Host.divf (mulf (shapeCast _ (Host.reduceAdd (mulf X (mulf D (broadcastInDim S8448x1024 ![0, 1] bcast_S1x1024_S8448x1024_0_1 G))) (constant S_ .f32 0x00000000#32) reducesTo_S8448x1024_S8448_d1 h_S_) shapeCasts_S8448_S8448x1) (mulf (broadcastInDim S8448x1 ![] bcast_S_S8448x1 (constant S_ .f32 0xBF000000#32)) (Host.divf (Host.rsqrt (addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))) (addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1 ![] bcast_S_S8448x1 (constant S_ .f32 0x44800000#32))) (constant S_ .f32 0x00000000#32) reducesTo_S8448x1_S8448_d1 h_S_)) X)) (extf .f32 W bitsLt_bf16_f32)) bitsLt_bf16_f32

/-- The reference's result `dg` as a term of the arguments. -/
abbrev dg (D : FVec Ideal S8448x1024 .f32) (X : FVec Ideal S8448x1024 .f32) : FVec Ideal S1x1024 .f32 :=
  shapeCast S1x1024 (Host.reduceAdd (mulf (mulf X (broadcastInDim S8448x1024 ![0, 1] bcast_S8448x1_S8448x1024_0_1 (Host.rsqrt (addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) D) (constant S_ .f32 0x00000000#32) reducesTo_S8448x1024_S1024_d0 h_S_) shapeCasts_S1024_S1x1024

theorem dffn_at (D : FVec Ideal S8448x1024 .f32) (X : FVec Ideal S8448x1024 .f32) (G : FVec Ideal S1x1024 .f32) (j : S8448x1024.Idx) :
    dffn D X G j = rdx (fun k => D (ix2 (j 0) k)) (fun k => G (ix2 0 k)) (fun k => X (ix2 (j 0) k)) (j 1) := by
  pointwise [dffn, rdx, rr]
  simp only [Finset.univ_unique, Finset.sum_singleton]

theorem da_eq (D : FVec Ideal S8448x1024 .f32) (X : FVec Ideal S8448x1024 .f32) (G : FVec Ideal S1x1024 .f32) (W : FVec Ideal S2816x1024 .bf16) (j : S8448x2816.Idx) :
    da D X G W j = ∑ k : Fin 1024, dffn D X G (ix2 (j 0) k) * W (ix2 (j 1) k) := by
  pointwise [da]

theorem dg_at (D : FVec Ideal S8448x1024 .f32) (X : FVec Ideal S8448x1024 .f32) (j : S1x1024.Idx) :
    dg D X j = ∑ r : Fin 8448, gterm (fun r q => D (ix2 r q)) (fun r q => X (ix2 r q)) (j 1) r := by
  pointwise [dg, gterm, rr]
  exact Finset.sum_congr rfl fun x _ => mul_comm _ _

end Cert.Reference3Ideal.DownBwd

namespace Cert.Kernel3Ideal.DownBwd

open Idealize.ShloMosaic Idealize.ShloMosaic.TcCoe Idealize.SL.Sem
open Idealize.ShloMosaic.Pipeline (Dat)
open Cert.Kernel3Ideal Cert.Kernel3Ideal.Gen
open Cert.KernelIdeal.NormBwd (rr rdx kdx gterm el kdx_eq_rdx)

/-! ## One grid point's values at an index -/

theorem inv_rms (x : FVec Ideal S256x1024 .f32) (j : S256x1.Idx) : k0_pay2 (F := Ideal) x j = rr fun k => x (ix2 (j 0) k) := by
  pointwise [k0_pay2, rr]

theorem yhat (x : FVec Ideal S256x1024 .f32) (j : S256x1024.Idx) : k0_pay3 (F := Ideal) x j = x j * rr fun k => x (ix2 (j 0) k) := by
  pointwise [k0_pay3, inv_rms]

theorem gain_part (a x : FVec Ideal S256x1024 .f32) (j : S1x1024.Idx) :
    k0_pay4 a x j = ∑ r : Fin 256, a (ix2 r (j 1)) * (x (ix2 r (j 1)) * rr fun k => x (ix2 r k)) := by
  pointwise [k0_pay4, yhat]

theorem gain_step (a p : FVec Ideal S1x1024 .f32) (j : S1x1024.Idx) : k0_pay1 a p j = p j + a j := by
  pointwise [k0_pay1]

theorem dffn_part (a x : FVec Ideal S256x1024 .f32) (g : FVec Ideal S1x1024 .f32) (j : S256x1024.Idx) :
    k0_pay5 (F := Ideal) a x g j = kdx (fun k => a (ix2 (j 0) k)) (fun k => g (ix2 0 k)) (fun k => x (ix2 (j 0) k)) (j 1) := by
  pointwise [k0_pay5, yhat, inv_rms, kdx]

theorem da_part (a x : FVec Ideal S256x1024 .f32) (g : FVec Ideal S1x1024 .f32) (w : FVec Ideal S2816x1024 .bf16) (j : S256x2816.Idx) :
    k0_pay6 (F := Ideal) a x g w j = ∑ k : Fin 1024, kdx (fun k => a (ix2 (j 0) k)) (fun k => g (ix2 0 k)) (fun k => x (ix2 (j 0) k)) k * w (ix2 (j 1) k) := by
  pointwise [k0_pay6, dffn_part]

variable (m : (ℓ : Loc nD τ sig) → Buf (Elt Ideal) ℓ)

/-! ## The run's contents -/

/-- The windows' block indices at every grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0] :=
  (by decide +kernel : ∀ t : Fin grid0.N, _)

theorem outs (c : Dev nD) (t : Fin cfg0.N) :
    (outsAt0 m c t.val t.isLt).1 = k0_pay5 (F := Ideal) (iblk m c 0 t) (iblk m c 1 t) (iblk m c 2 t)
    ∧ (outsAt0 m c t.val t.isLt).2.1 = k0_pay6 (F := Ideal) (iblk m c 0 t) (iblk m c 1 t) (iblk m c 2 t) (iblk m c 3 t) := by
  have hN : t.val < 33 := t.isLt
  by_cases h : t.val % 33 = 0
  · rw [outsAt0_A m c t h (by omega)]
    exact ⟨by frame_out, by frame_out⟩
  · rw [outsAt0_B m c t h (by omega)]
    exact ⟨by frame_out, by frame_out⟩

theorem dg_reset (c : Dev nD) (t : Fin cfg0.N) (h : t.val % 33 = 0) (j : S1x1024.Idx) :
    (outsAt0 m c t.val t.isLt).2.2 j = 0 + k0_pay4 (F := Ideal) (iblk m c 0 t) (iblk m c 1 t) j := by
  have hN : t.val < 33 := t.isLt
  rw [outsAt0_A m c t h (by omega), zero_add]; frame_out

theorem dg_step (c : Dev nD) (t : Fin cfg0.N) (h : ¬t.val % 33 = 0) (j : S1x1024.Idx) :
    (outsAt0 m c t.val t.isLt).2.2 j = (outsAt0 m c (t.val - 1) (by omega)).2.2 j + k0_pay4 (F := Ideal) (iblk m c 0 t) (iblk m c 1 t) j := by
  rw [outsAt0_B m c t h (by omega)]; frame_out; rw [gain_step]

/-- The three arrays the norm's gradient is taken at, by row and column. -/
abbrev P (c : Dev nD) (r : Fin 8448) (q : Fin 1024) : EReal := el (s := S8448x1024) (φ := .f32) (m ((c : Thread nD τ).loc main_arg0)) (ix2 r q)
abbrev X (c : Dev nD) (r : Fin 8448) (q : Fin 1024) : EReal := el (s := S8448x1024) (φ := .f32) (m ((c : Thread nD τ).loc main_arg1)) (ix2 r q)
abbrev G (c : Dev nD) (q : Fin 1024) : EReal := el (s := S1x1024) (φ := .f32) (m ((c : Thread nD τ).loc main_arg2)) (ix2 0 q)

theorem p_at (c : Dev nD) (t : Fin cfg0.N) (p : Fin 256) (q : Fin 1024) (r : Fin 8448) (h : r.val = t.val * 256 + p.val) :
    el (s := S256x1024) (φ := .f32) (iblk m c 0 t) (ix2 p q) = P m c r q := by
  simp only [el]
  blk_point [iblk, V, idx t]

theorem x_at (c : Dev nD) (t : Fin cfg0.N) (p : Fin 256) (q : Fin 1024) (r : Fin 8448) (h : r.val = t.val * 256 + p.val) :
    el (s := S256x1024) (φ := .f32) (iblk m c 1 t) (ix2 p q) = X m c r q := by
  simp only [el]
  blk_point [iblk, V, idx t]

theorem g_at (c : Dev nD) (t : Fin cfg0.N) (q : Fin 1024) :
    el (s := S1x1024) (φ := .f32) (iblk m c 2 t) (ix2 0 q) = G m c q := by
  simp only [el]
  blk_point [iblk, V, idx t]

/-- One point's row of the norm's gradient. -/
theorem row_at (c : Dev nD) (t : Fin cfg0.N) (p : Fin 256) (r : Fin 8448) (h : r.val = t.val * 256 + p.val) :
    kdx (fun k => el (s := S256x1024) (φ := .f32) (iblk m c 0 t) (ix2 p k)) (fun k => el (s := S1x1024) (φ := .f32) (iblk m c 2 t) (ix2 0 k))
      (fun k => el (s := S256x1024) (φ := .f32) (iblk m c 1 t) (ix2 p k)) = kdx (P m c r) (G m c) (X m c r) := by
  rw [show (fun k => el (s := S256x1024) (φ := .f32) (iblk m c 0 t) (ix2 p k)) = P m c r from funext fun k => p_at m c t p k r h,
    show (fun k => el (s := S1x1024) (φ := .f32) (iblk m c 2 t) (ix2 0 k)) = G m c from funext fun k => g_at m c t k,
    show (fun k => el (s := S256x1024) (φ := .f32) (iblk m c 1 t) (ix2 p k)) = X m c r from funext fun k => x_at m c t p k r h]

/-- The norm's gradient after the run. -/
theorem dffn_final (c : Dev nD) : (dats m 0 c).arrAt 4 (cfgs 0).N
    = fun j : S8448x1024.Idx => kdx (P m c (j 0)) (G m c) (X m c (j 0)) (j 1) := by
  refine (dats m 0 c).arrAt_eq_of_covers 4 _ (by decide +kernel) fun t hf y => ?_
  blk_simp
  rw [after0_4, (outs m c t).1, dffn_part]
  have e0 : ((win0_4.blk t).view.emb y 0 : Fin 8448).val = win0_4.index t 0 * 256 + 1 * (y 0).val := rfl
  have e1 : ((win0_4.blk t).view.emb y 1 : Fin 1024).val = win0_4.index t 1 * 1024 + 1 * (y 1).val := rfl
  rw [(idx t).2.2.2.2.1] at e0 e1
  refine congrFun (row_at m c t (y 0) _ (e0.trans ?_)) (y 1) |>.trans (congrArg _ (Fin.ext (Eq.trans ?_ e1.symm)))
  · show t.val * 256 + 1 * (y 0).val = _
    rw [one_mul]
  · show _ = 0 * 1024 + 1 * (y 1).val
    omega

/-- The product's gradient after the run. -/
theorem da_final (c : Dev nD) : (dats m 0 c).arrAt 5 (cfgs 0).N
    = fun j : S8448x2816.Idx => ∑ k : Fin 1024, kdx (P m c (j 0)) (G m c) (X m c (j 0)) k
        * el (s := S2816x1024) (φ := .bf16) (m ((c : Thread nD τ).loc main_arg3)) (ix2 (j 1) k) := by
  refine (dats m 0 c).arrAt_eq_of_covers 5 _ (by decide +kernel) fun t hf y => ?_
  blk_simp
  rw [after0_5, (outs m c t).2, da_part]
  have e0 : ((win0_5.blk t).view.emb y 0 : Fin 8448).val = win0_5.index t 0 * 256 + 1 * (y 0).val := rfl
  have e1 : ((win0_5.blk t).view.emb y 1 : Fin 2816).val = win0_5.index t 1 * 2816 + 1 * (y 1).val := rfl
  rw [(idx t).2.2.2.2.2.1] at e0 e1
  refine Reals.sum_eq _ _ fun k => ?_
  refine congrArg₂ (fun a b : EReal => a * b) (congrFun (row_at m c t (y 0) _ (e0.trans ?_)) k) ?_
  · show t.val * 256 + 1 * (y 0).val = _
    rw [one_mul]
  · have h1 : ((win0_5.blk t).view.emb y 1 : Fin 2816) = y 1 := Fin.ext (e1.trans (by show 0 * 2816 + 1 * (y 1).val = _; omega))
    refine Eq.trans (b := el (s := S2816x1024) (φ := .bf16) (m ((c : Thread nD τ).loc main_arg3)) (ix2 (y 1) k)) ?_ (by rw [h1])
    show el (s := S2816x1024) (φ := .bf16) (iblk m c 3 t) (ix2 (y 1) k) = _
    simp only [el]
    blk_point [iblk, V, idx t]

/-- The gains' gradient after the run. -/
theorem dg_final (c : Dev nD) : (dats m 0 c).arrAt 6 (cfgs 0).N
    = fun j : S1x1024.Idx => ∑ r : Fin 8448, gterm (P m c) (X m c) (j 1) r := by
  refine (dats m 0 c).arrAt_eq_of_covers 6 _ (by decide +kernel) fun t hf y => ?_
  blk_simp
  have e : ((win0_6.blk t).view.emb y 1 : Fin 1024).val = win0_6.index t 1 * 1024 + 1 * (y 1).val := rfl
  rw [(idx t).2.2.2.2.2.2] at e
  have h1 : ((win0_6.blk t).view.emb y 1 : Fin 1024) = y 1 := Fin.ext (e.trans (by show 0 * 1024 + 1 * (y 1).val = _; omega))
  rw [after0_6, Pipeline.eq_sum_fin_of_reset_step_apply_of_flush (fun n h => (outsAt0 m c n h).2.2) 33 (fun _ => 0) _
    (fun t h j => dg_reset m c t h j) (fun t h j => dg_step m c t h j) t ((flush0_6 t).mp hf) _, zero_add, h1]
  simp only [gain_part]
  refine Fin.sum_mul_add_congr fun s k hl => ?_
  have hN : t.val < 33 := t.isLt
  have ht : t.val % 33 = 32 := (flush0_6 t).mp hf
  have hs : ∀ (u : Fin cfg0.N), u.val = s.val → ∀ (r : Fin 8448), r.val = s.val * 256 + k.val →
      el (s := S256x1024) (φ := .f32) (iblk m c 0 u) (ix2 k (y 1)) * (el (s := S256x1024) (φ := .f32) (iblk m c 1 u) (ix2 k (y 1))
        * rr fun q => el (s := S256x1024) (φ := .f32) (iblk m c 1 u) (ix2 k q)) = gterm (P m c) (X m c) (y 1) r := fun u hu r hr => by
    have hr' : r.val = u.val * 256 + k.val := by rw [hu, hr]
    rw [p_at m c u k (y 1) r hr', x_at m c u k (y 1) r hr',
      show (fun q => el (s := S256x1024) (φ := .f32) (iblk m c 1 u) (ix2 k q)) = X m c r from funext fun q => x_at m c u k q r hr']
    rfl
  exact hs ⟨_, Pipeline.run_point_lt_of_flush t ht s⟩ (by show _ = s.val; dsimp only; omega) _ rfl

end Cert.Kernel3Ideal.DownBwd

namespace Cert.Proof.DownBwd

open Idealize.ShloMosaic Idealize.SL.Sem
open Cert.KernelIdeal.NormBwd (rr rdx kdx gterm el kdx_eq_rdx)

/-- What the precondition says of the norm's arguments: they are arrays of reals. -/
theorem reals (D X : FVec Ideal Cert.Kernel3Ideal.S8448x1024 .f32) (G : FVec Ideal Cert.Kernel3Ideal.S1x1024 .f32) (W : FVec Ideal Cert.Kernel3Ideal.S2816x1024 .bf16)
    (h : Cert.Pre_finite3.fn (F := Ideal) D X G W = fun _ => 1#1) :
    (∃ f : Cert.Kernel3Ideal.S8448x1024.Idx → ℝ, D = fun i => (f i : EReal)) ∧ (∃ f : Cert.Kernel3Ideal.S8448x1024.Idx → ℝ, X = fun i => (f i : EReal))
    ∧ (∃ f : Cert.Kernel3Ideal.S1x1024.Idx → ℝ, G = fun i => (f i : EReal)) := by
  have h0 := congrFun h default
  obtain ⟨h1, -⟩ := IntOp.andi_eq_one.1 h0
  obtain ⟨h2, hG⟩ := IntOp.andi_eq_one.1 h1
  obtain ⟨h3, hX⟩ := IntOp.andi_eq_one.1 h2
  obtain ⟨-, hD⟩ := IntOp.andi_eq_one.1 h3
  exact ⟨Reals.reals_of_all _ _ (fun _ => Reals.cinf) _ _ _ _ hD, Reals.reals_of_all _ _ (fun _ => Reals.cinf) _ _ _ _ hX,
    Reals.reals_of_all _ _ (fun _ => Reals.cinf) _ _ _ _ hG⟩

/-- Of real arguments the two programs' norm gradients are one. -/
theorem dx_eq (D X : FVec Ideal Cert.Kernel3Ideal.S8448x1024 .f32) (G : FVec Ideal Cert.Kernel3Ideal.S1x1024 .f32) (W : FVec Ideal Cert.Kernel3Ideal.S2816x1024 .bf16)
    (h : Cert.Pre_finite3.fn (F := Ideal) D X G W = fun _ => 1#1) (r : Fin 8448) (q : Fin 1024) :
    kdx (fun k => el D (ix2 r k)) (fun k => el G (ix2 0 k)) (fun k => el X (ix2 r k)) q = rdx (fun k => el D (ix2 r k)) (fun k => el G (ix2 0 k)) (fun k => el X (ix2 r k)) q := by
  obtain ⟨⟨f, rfl⟩, ⟨x, rfl⟩, ⟨g, rfl⟩⟩ := reals _ _ _ _ h
  exact kdx_eq_rdx _ _ _ _

theorem algebraic : Cert.algebraic_Kernel3Ideal_Reference3Ideal_pre_finite3 := by
  intro m ρ m' ρ' hpre hag
  refine ⟨fun c => (Cert.Kernel3Ideal.Gen.dats m 0 c).arrAt 4 (Cert.Kernel3Ideal.cfgs 0).N, fun c => (Cert.Kernel3Ideal.Gen.dats m 0 c).arrAt 5 (Cert.Kernel3Ideal.cfgs 0).N,
    fun c => (Cert.Kernel3Ideal.Gen.dats m 0 c).arrAt 6 (Cert.Kernel3Ideal.cfgs 0).N, Cert.Kernel3Ideal.Value.run_blocks m ρ,
    (θ_run Cert.Reference3Ideal.defs _ _).mono (fun r h c => ⟨(h c).1.trans ?_, (h c).2.1.trans ?_, (h c).2.2.1.trans ?_, (h c).2.2.2⟩) (Cert.Reference3Ideal.Value.run m' ρ')⟩
  · refine Eq.trans ?_ (Cert.Kernel3Ideal.DownBwd.dffn_final m c).symm
    funext j
    refine (Cert.Reference3Ideal.DownBwd.dffn_at _ _ _ j).trans ?_
    obtain ⟨h0, h1, h2, h3⟩ := hag c
    rw [h0, h1, h2]
    exact (dx_eq _ _ _ _ (hpre c) (j 0) (j 1)).symm
  · refine Eq.trans ?_ (Cert.Kernel3Ideal.DownBwd.da_final m c).symm
    funext j
    refine (Cert.Reference3Ideal.DownBwd.da_eq _ _ _ _ j).trans ?_
    obtain ⟨h0, h1, h2, h3⟩ := hag c
    rw [h0, h1, h2, h3]
    refine Finset.sum_congr rfl fun k _ => congrArg (fun b : EReal => b * _) ?_
    exact (Cert.Reference3Ideal.DownBwd.dffn_at _ _ _ _).trans (dx_eq _ _ _ _ (hpre c) (j 0) k).symm
  · refine Eq.trans ?_ (Cert.Kernel3Ideal.DownBwd.dg_final m c).symm
    funext j
    refine (Cert.Reference3Ideal.DownBwd.dg_at _ _ j).trans ?_
    obtain ⟨h0, h1, h2, h3⟩ := hag c
    rw [h0, h1]

end Cert.Proof.DownBwd

end
-- ==== Proof.DwMore.lean ====
/- The gradients of three more products by their matrices, `xᵀ · dy` accumulated over eleven row tiles of one result block:
   each equals `jax.vjp`'s whole product (the argument is DwUp.lean's, at the calls' own tiles). -/
module

public import proofs.«01_k».proof.Proof.Gen.Kernel4Ideal.Value
public import proofs.«01_k».proof.Proof.Gen.Reference4Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import Idealize.ShloMosaic.Lib.Pipeline.ValueKit
public import proofs.«01_k».proof.Defs

@[expose] public section

set_option maxRecDepth 16384

noncomputable section

/-! ## The down projection -/

namespace Cert.Kernel4Ideal.Product

open Idealize.ShloMosaic Idealize.ShloMosaic.TcCoe Idealize.SL.Sem
open Idealize.ShloMosaic.Pipeline (Dat)
open Cert.Kernel4Ideal Cert.Kernel4Ideal.Gen

/-- The reference's result as a term of the two arguments. -/
abbrev gradW (X : FVec Ideal S8448x2816 .bf16) (D : FVec Ideal S8448x1024 .bf16) : FVec Ideal S2816x1024 .f32 :=
  transpose Cert.Reference4Ideal.S2816x1024 [1, 0]
    (Host.dotGeneral (F := Ideal) Cert.Reference4Ideal.dot_S8448x1024_S8448x2816_S1024x2816_0_0_1_1_n_n none
      (extf .f32 D Cert.Reference4Ideal.Gen.bitsLt_bf16_f32) (extf .f32 X Cert.Reference4Ideal.Gen.bitsLt_bf16_f32))
    Cert.Reference4Ideal.Gen.transposes_S1024x2816_S2816x1024_1_0

theorem fill_zero (j : S1408x1024.Idx) : k0_pay1 (F := Ideal) j = 0 := by pointwise [k0_pay1]

theorem part (acc : FVec Ideal S1408x1024 .f32) (x : FVec Ideal S768x1408 .bf16) (d : FVec Ideal S768x1024 .bf16) (j : S1408x1024.Idx) :
    k0_pay2 acc x d j = acc j + ∑ r : Fin 768, x (ix2 r (j 0)) * d (ix2 r (j 1)) := by pointwise [k0_pay2]

theorem gradW_at (X : FVec Ideal S8448x2816 .bf16) (D : FVec Ideal S8448x1024 .bf16) (j : S2816x1024.Idx) :
    gradW X D j = ∑ r : Fin 8448, X (ix2 r (j 0)) * D (ix2 r (j 1)) := by pointwise! [gradW]

theorem idx : ∀ t : Fin cfg0.N, win0_0.index t = ![t.val % 11, t.val / 11] ∧ win0_1.index t = ![t.val % 11, 0] ∧ win0_2.index t = ![t.val / 11, 0] :=
  (by decide +kernel : ∀ t : Fin grid0.N, _)

variable (m : (ℓ : Loc nD τ sig) → Buf (Elt Ideal) ℓ)

theorem final (c : Dev nD) : (dats m 0 c).arrAt 2 (cfgs 0).N
    = gradW (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 11 (fun _ => 0) _
    (fun t h j => by rw [outsAt0_A m c t h]; frame_out; rw [part, fill_zero])
    (fun t h j => by rw [outsAt0_B m c t h]; frame_out; rw [part])
    t ((flush0_2 t).mp hf) _, zero_add]
  refine Eq.trans ?_ (gradW_at _ _ _).symm
  refine Fin.sum_mul_add_congr fun s k hl => ?_
  blk_point [iblk, V, idx t, idx ⟨_, Pipeline.run_point_lt_of_flush t ((flush0_2 t).mp hf) s⟩]

theorem algebraic : Cert.algebraic_Kernel4Ideal_Reference4Ideal := by
  intro m ρ m' ρ' _ hag
  refine ⟨fun c => Cert.Kernel4Ideal.Value.G2 m c, Cert.Kernel4Ideal.Value.run m ρ,
    (θ_run Cert.Reference4Ideal.defs _ _).mono (fun r h c => ⟨(h c).1.trans ?_, (h c).2⟩) (Cert.Reference4Ideal.Value.run m' ρ')⟩
  refine Eq.trans ?_ ((Cert.Kernel4Ideal.Value.final2 m c).symm.trans (final m c)).symm
  rw [(hag c).1, (hag c).2]

end Cert.Kernel4Ideal.Product

/-! ## The output projection -/

namespace Cert.Kernel9Ideal.Product

open Idealize.ShloMosaic Idealize.ShloMosaic.TcCoe Idealize.SL.Sem
open Idealize.ShloMosaic.Pipeline (Dat)
open Cert.Kernel9Ideal Cert.Kernel9Ideal.Gen

/-- The reference's result as a term of the two arguments. -/
abbrev gradW (X : FVec Ideal S8448x1024 .bf16) (D : FVec Ideal S8448x1024 .bf16) : FVec Ideal S1024x1024 .f32 :=
  transpose Cert.Reference9Ideal.S1024x1024 [1, 0]
    (Host.dotGeneral (F := Ideal) Cert.Reference9Ideal.dot_S8448x1024_S8448x1024_S1024x1024_0_0_1_1_n_n none
      (extf .f32 D Cert.Reference9Ideal.Gen.bitsLt_bf16_f32) (extf .f32 X Cert.Reference9Ideal.Gen.bitsLt_bf16_f32))
    Cert.Reference9Ideal.Gen.transposes_S1024x1024_S1024x1024_1_0

theorem fill_zero (j : S1024x1024.Idx) : k0_pay1 (F := Ideal) j = 0 := by pointwise [k0_pay1]

theorem part (acc : FVec Ideal S1024x1024 .f32) (x : FVec Ideal S768x1024 .bf16) (d : FVec Ideal S768x1024 .bf16) (j : S1024x1024.Idx) :
    k0_pay2 acc x d j = acc j + ∑ r : Fin 768, x (ix2 r (j 0)) * d (ix2 r (j 1)) := by pointwise [k0_pay2]

theorem gradW_at (X : FVec Ideal S8448x1024 .bf16) (D : FVec Ideal S8448x1024 .bf16) (j : S1024x1024.Idx) :
    gradW X D j = ∑ r : Fin 8448, X (ix2 r (j 0)) * D (ix2 r (j 1)) := by pointwise! [gradW]

theorem idx : ∀ t : Fin cfg0.N, win0_0.index t = ![t.val, 0] ∧ win0_1.index t = ![t.val, 0] ∧ win0_2.index t = ![0, 0] :=
  (by decide +kernel : ∀ t : Fin grid0.N, _)

variable (m : (ℓ : Loc nD τ sig) → Buf (Elt Ideal) ℓ)

theorem final (c : Dev nD) : (dats m 0 c).arrAt 2 (cfgs 0).N
    = gradW (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 11 (fun _ => 0) _
    (fun t h j => by rw [outsAt0_A m c t h]; frame_out; rw [part, fill_zero])
    (fun t h j => by rw [outsAt0_B m c t h]; frame_out; rw [part])
    t ((flush0_2 t).mp hf) _, zero_add]
  refine Eq.trans ?_ (gradW_at _ _ _).symm
  refine Fin.sum_mul_add_congr fun s k hl => ?_
  blk_point [iblk, V, idx t, idx ⟨_, Pipeline.run_point_lt_of_flush t ((flush0_2 t).mp hf) s⟩]

theorem algebraic : Cert.algebraic_Kernel9Ideal_Reference9Ideal := by
  intro m ρ m' ρ' _ hag
  refine ⟨fun c => Cert.Kernel9Ideal.Value.G2 m c, Cert.Kernel9Ideal.Value.run m ρ,
    (θ_run Cert.Reference9Ideal.defs _ _).mono (fun r h c => ⟨(h c).1.trans ?_, (h c).2⟩) (Cert.Reference9Ideal.Value.run m' ρ')⟩
  refine Eq.trans ?_ ((Cert.Kernel9Ideal.Value.final2 m c).symm.trans (final m c)).symm
  rw [(hag c).1, (hag c).2]

end Cert.Kernel9Ideal.Product

/-! ## An attention branch's projection -/

namespace Cert.Kernel10Ideal.Product

open Idealize.ShloMosaic Idealize.ShloMosaic.TcCoe Idealize.SL.Sem
open Idealize.ShloMosaic.Pipeline (Dat)
open Cert.Kernel10Ideal Cert.Kernel10Ideal.Gen

/-- The reference's result as a term of the two arguments. -/
abbrev gradW (X : FVec Ideal S8448x512 .bf16) (D : FVec Ideal S8448x1024 .bf16) : FVec Ideal S512x1024 .f32 :=
  transpose Cert.Reference10Ideal.S512x1024 [1, 0]
    (Host.dotGeneral (F := Ideal) Cert.Reference10Ideal.dot_S8448x1024_S8448x512_S1024x512_0_0_1_1_n_n none
      (extf .f32 D Cert.Reference10Ideal.Gen.bitsLt_bf16_f32) (extf .f32 X Cert.Reference10Ideal.Gen.bitsLt_bf16_f32))
    Cert.Reference10Ideal.Gen.transposes_S1024x512_S512x1024_1_0

theorem fill_zero (j : S512x1024.Idx) : k0_pay1 (F := Ideal) j = 0 := by pointwise [k0_pay1]

theorem part (acc : FVec Ideal S512x1024 .f32) (x : FVec Ideal S768x512 .bf16) (d : FVec Ideal S768x1024 .bf16) (j : S512x1024.Idx) :
    k0_pay2 acc x d j = acc j + ∑ r : Fin 768, x (ix2 r (j 0)) * d (ix2 r (j 1)) := by pointwise [k0_pay2]

theorem gradW_at (X : FVec Ideal S8448x512 .bf16) (D : FVec Ideal S8448x1024 .bf16) (j : S512x1024.Idx) :
    gradW X D j = ∑ r : Fin 8448, X (ix2 r (j 0)) * D (ix2 r (j 1)) := by pointwise! [gradW]

theorem idx : ∀ t : Fin cfg0.N, win0_0.index t = ![t.val, 0] ∧ win0_1.index t = ![t.val, 0] ∧ win0_2.index t = ![0, 0] :=
  (by decide +kernel : ∀ t : Fin grid0.N, _)

variable (m : (ℓ : Loc nD τ sig) → Buf (Elt Ideal) ℓ)

theorem final (c : Dev nD) : (dats m 0 c).arrAt 2 (cfgs 0).N
    = gradW (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 11 (fun _ => 0) _
    (fun t h j => by rw [outsAt0_A m c t h]; frame_out; rw [part, fill_zero])
    (fun t h j => by rw [outsAt0_B m c t h]; frame_out; rw [part])
    t ((flush0_2 t).mp hf) _, zero_add]
  refine Eq.trans ?_ (gradW_at _ _ _).symm
  refine Fin.sum_mul_add_congr fun s k hl => ?_
  blk_point [iblk, V, idx t, idx ⟨_, Pipeline.run_point_lt_of_flush t ((flush0_2 t).mp hf) s⟩]

theorem algebraic : Cert.algebraic_Kernel10Ideal_Reference10Ideal := by
  intro m ρ m' ρ' _ hag
  refine ⟨fun c => Cert.Kernel10Ideal.Value.G2 m c, Cert.Kernel10Ideal.Value.run m ρ,
    (θ_run Cert.Reference10Ideal.defs _ _).mono (fun r h c => ⟨(h c).1.trans ?_, (h c).2⟩) (Cert.Reference10Ideal.Value.run m' ρ')⟩
  refine Eq.trans ?_ ((Cert.Kernel10Ideal.Value.final2 m c).symm.trans (final m c)).symm
  rw [(hag c).1, (hag c).2]

end Cert.Kernel10Ideal.Product

end
-- ==== Proof.MergeBwd.lean ====
/- The backward call of the merge of the two mixers: the norm's gradient, the output product's gradient by its left argument, the
   two gates' gradients, the gated branches' gradients through their own output products and the gains' gradient equal
   `jax.vjp`'s for finite arguments. -/
module

public import proofs.«01_k».proof.Proof.Gen.Kernel6Ideal.Value
public import proofs.«01_k».proof.Proof.Gen.Reference6Ideal.Run
public import Idealize.ShloMosaic.Lib.Pipeline.ValueKit
public import proofs.«01_k».proof.Proof.Reals
public import proofs.«01_k».proof.Proof.UpBwd
public import proofs.«01_k».proof.Defs
public import proofs.«01_k».proof.Proof.Gen.Pre_finite6

@[expose] public section

set_option maxRecDepth 16384

noncomputable section

namespace Cert.Kernel6Ideal.Merge
open Idealize.ShloMosaic

/-! ## The gates, of a row and a column -/

/-- The gradient of the product by its left argument: a row of the norm's gradient against a row of the weight. -/
def back {n : ℕ} (D : Fin 1024 → EReal) (W : Fin n → Fin 1024 → EReal) (q : Fin n) : EReal := ∑ k : Fin 1024, D k * W q k

/-- The gradient of a gated branch. -/
def dy (d s : EReal) : EReal := d * Ideal.logistic s

/-- The gradient of a gate's argument. -/
def dgate (d y s : EReal) : EReal := d * y * Ideal.logistic s * (1 - Ideal.logistic s)

end Cert.Kernel6Ideal.Merge

namespace Cert.Reference6Ideal.Merge
open Idealize.ShloMosaic Idealize.ShloMosaic.TcCoe Idealize.SL.Sem
open Cert.Reference6Ideal Cert.Reference6Ideal.Gen
open Cert.KernelIdeal.NormBwd (rr rdx gterm el)
open Cert.Kernel6Ideal.Merge

/-- The reference's result `dmx` as a term of the arguments. -/
abbrev dmx (DH MX : FVec Ideal S8448x1024 .f32) (G : FVec Ideal S1x1024 .f32) : FVec Ideal S8448x1024 .bf16 :=
  truncf .bf16 (addf (addf (mulf (mulf DH (broadcastInDim S8448x1024 ![0, 1] bcast_S1x1024_S8448x1024_0_1 G)) (broadcastInDim S8448x1024 ![0, 1] bcast_S8448x1_S8448x1024_0_1 (Host.rsqrt (addf (Host.divf (broadcastInDim S8448x1 ![0] bcast_S8448_S8448x1_0 (Host.reduceAdd (mulf MX MX) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (mulf MX (broadcastInDim S8448x1024 ![0] bcast_S8448_S8448x1024_0 (Host.reduceAdd (Host.divf (mulf (shapeCast _ (Host.reduceAdd (mulf MX (mulf DH (broadcastInDim S8448x1024 ![0, 1] bcast_S1x1024_S8448x1024_0_1 G))) (constant S_ .f32 0x00000000#32) reducesTo_S8448x1024_S8448_d1 h_S_) shapeCasts_S8448_S8448x1) (mulf (broadcastInDim S8448x1 ![] bcast_S_S8448x1 (constant S_ .f32 0xBF000000#32)) (Host.divf (Host.rsqrt (addf (Host.divf (broadcastInDim S8448x1 ![0] bcast_S8448_S8448x1_0 (Host.reduceAdd (mulf MX MX) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))) (addf (Host.divf (broadcastInDim S8448x1 ![0] bcast_S8448_S8448x1_0 (Host.reduceAdd (mulf MX MX) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1 ![] bcast_S_S8448x1 (constant S_ .f32 0x44800000#32))) (constant S_ .f32 0x00000000#32) reducesTo_S8448x1_S8448_d1 h_S_)))) (mulf (broadcastInDim S8448x1024 ![0] bcast_S8448_S8448x1024_0 (Host.reduceAdd (Host.divf (mulf (shapeCast _ (Host.reduceAdd (mulf MX (mulf DH (broadcastInDim S8448x1024 ![0, 1] bcast_S1x1024_S8448x1024_0_1 G))) (constant S_ .f32 0x00000000#32) reducesTo_S8448x1024_S8448_d1 h_S_) shapeCasts_S8448_S8448x1) (mulf (broadcastInDim S8448x1 ![] bcast_S_S8448x1 (constant S_ .f32 0xBF000000#32)) (Host.divf (Host.rsqrt (addf (Host.divf (broadcastInDim S8448x1 ![0] bcast_S8448_S8448x1_0 (Host.reduceAdd (mulf MX MX) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))) (addf (Host.divf (broadcastInDim S8448x1 ![0] bcast_S8448_S8448x1_0 (Host.reduceAdd (mulf MX MX) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1 ![] bcast_S_S8448x1 (constant S_ .f32 0x44800000#32))) (constant S_ .f32 0x00000000#32) reducesTo_S8448x1_S8448_d1 h_S_)) MX)) bitsLt_bf16_f32

/-- The reference's result `dg` as a term of the arguments. -/
abbrev dg (DH MX : FVec Ideal S8448x1024 .f32) : FVec Ideal S1x1024 .f32 :=
  shapeCast S1x1024 (Host.reduceAdd (mulf (mulf MX (broadcastInDim S8448x1024 ![0, 1] bcast_S8448x1_S8448x1024_0_1 (Host.rsqrt (addf (Host.divf (broadcastInDim S8448x1 ![0] bcast_S8448_S8448x1_0 (Host.reduceAdd (mulf MX MX) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) DH) (constant S_ .f32 0x00000000#32) reducesTo_S8448x1024_S1024_d0 h_S_) shapeCasts_S1024_S1x1024

theorem dmx_at (D X : FVec Ideal S8448x1024 .f32) (G : FVec Ideal S1x1024 .f32) (j : S8448x1024.Idx) :
    dmx D X G j = rdx (fun k => D (ix2 (j 0) k)) (fun k => G (ix2 0 k)) (fun k => X (ix2 (j 0) k)) (j 1) := by
  pointwise [dmx, rdx, rr]
  simp only [Finset.univ_unique, Finset.sum_singleton]

theorem dg_at (D X : FVec Ideal S8448x1024 .f32) (j : S1x1024.Idx) :
    dg D X j = ∑ r : Fin 8448, gterm (fun r q => D (ix2 r q)) (fun r q => X (ix2 r q)) (j 1) r := by
  pointwise [dg, gterm, rr]
  exact Finset.sum_congr rfl fun x _ => mul_comm _ _

/-- The output product's gradient, in f32, as a term of the norm's gradient. -/
abbrev dm (D : FVec Ideal S8448x1024 .f32) (WO : FVec Ideal S1024x1024 .bf16) : FVec Ideal S8448x1024 .f32 :=
  Host.dotGeneral (F := Ideal) dot_S8448x1024_S1024x1024_S8448x1024_1_1_0_0_n_n none D (extf .f32 WO bitsLt_bf16_f32)

/-- A gate: the sigmoid of one kilocolumn of the projections. -/
abbrev ga (PR : FVec Ideal S8448x5120 .bf16) : FVec Ideal S8448x1024 .f32 :=
  Host.divf (broadcastInDim S8448x1024 ![] bcast_S_S8448x1024 (constant S_ .f32 0x3F800000#32)) (addf (broadcastInDim S8448x1024 ![] bcast_S_S8448x1024 (constant S_ .f32 0x3F800000#32)) (Host.exp (Host.negf (extf .f32 (extractStridedSlice S8448x1024 ![0, 3072] PR slices_S8448x5120_S8448x1024_0_3072) bitsLt_bf16_f32))))

/-- The other gate, of the next kilocolumn. -/
abbrev gb (PR : FVec Ideal S8448x5120 .bf16) : FVec Ideal S8448x1024 .f32 :=
  Host.divf (broadcastInDim S8448x1024 ![] bcast_S_S8448x1024 (constant S_ .f32 0x3F800000#32)) (addf (broadcastInDim S8448x1024 ![] bcast_S_S8448x1024 (constant S_ .f32 0x3F800000#32)) (Host.exp (Host.negf (extf .f32 (extractStridedSlice S8448x1024 ![0, 4096] PR slices_S8448x5120_S8448x1024_0_4096) bitsLt_bf16_f32))))

/-- The gradient of a gated branch: the gate times the product's gradient. -/
abbrev branch (s d : FVec Ideal S8448x1024 .f32) : FVec Ideal S8448x1024 .bf16 := truncf .bf16 (mulf s d) bitsLt_bf16_f32

/-- The gradient of a gate's argument. -/
abbrev gate (s d : FVec Ideal S8448x1024 .f32) (y : FVec Ideal S8448x1024 .bf16) : FVec Ideal S8448x1024 .bf16 :=
  truncf .bf16 (mulf (mulf d (extf .f32 y bitsLt_bf16_f32)) (mulf s (subf (broadcastInDim S8448x1024 ![] bcast_S_S8448x1024 (constant S_ .f32 0x3F800000#32)) s))) bitsLt_bf16_f32

/-- The gradient through a branch's own output product. -/
abbrev through (s d : FVec Ideal S8448x1024 .f32) (W : FVec Ideal S512x1024 .bf16) : FVec Ideal S8448x512 .bf16 :=
  truncf .bf16 (Host.dotGeneral dot_S8448x1024_S512x1024_S8448x512_1_1_0_0_n_n none (mulf s d) (extf .f32 W bitsLt_bf16_f32)) bitsLt_bf16_f32

theorem dm_at (D : FVec Ideal S8448x1024 .f32) (WO : FVec Ideal S1024x1024 .bf16) (j : S8448x1024.Idx) :
    dm D WO j = back (fun k => D (ix2 (j 0) k)) (fun q k => WO (ix2 q k)) (j 1) := by
  pointwise [dm, back]

theorem ga_at (PR : FVec Ideal S8448x5120 .bf16) (j : S8448x1024.Idx) :
    ga PR j = Ideal.logistic (PR (ix2 (j 0) ⟨3072 + (j 1).val, by have : (j 1).val < 1024 := (j 1).isLt; omega⟩)) := by
  pointwise [ga, Ideal.logistic]

theorem gb_at (PR : FVec Ideal S8448x5120 .bf16) (j : S8448x1024.Idx) :
    gb PR j = Ideal.logistic (PR (ix2 (j 0) ⟨4096 + (j 1).val, by have : (j 1).val < 1024 := (j 1).isLt; omega⟩)) := by
  pointwise [gb, Ideal.logistic]

theorem branch_at (s d : FVec Ideal S8448x1024 .f32) (z : EReal) (j : S8448x1024.Idx) (h : s j = Ideal.logistic z) : branch s d j = dy (d j) z := by
  pointwise [branch, dy]
  rw [h, mul_comm]

theorem gate_at (s d : FVec Ideal S8448x1024 .f32) (y : FVec Ideal S8448x1024 .bf16) (z : EReal) (j : S8448x1024.Idx) (h : s j = Ideal.logistic z) : gate s d y j = dgate (d j) (y j) z := by
  pointwise [gate, dgate]
  rw [h, mul_assoc (_ * _)]

theorem through_at (s d : FVec Ideal S8448x1024 .f32) (W : FVec Ideal S512x1024 .bf16) (z : Fin 1024 → EReal) (j : S8448x512.Idx) (h : ∀ k, s (ix2 (j 0) k) = Ideal.logistic (z k)) :
    through s d W j = back (fun k => dy (d (ix2 (j 0) k)) (z k)) (fun q k => W (ix2 q k)) (j 1) := by
  pointwise [through, back, dy]
  exact Finset.sum_congr rfl fun k _ => by rw [h, mul_comm (Ideal.logistic _)]

end Cert.Reference6Ideal.Merge

namespace Cert.Kernel6Ideal.Merge

open Idealize.ShloMosaic Idealize.ShloMosaic.TcCoe Idealize.SL.Sem
open Idealize.ShloMosaic.Pipeline (Dat)
open Cert.Kernel6Ideal Cert.Kernel6Ideal.Gen
open Cert.KernelIdeal.NormBwd (rr rdx kdx gterm el kdx_eq_rdx)

/-! ## One grid point's values at an index -/

theorem inv_rms (x : FVec Ideal S256x1024 .f32) (j : S256x1.Idx) : k0_pay2 (F := Ideal) x j = rr fun k => x (ix2 (j 0) k) := by
  pointwise [k0_pay2, rr]

theorem yhat (x : FVec Ideal S256x1024 .f32) (j : S256x1024.Idx) : k0_pay3 (F := Ideal) x j = x j * rr fun k => x (ix2 (j 0) k) := by
  pointwise [k0_pay3, inv_rms]

theorem gain_part (a x : FVec Ideal S256x1024 .f32) (j : S1x1024.Idx) :
    k0_pay4 a x j = ∑ r : Fin 256, a (ix2 r (j 1)) * (x (ix2 r (j 1)) * rr fun k => x (ix2 r k)) := by
  pointwise [k0_pay4, yhat]

theorem gain_step (a p : FVec Ideal S1x1024 .f32) (j : S1x1024.Idx) : k0_pay1 a p j = p j + a j := by
  pointwise [k0_pay1]

theorem dmx_part (a x : FVec Ideal S256x1024 .f32) (g : FVec Ideal S1x1024 .f32) (j : S256x1024.Idx) :
    k0_pay5 (F := Ideal) a x g j = kdx (fun k => a (ix2 (j 0) k)) (fun k => g (ix2 0 k)) (fun k => x (ix2 (j 0) k)) (j 1) := by
  pointwise [k0_pay5, yhat, inv_rms, kdx]

theorem dm_part (a x : FVec Ideal S256x1024 .f32) (g : FVec Ideal S1x1024 .f32) (w : FVec Ideal S1024x1024 .bf16) (j : S256x1024.Idx) :
    k0_pay6 (F := Ideal) a x g w j = back (kdx (fun k => a (ix2 (j 0) k)) (fun k => g (ix2 0 k)) (fun k => x (ix2 (j 0) k))) (fun q k => w (ix2 q k)) (j 1) := by
  pointwise [k0_pay6, dmx_part, back]

theorem dya_part (d : FVec Ideal S256x1024 .f32) (s : FVec Ideal S256x1024 .bf16) (j : S256x1024.Idx) :
    k0_pay10 (F := Ideal) d (k0_pay7 s) j = dy (d (ix2 (j 0) (j 1))) (s (ix2 (j 0) (j 1))) := by
  rw [← eq_ix2 j]
  pointwise [k0_pay10, k0_pay7, dy]

theorem dyb_part (d : FVec Ideal S256x1024 .f32) (s : FVec Ideal S256x1024 .bf16) (j : S256x1024.Idx) :
    k0_pay11 (F := Ideal) d (k0_pay8 s) j = dy (d (ix2 (j 0) (j 1))) (s (ix2 (j 0) (j 1))) := by
  rw [← eq_ix2 j]
  pointwise [k0_pay11, k0_pay8, k0_pay9, dy]

theorem dga_part (d : FVec Ideal S256x1024 .f32) (s y : FVec Ideal S256x1024 .bf16) (j : S256x1024.Idx) :
    k0_pay12 (F := Ideal) d (k0_pay7 s) y j = dgate (d (ix2 (j 0) (j 1))) (y (ix2 (j 0) (j 1))) (s (ix2 (j 0) (j 1))) := by
  rw [← eq_ix2 j]
  pointwise [k0_pay12, k0_pay7, dgate]

theorem dgb_part (d : FVec Ideal S256x1024 .f32) (s y : FVec Ideal S256x1024 .bf16) (j : S256x1024.Idx) :
    k0_pay13 (F := Ideal) d (k0_pay8 s) y j = dgate (d (ix2 (j 0) (j 1))) (y (ix2 (j 0) (j 1))) (s (ix2 (j 0) (j 1))) := by
  rw [← eq_ix2 j]
  pointwise [k0_pay13, k0_pay8, k0_pay9, dgate]

theorem doa_part (d : FVec Ideal S256x1024 .f32) (s : FVec Ideal S256x1024 .bf16) (w : FVec Ideal S512x1024 .bf16) (j : S256x512.Idx) :
    k0_pay14 (F := Ideal) d (k0_pay7 s) w j = back (fun k => dy (d (ix2 (j 0) k)) (s (ix2 (j 0) k))) (fun q k => w (ix2 q k)) (j 1) := by
  pointwise [k0_pay14, dya_part, back]

theorem dob_part (d : FVec Ideal S256x1024 .f32) (s : FVec Ideal S256x1024 .bf16) (w : FVec Ideal S512x1024 .bf16) (j : S256x512.Idx) :
    k0_pay15 (F := Ideal) d (k0_pay8 s) w j = back (fun k => dy (d (ix2 (j 0) k)) (s (ix2 (j 0) k))) (fun q k => w (ix2 q k)) (j 1) := by
  pointwise [k0_pay15, dyb_part, back]

variable (m : (ℓ : Loc nD τ sig) → Buf (Elt Ideal) ℓ)

/-! ## The run's contents -/

/-- The windows' block indices at every grid point. -/
theorem idx : ∀ t : Fin cfg0.N, (win0_0.index t = ![t.val, 0] ∧ win0_1.index t = ![t.val, 0] ∧ win0_2.index t = ![0, 0]
    ∧ win0_3.index t = ![0, 0] ∧ win0_4.index t = ![t.val, 3] ∧ win0_5.index t = ![t.val, 4] ∧ win0_6.index t = ![t.val, 0]
    ∧ win0_7.index t = ![t.val, 0] ∧ win0_8.index t = ![0, 0] ∧ win0_9.index t = ![0, 0])
    ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![0, 0] :=
  (by decide +kernel : ∀ t : Fin grid0.N, _)

/-- The product's gradient of one point's rows. -/
abbrev dmt (c : Dev nD) (t : Fin cfg0.N) : FVec Ideal S256x1024 .f32 := k0_pay6 (F := Ideal) (iblk m c 0 t) (iblk m c 1 t) (iblk m c 2 t) (iblk m c 3 t)

theorem outs (c : Dev nD) (t : Fin cfg0.N) :
    (outsAt0 m c t.val t.isLt).1 = k0_pay5 (F := Ideal) (iblk m c 0 t) (iblk m c 1 t) (iblk m c 2 t)
    ∧ (outsAt0 m c t.val t.isLt).2.1 = k0_pay10 (F := Ideal) (dmt m c t) (k0_pay7 (iblk m c 4 t))
    ∧ (outsAt0 m c t.val t.isLt).2.2.1 = k0_pay11 (F := Ideal) (dmt m c t) (k0_pay8 (iblk m c 5 t))
    ∧ (outsAt0 m c t.val t.isLt).2.2.2.1 = k0_pay12 (F := Ideal) (dmt m c t) (k0_pay7 (iblk m c 4 t)) (iblk m c 6 t)
    ∧ (outsAt0 m c t.val t.isLt).2.2.2.2.1 = k0_pay13 (F := Ideal) (dmt m c t) (k0_pay8 (iblk m c 5 t)) (iblk m c 7 t)
    ∧ (outsAt0 m c t.val t.isLt).2.2.2.2.2.1 = k0_pay14 (F := Ideal) (dmt m c t) (k0_pay7 (iblk m c 4 t)) (iblk m c 8 t)
    ∧ (outsAt0 m c t.val t.isLt).2.2.2.2.2.2.1 = k0_pay15 (F := Ideal) (dmt m c t) (k0_pay8 (iblk m c 5 t)) (iblk m c 9 t) := by
  have hN : t.val < 33 := t.isLt
  by_cases h : t.val % 33 = 0
  · rw [outsAt0_A m c t h (by omega)]
    exact ⟨by frame_out, by frame_out, by frame_out, by frame_out, by frame_out, by frame_out, by frame_out⟩
  · rw [outsAt0_B m c t h (by omega)]
    exact ⟨by frame_out, by frame_out, by frame_out, by frame_out, by frame_out, by frame_out, by frame_out⟩

theorem dg_reset (c : Dev nD) (t : Fin cfg0.N) (h : t.val % 33 = 0) (j : S1x1024.Idx) :
    (outsAt0 m c t.val t.isLt).2.2.2.2.2.2.2 j = 0 + k0_pay4 (F := Ideal) (iblk m c 0 t) (iblk m c 1 t) j := by
  have hN : t.val < 33 := t.isLt
  rw [outsAt0_A m c t h (by omega), zero_add]; frame_out

theorem dg_step (c : Dev nD) (t : Fin cfg0.N) (h : ¬t.val % 33 = 0) (j : S1x1024.Idx) :
    (outsAt0 m c t.val t.isLt).2.2.2.2.2.2.2 j = (outsAt0 m c (t.val - 1) (by omega)).2.2.2.2.2.2.2 j + k0_pay4 (F := Ideal) (iblk m c 0 t) (iblk m c 1 t) j := by
  rw [outsAt0_B m c t h (by omega)]; frame_out; rw [gain_step]

/-- The arguments, by row and column. -/
abbrev P (c : Dev nD) (r : Fin 8448) (q : Fin 1024) : EReal := el (s := S8448x1024) (φ := .f32) (m ((c : Thread nD τ).loc main_arg0)) (ix2 r q)
abbrev X (c : Dev nD) (r : Fin 8448) (q : Fin 1024) : EReal := el (s := S8448x1024) (φ := .f32) (m ((c : Thread nD τ).loc main_arg1)) (ix2 r q)
abbrev G (c : Dev nD) (q : Fin 1024) : EReal := el (s := S1x1024) (φ := .f32) (m ((c : Thread nD τ).loc main_arg2)) (ix2 0 q)
abbrev WO (c : Dev nD) (q : Fin 1024) (k : Fin 1024) : EReal := el (s := S1024x1024) (φ := .bf16) (m ((c : Thread nD τ).loc main_arg3)) (ix2 q k)
abbrev SA (c : Dev nD) (r : Fin 8448) (q : Fin 1024) : EReal := el (s := S8448x5120) (φ := .bf16) (m ((c : Thread nD τ).loc main_arg4)) (ix2 r ⟨3072 + q.val, by omega⟩)
abbrev SB (c : Dev nD) (r : Fin 8448) (q : Fin 1024) : EReal := el (s := S8448x5120) (φ := .bf16) (m ((c : Thread nD τ).loc main_arg4)) (ix2 r ⟨4096 + q.val, by omega⟩)
abbrev YA (c : Dev nD) (r : Fin 8448) (q : Fin 1024) : EReal := el (s := S8448x1024) (φ := .bf16) (m ((c : Thread nD τ).loc main_arg5)) (ix2 r q)
abbrev YB (c : Dev nD) (r : Fin 8448) (q : Fin 1024) : EReal := el (s := S8448x1024) (φ := .bf16) (m ((c : Thread nD τ).loc main_arg6)) (ix2 r q)
abbrev WA (c : Dev nD) (q : Fin 512) (k : Fin 1024) : EReal := el (s := S512x1024) (φ := .bf16) (m ((c : Thread nD τ).loc main_arg7)) (ix2 q k)
abbrev WB (c : Dev nD) (q : Fin 512) (k : Fin 1024) : EReal := el (s := S512x1024) (φ := .bf16) (m ((c : Thread nD τ).loc main_arg8)) (ix2 q k)

theorem p_at (c : Dev nD) (t : Fin cfg0.N) (p : Fin 256) (q : Fin 1024) (r : Fin 8448) (h : r.val = t.val * 256 + p.val) :
    el (s := S256x1024) (φ := .f32) (iblk m c 0 t) (ix2 p q) = P m c r q := by
  simp only [el]
  blk_point [iblk, V, idx t]

theorem x_at (c : Dev nD) (t : Fin cfg0.N) (p : Fin 256) (q : Fin 1024) (r : Fin 8448) (h : r.val = t.val * 256 + p.val) :
    el (s := S256x1024) (φ := .f32) (iblk m c 1 t) (ix2 p q) = X m c r q := by
  simp only [el]
  blk_point [iblk, V, idx t]

theorem g_at (c : Dev nD) (t : Fin cfg0.N) (q : Fin 1024) :
    el (s := S1x1024) (φ := .f32) (iblk m c 2 t) (ix2 0 q) = G m c q := by
  simp only [el]
  blk_point [iblk, V, idx t]

theorem wo_at (c : Dev nD) (t : Fin cfg0.N) (q k : Fin 1024) :
    el (s := S1024x1024) (φ := .bf16) (iblk m c 3 t) (ix2 q k) = WO m c q k := by
  simp only [el]
  blk_point [iblk, V, idx t]

theorem sa_at (c : Dev nD) (t : Fin cfg0.N) (p : Fin 256) (q : Fin 1024) (r : Fin 8448) (h : r.val = t.val * 256 + p.val) :
    el (s := S256x1024) (φ := .bf16) (iblk m c 4 t) (ix2 p q) = SA m c r q := by
  simp only [el]
  blk_point [iblk, V, idx t]

theorem sb_at (c : Dev nD) (t : Fin cfg0.N) (p : Fin 256) (q : Fin 1024) (r : Fin 8448) (h : r.val = t.val * 256 + p.val) :
    el (s := S256x1024) (φ := .bf16) (iblk m c 5 t) (ix2 p q) = SB m c r q := by
  simp only [el]
  blk_point [iblk, V, idx t]

theorem ya_at (c : Dev nD) (t : Fin cfg0.N) (p : Fin 256) (q : Fin 1024) (r : Fin 8448) (h : r.val = t.val * 256 + p.val) :
    el (s := S256x1024) (φ := .bf16) (iblk m c 6 t) (ix2 p q) = YA m c r q := by
  simp only [el]
  blk_point [iblk, V, idx t]

theorem yb_at (c : Dev nD) (t : Fin cfg0.N) (p : Fin 256) (q : Fin 1024) (r : Fin 8448) (h : r.val = t.val * 256 + p.val) :
    el (s := S256x1024) (φ := .bf16) (iblk m c 7 t) (ix2 p q) = YB m c r q := by
  simp only [el]
  blk_point [iblk, V, idx t]

theorem wa_at (c : Dev nD) (t : Fin cfg0.N) (q : Fin 512) (k : Fin 1024) :
    el (s := S512x1024) (φ := .bf16) (iblk m c 8 t) (ix2 q k) = WA m c q k := by
  simp only [el]
  blk_point [iblk, V, idx t]

theorem wb_at (c : Dev nD) (t : Fin cfg0.N) (q : Fin 512) (k : Fin 1024) :
    el (s := S512x1024) (φ := .bf16) (iblk m c 9 t) (ix2 q k) = WB m c q k := by
  simp only [el]
  blk_point [iblk, V, idx t]

/-- One point's row of the norm's gradient. -/
theorem row_at (c : Dev nD) (t : Fin cfg0.N) (p : Fin 256) (r : Fin 8448) (h : r.val = t.val * 256 + p.val) :
    kdx (fun k => el (s := S256x1024) (φ := .f32) (iblk m c 0 t) (ix2 p k)) (fun k => el (s := S1x1024) (φ := .f32) (iblk m c 2 t) (ix2 0 k))
      (fun k => el (s := S256x1024) (φ := .f32) (iblk m c 1 t) (ix2 p k)) = kdx (P m c r) (G m c) (X m c r) := by
  rw [show (fun k => el (s := S256x1024) (φ := .f32) (iblk m c 0 t) (ix2 p k)) = P m c r from funext fun k => p_at m c t p k r h,
    show (fun k => el (s := S1x1024) (φ := .f32) (iblk m c 2 t) (ix2 0 k)) = G m c from funext fun k => g_at m c t k,
    show (fun k => el (s := S256x1024) (φ := .f32) (iblk m c 1 t) (ix2 p k)) = X m c r from funext fun k => x_at m c t p k r h]

/-- The output product's gradient, by row and column. -/
abbrev DM (c : Dev nD) (r : Fin 8448) (q : Fin 1024) : EReal := back (kdx (P m c r) (G m c) (X m c r)) (WO m c) q

theorem dm_at (c : Dev nD) (t : Fin cfg0.N) (p : Fin 256) (q : Fin 1024) (r : Fin 8448) (h : r.val = t.val * 256 + p.val) :
    el (dmt m c t) (ix2 p q) = DM m c r q := by
  show k0_pay6 (F := Ideal) (iblk m c 0 t) (iblk m c 1 t) (iblk m c 2 t) (iblk m c 3 t) (ix2 p q) = _
  rw [dm_part]
  exact congrArg₂ (fun a b => back a b q) (row_at m c t p r h) (funext fun q => funext fun k => wo_at m c t q k)

/-- A block's row and column in its array. -/
theorem row_of (t : Fin cfg0.N) (y0 : Fin 256) (r : Fin 8448) (i0 : ℕ) (e : r.val = i0 * 256 + 1 * y0.val) (hi : i0 = t.val) : r.val = t.val * 256 + y0.val := by
  rw [e, hi, one_mul]

theorem col_of {n : ℕ} (y1 q : Fin n) (i1 : ℕ) (e : q.val = i1 * n + 1 * y1.val) (hi : i1 = 0) : q = y1 :=
  Fin.ext (by rw [e, hi, zero_mul, one_mul, zero_add])

/-- The norm's gradient after the run. -/
theorem dmx_final (c : Dev nD) : (dats m 0 c).arrAt 10 (cfgs 0).N
    = fun j : S8448x1024.Idx => kdx (P m c (j 0)) (G m c) (X m c (j 0)) (j 1) := by
  refine (dats m 0 c).arrAt_eq_of_covers 10 _ (by decide +kernel) fun t hf y => ?_
  blk_simp
  rw [after0_10, (outs m c t).1, dmx_part]
  have h0 := row_of t (y 0) ((win0_10.blk t).view.emb y 0) _ rfl (by rw [(idx t).2.1]; rfl)
  have h1 := col_of (n := 1024) (y 1) ((win0_10.blk t).view.emb y 1) _ rfl (by rw [(idx t).2.1]; rfl)
  rw [h1]
  exact congrFun (row_at m c t (y 0) _ h0) (y 1)

/-- The first gated branch's gradient after the run. -/
theorem dya_final (c : Dev nD) : (dats m 0 c).arrAt 11 (cfgs 0).N
    = fun j : S8448x1024.Idx => dy (DM m c (j 0) (j 1)) (SA m c (j 0) (j 1)) := by
  refine (dats m 0 c).arrAt_eq_of_covers 11 _ (by decide +kernel) fun t hf y => ?_
  blk_simp
  rw [after0_11, (outs m c t).2.1, dya_part]
  have h0 := row_of t (y 0) ((win0_11.blk t).view.emb y 0) _ rfl (by rw [(idx t).2.2.1]; rfl)
  have h1 := col_of (n := 1024) (y 1) ((win0_11.blk t).view.emb y 1) _ rfl (by rw [(idx t).2.2.1]; rfl)
  rw [h1]
  exact congrArg₂ dy (dm_at m c t (y 0) (y 1) _ h0) (sa_at m c t (y 0) (y 1) _ h0)

/-- The second gated branch's gradient after the run. -/
theorem dyb_final (c : Dev nD) : (dats m 0 c).arrAt 12 (cfgs 0).N
    = fun j : S8448x1024.Idx => dy (DM m c (j 0) (j 1)) (SB m c (j 0) (j 1)) := by
  refine (dats m 0 c).arrAt_eq_of_covers 12 _ (by decide +kernel) fun t hf y => ?_
  blk_simp
  rw [after0_12, (outs m c t).2.2.1, dyb_part]
  have h0 := row_of t (y 0) ((win0_12.blk t).view.emb y 0) _ rfl (by rw [(idx t).2.2.2.1]; rfl)
  have h1 := col_of (n := 1024) (y 1) ((win0_12.blk t).view.emb y 1) _ rfl (by rw [(idx t).2.2.2.1]; rfl)
  rw [h1]
  exact congrArg₂ dy (dm_at m c t (y 0) (y 1) _ h0) (sb_at m c t (y 0) (y 1) _ h0)

/-- The first gate's gradient after the run. -/
theorem dga_final (c : Dev nD) : (dats m 0 c).arrAt 13 (cfgs 0).N
    = fun j : S8448x1024.Idx => dgate (DM m c (j 0) (j 1)) (YA m c (j 0) (j 1)) (SA m c (j 0) (j 1)) := by
  refine (dats m 0 c).arrAt_eq_of_covers 13 _ (by decide +kernel) fun t hf y => ?_
  blk_simp
  rw [after0_13, (outs m c t).2.2.2.1, dga_part]
  have h0 := row_of t (y 0) ((win0_13.blk t).view.emb y 0) _ rfl (by rw [(idx t).2.2.2.2.1]; rfl)
  have h1 := col_of (n := 1024) (y 1) ((win0_13.blk t).view.emb y 1) _ rfl (by rw [(idx t).2.2.2.2.1]; rfl)
  rw [h1]
  exact congr (congrArg₂ dgate (dm_at m c t (y 0) (y 1) _ h0) (ya_at m c t (y 0) (y 1) _ h0)) (sa_at m c t (y 0) (y 1) _ h0)

/-- The second gate's gradient after the run. -/
theorem dgb_final (c : Dev nD) : (dats m 0 c).arrAt 14 (cfgs 0).N
    = fun j : S8448x1024.Idx => dgate (DM m c (j 0) (j 1)) (YB m c (j 0) (j 1)) (SB m c (j 0) (j 1)) := by
  refine (dats m 0 c).arrAt_eq_of_covers 14 _ (by decide +kernel) fun t hf y => ?_
  blk_simp
  rw [after0_14, (outs m c t).2.2.2.2.1, dgb_part]
  have h0 := row_of t (y 0) ((win0_14.blk t).view.emb y 0) _ rfl (by rw [(idx t).2.2.2.2.2.1]; rfl)
  have h1 := col_of (n := 1024) (y 1) ((win0_14.blk t).view.emb y 1) _ rfl (by rw [(idx t).2.2.2.2.2.1]; rfl)
  rw [h1]
  exact congr (congrArg₂ dgate (dm_at m c t (y 0) (y 1) _ h0) (yb_at m c t (y 0) (y 1) _ h0)) (sb_at m c t (y 0) (y 1) _ h0)

/-- The first branch's gradient through its output product after the run. -/
theorem doa_final (c : Dev nD) : (dats m 0 c).arrAt 15 (cfgs 0).N
    = fun j : S8448x512.Idx => back (fun k => dy (DM m c (j 0) k) (SA m c (j 0) k)) (WA m c) (j 1) := by
  refine (dats m 0 c).arrAt_eq_of_covers 15 _ (by decide +kernel) fun t hf y => ?_
  blk_simp
  rw [after0_15, (outs m c t).2.2.2.2.2.1, doa_part]
  have h0 := row_of t (y 0) ((win0_15.blk t).view.emb y 0) _ rfl (by rw [(idx t).2.2.2.2.2.2.1]; rfl)
  have h1 := col_of (n := 512) (y 1) ((win0_15.blk t).view.emb y 1) _ rfl (by rw [(idx t).2.2.2.2.2.2.1]; rfl)
  rw [h1]
  exact congrArg₂ (fun a b => back a b (y 1)) (funext fun k => congrArg₂ dy (dm_at m c t (y 0) k _ h0) (sa_at m c t (y 0) k _ h0))
    (funext fun q => funext fun k => wa_at m c t q k)

/-- The second branch's gradient through its output product after the run. -/
theorem dob_final (c : Dev nD) : (dats m 0 c).arrAt 16 (cfgs 0).N
    = fun j : S8448x512.Idx => back (fun k => dy (DM m c (j 0) k) (SB m c (j 0) k)) (WB m c) (j 1) := by
  refine (dats m 0 c).arrAt_eq_of_covers 16 _ (by decide +kernel) fun t hf y => ?_
  blk_simp
  rw [after0_16, (outs m c t).2.2.2.2.2.2, dob_part]
  have h0 := row_of t (y 0) ((win0_16.blk t).view.emb y 0) _ rfl (by rw [(idx t).2.2.2.2.2.2.2.1]; rfl)
  have h1 := col_of (n := 512) (y 1) ((win0_16.blk t).view.emb y 1) _ rfl (by rw [(idx t).2.2.2.2.2.2.2.1]; rfl)
  rw [h1]
  exact congrArg₂ (fun a b => back a b (y 1)) (funext fun k => congrArg₂ dy (dm_at m c t (y 0) k _ h0) (sb_at m c t (y 0) k _ h0))
    (funext fun q => funext fun k => wb_at m c t q k)

/-- The gains' gradient after the run. -/
theorem dg_final (c : Dev nD) : (dats m 0 c).arrAt 17 (cfgs 0).N
    = fun j : S1x1024.Idx => ∑ r : Fin 8448, gterm (P m c) (X m c) (j 1) r := by
  refine (dats m 0 c).arrAt_eq_of_covers 17 _ (by decide +kernel) fun t hf y => ?_
  blk_simp
  have h1 := col_of (n := 1024) (y 1) ((win0_17.blk t).view.emb y 1) _ rfl (by rw [(idx t).2.2.2.2.2.2.2.2]; rfl)
  rw [after0_17, Pipeline.eq_sum_fin_of_reset_step_apply_of_flush (fun n h => (outsAt0 m c n h).2.2.2.2.2.2.2) 33 (fun _ => 0) _
    (fun t h j => dg_reset m c t h j) (fun t h j => dg_step m c t h j) t ((flush0_17 t).mp hf) _, zero_add, h1]
  simp only [gain_part]
  refine Fin.sum_mul_add_congr fun s k hl => ?_
  have hN : t.val < 33 := t.isLt
  have ht : t.val % 33 = 32 := (flush0_17 t).mp hf
  have hs : ∀ (u : Fin cfg0.N), u.val = s.val → ∀ (r : Fin 8448), r.val = s.val * 256 + k.val →
      el (s := S256x1024) (φ := .f32) (iblk m c 0 u) (ix2 k (y 1)) * (el (s := S256x1024) (φ := .f32) (iblk m c 1 u) (ix2 k (y 1))
        * rr fun q => el (s := S256x1024) (φ := .f32) (iblk m c 1 u) (ix2 k q)) = gterm (P m c) (X m c) (y 1) r := fun u hu r hr => by
    have hr' : r.val = u.val * 256 + k.val := by rw [hu, hr]
    rw [p_at m c u k (y 1) r hr', x_at m c u k (y 1) r hr',
      show (fun q => el (s := S256x1024) (φ := .f32) (iblk m c 1 u) (ix2 k q)) = X m c r from funext fun q => x_at m c u k q r hr']
    rfl
  exact hs ⟨_, Pipeline.run_point_lt_of_flush t ht s⟩ (by show _ = s.val; dsimp only; omega) _ rfl

end Cert.Kernel6Ideal.Merge

namespace Cert.Proof.Merge

open Idealize.ShloMosaic Idealize.SL.Sem
open Cert.KernelIdeal.NormBwd (rr rdx kdx gterm el kdx_eq_rdx)
open Cert.Kernel6Ideal.Merge

/-- What the precondition says of the norm's arguments: they are arrays of reals. -/
theorem reals (D X : FVec Ideal Cert.Kernel6Ideal.S8448x1024 .f32) (G : FVec Ideal Cert.Kernel6Ideal.S1x1024 .f32) (W : FVec Ideal Cert.Kernel6Ideal.S1024x1024 .bf16)
    (PR : FVec Ideal Cert.Kernel6Ideal.S8448x5120 .bf16) (YA YB : FVec Ideal Cert.Kernel6Ideal.S8448x1024 .bf16) (WA WB : FVec Ideal Cert.Kernel6Ideal.S512x1024 .bf16)
    (h : Cert.Pre_finite6.fn (F := Ideal) D X G W PR YA YB WA WB = fun _ => 1#1) :
    (∃ f : Cert.Kernel6Ideal.S8448x1024.Idx → ℝ, D = fun i => (f i : EReal)) ∧ (∃ f : Cert.Kernel6Ideal.S8448x1024.Idx → ℝ, X = fun i => (f i : EReal))
    ∧ (∃ f : Cert.Kernel6Ideal.S1x1024.Idx → ℝ, G = fun i => (f i : EReal)) := by
  have h0 := congrFun h default
  obtain ⟨h8, -⟩ := IntOp.andi_eq_one.1 h0
  obtain ⟨h7, -⟩ := IntOp.andi_eq_one.1 h8
  obtain ⟨h6, -⟩ := IntOp.andi_eq_one.1 h7
  obtain ⟨h5, -⟩ := IntOp.andi_eq_one.1 h6
  obtain ⟨h4, -⟩ := IntOp.andi_eq_one.1 h5
  obtain ⟨h3, -⟩ := IntOp.andi_eq_one.1 h4
  obtain ⟨h2, hG⟩ := IntOp.andi_eq_one.1 h3
  obtain ⟨h1, hX⟩ := IntOp.andi_eq_one.1 h2
  obtain ⟨-, hD⟩ := IntOp.andi_eq_one.1 h1
  exact ⟨Reals.reals_of_all _ _ (fun _ => Reals.cinf) _ _ _ _ hD, Reals.reals_of_all _ _ (fun _ => Reals.cinf) _ _ _ _ hX,
    Reals.reals_of_all _ _ (fun _ => Reals.cinf) _ _ _ _ hG⟩

/-- Of real arguments the two programs' norm gradients are one, row by row. -/
theorem dx_eq (D X : FVec Ideal Cert.Kernel6Ideal.S8448x1024 .f32) (G : FVec Ideal Cert.Kernel6Ideal.S1x1024 .f32) (W : FVec Ideal Cert.Kernel6Ideal.S1024x1024 .bf16)
    (PR : FVec Ideal Cert.Kernel6Ideal.S8448x5120 .bf16) (YA YB : FVec Ideal Cert.Kernel6Ideal.S8448x1024 .bf16) (WA WB : FVec Ideal Cert.Kernel6Ideal.S512x1024 .bf16)
    (h : Cert.Pre_finite6.fn (F := Ideal) D X G W PR YA YB WA WB = fun _ => 1#1) (r : Fin 8448) :
    kdx (fun k => el D (ix2 r k)) (fun k => el G (ix2 0 k)) (fun k => el X (ix2 r k)) = rdx (fun k => el D (ix2 r k)) (fun k => el G (ix2 0 k)) (fun k => el X (ix2 r k)) := by
  obtain ⟨⟨f, rfl⟩, ⟨x, rfl⟩, ⟨g, rfl⟩⟩ := reals _ _ _ _ _ _ _ _ _ h
  exact funext fun q => kdx_eq_rdx _ _ _ _

/-- The reference's gradient of the output product, a row of it, is the kernel's. -/
theorem dm_eq (D X : FVec Ideal Cert.Kernel6Ideal.S8448x1024 .f32) (G : FVec Ideal Cert.Kernel6Ideal.S1x1024 .f32) (W : FVec Ideal Cert.Kernel6Ideal.S1024x1024 .bf16)
    (PR : FVec Ideal Cert.Kernel6Ideal.S8448x5120 .bf16) (YA YB : FVec Ideal Cert.Kernel6Ideal.S8448x1024 .bf16) (WA WB : FVec Ideal Cert.Kernel6Ideal.S512x1024 .bf16)
    (h : Cert.Pre_finite6.fn (F := Ideal) D X G W PR YA YB WA WB = fun _ => 1#1) (j : Cert.Reference6Ideal.S8448x1024.Idx) :
    Cert.Reference6Ideal.Merge.dm (Cert.Reference6Ideal.Merge.dmx D X G) W j
      = back (kdx (fun k => el D (ix2 (j 0) k)) (fun k => el G (ix2 0 k)) (fun k => el X (ix2 (j 0) k))) (fun q k => el W (ix2 q k)) (j 1) := by
  exact (Cert.Reference6Ideal.Merge.dm_at _ _ j).trans (congrArg (fun a => back a _ _) (funext fun k => (Cert.Reference6Ideal.Merge.dmx_at D X G (ix2 (j 0) k)).trans (congrFun (dx_eq D X G W PR YA YB WA WB h (j 0)).symm k)))

/-- The kernel's gradient of the output product, of the arguments. -/
abbrev DMf (D X : FVec Ideal Cert.Kernel6Ideal.S8448x1024 .f32) (G : FVec Ideal Cert.Kernel6Ideal.S1x1024 .f32) (W : FVec Ideal Cert.Kernel6Ideal.S1024x1024 .bf16)
    (r : Fin 8448) (q : Fin 1024) : EReal :=
  back (kdx (fun k => el D (ix2 r k)) (fun k => el G (ix2 0 k)) (fun k => el X (ix2 r k))) (fun q k => el W (ix2 q k)) q

theorem dya_eq (D X : FVec Ideal Cert.Kernel6Ideal.S8448x1024 .f32) (G : FVec Ideal Cert.Kernel6Ideal.S1x1024 .f32) (W : FVec Ideal Cert.Kernel6Ideal.S1024x1024 .bf16)
    (PR : FVec Ideal Cert.Kernel6Ideal.S8448x5120 .bf16) (YA YB : FVec Ideal Cert.Kernel6Ideal.S8448x1024 .bf16) (WA WB : FVec Ideal Cert.Kernel6Ideal.S512x1024 .bf16)
    (h : Cert.Pre_finite6.fn (F := Ideal) D X G W PR YA YB WA WB = fun _ => 1#1)
    (D' X' : FVec Ideal Cert.Kernel6Ideal.S8448x1024 .f32) (G' : FVec Ideal Cert.Kernel6Ideal.S1x1024 .f32) (W' : FVec Ideal Cert.Kernel6Ideal.S1024x1024 .bf16)
    (PR' : FVec Ideal Cert.Kernel6Ideal.S8448x5120 .bf16) (YA' YB' : FVec Ideal Cert.Kernel6Ideal.S8448x1024 .bf16) (WA' WB' : FVec Ideal Cert.Kernel6Ideal.S512x1024 .bf16)
    (e : D' = D ∧ X' = X ∧ G' = G ∧ W' = W ∧ PR' = PR ∧ YA' = YA ∧ YB' = YB ∧ WA' = WA ∧ WB' = WB) (j : Cert.Reference6Ideal.S8448x1024.Idx) :
    Cert.Reference6Ideal.Merge.branch (Cert.Reference6Ideal.Merge.ga PR') (Cert.Reference6Ideal.Merge.dm (Cert.Reference6Ideal.Merge.dmx D' X' G') W') j = dy (DMf D X G W (j 0) (j 1)) (el PR (ix2 (j 0) ⟨3072 + (j 1).val, by have : (j 1).val < 1024 := (j 1).isLt; omega⟩)) := by
  obtain ⟨rfl, rfl, rfl, rfl, rfl, rfl, rfl, rfl, rfl⟩ := e
  exact (Cert.Reference6Ideal.Merge.branch_at _ _ _ j (Cert.Reference6Ideal.Merge.ga_at PR' j)).trans (congrArg (fun d => dy d _) (dm_eq D' X' G' W' PR' YA' YB' WA' WB' h j))

theorem dyb_eq (D X : FVec Ideal Cert.Kernel6Ideal.S8448x1024 .f32) (G : FVec Ideal Cert.Kernel6Ideal.S1x1024 .f32) (W : FVec Ideal Cert.Kernel6Ideal.S1024x1024 .bf16)
    (PR : FVec Ideal Cert.Kernel6Ideal.S8448x5120 .bf16) (YA YB : FVec Ideal Cert.Kernel6Ideal.S8448x1024 .bf16) (WA WB : FVec Ideal Cert.Kernel6Ideal.S512x1024 .bf16)
    (h : Cert.Pre_finite6.fn (F := Ideal) D X G W PR YA YB WA WB = fun _ => 1#1)
    (D' X' : FVec Ideal Cert.Kernel6Ideal.S8448x1024 .f32) (G' : FVec Ideal Cert.Kernel6Ideal.S1x1024 .f32) (W' : FVec Ideal Cert.Kernel6Ideal.S1024x1024 .bf16)
    (PR' : FVec Ideal Cert.Kernel6Ideal.S8448x5120 .bf16) (YA' YB' : FVec Ideal Cert.Kernel6Ideal.S8448x1024 .bf16) (WA' WB' : FVec Ideal Cert.Kernel6Ideal.S512x1024 .bf16)
    (e : D' = D ∧ X' = X ∧ G' = G ∧ W' = W ∧ PR' = PR ∧ YA' = YA ∧ YB' = YB ∧ WA' = WA ∧ WB' = WB) (j : Cert.Reference6Ideal.S8448x1024.Idx) :
    Cert.Reference6Ideal.Merge.branch (Cert.Reference6Ideal.Merge.gb PR') (Cert.Reference6Ideal.Merge.dm (Cert.Reference6Ideal.Merge.dmx D' X' G') W') j = dy (DMf D X G W (j 0) (j 1)) (el PR (ix2 (j 0) ⟨4096 + (j 1).val, by have : (j 1).val < 1024 := (j 1).isLt; omega⟩)) := by
  obtain ⟨rfl, rfl, rfl, rfl, rfl, rfl, rfl, rfl, rfl⟩ := e
  exact (Cert.Reference6Ideal.Merge.branch_at _ _ _ j (Cert.Reference6Ideal.Merge.gb_at PR' j)).trans (congrArg (fun d => dy d _) (dm_eq D' X' G' W' PR' YA' YB' WA' WB' h j))

theorem dga_eq (D X : FVec Ideal Cert.Kernel6Ideal.S8448x1024 .f32) (G : FVec Ideal Cert.Kernel6Ideal.S1x1024 .f32) (W : FVec Ideal Cert.Kernel6Ideal.S1024x1024 .bf16)
    (PR : FVec Ideal Cert.Kernel6Ideal.S8448x5120 .bf16) (YA YB : FVec Ideal Cert.Kernel6Ideal.S8448x1024 .bf16) (WA WB : FVec Ideal Cert.Kernel6Ideal.S512x1024 .bf16)
    (h : Cert.Pre_finite6.fn (F := Ideal) D X G W PR YA YB WA WB = fun _ => 1#1)
    (D' X' : FVec Ideal Cert.Kernel6Ideal.S8448x1024 .f32) (G' : FVec Ideal Cert.Kernel6Ideal.S1x1024 .f32) (W' : FVec Ideal Cert.Kernel6Ideal.S1024x1024 .bf16)
    (PR' : FVec Ideal Cert.Kernel6Ideal.S8448x5120 .bf16) (YA' YB' : FVec Ideal Cert.Kernel6Ideal.S8448x1024 .bf16) (WA' WB' : FVec Ideal Cert.Kernel6Ideal.S512x1024 .bf16)
    (e : D' = D ∧ X' = X ∧ G' = G ∧ W' = W ∧ PR' = PR ∧ YA' = YA ∧ YB' = YB ∧ WA' = WA ∧ WB' = WB) (j : Cert.Reference6Ideal.S8448x1024.Idx) :
    Cert.Reference6Ideal.Merge.gate (Cert.Reference6Ideal.Merge.ga PR') (Cert.Reference6Ideal.Merge.dm (Cert.Reference6Ideal.Merge.dmx D' X' G') W') YA' j = dgate (DMf D X G W (j 0) (j 1)) (el YA j) (el PR (ix2 (j 0) ⟨3072 + (j 1).val, by have : (j 1).val < 1024 := (j 1).isLt; omega⟩)) := by
  obtain ⟨rfl, rfl, rfl, rfl, rfl, rfl, rfl, rfl, rfl⟩ := e
  exact (Cert.Reference6Ideal.Merge.gate_at _ _ YA' _ j (Cert.Reference6Ideal.Merge.ga_at PR' j)).trans (congrArg (fun d => dgate d _ _) (dm_eq D' X' G' W' PR' YA' YB' WA' WB' h j))

theorem dgb_eq (D X : FVec Ideal Cert.Kernel6Ideal.S8448x1024 .f32) (G : FVec Ideal Cert.Kernel6Ideal.S1x1024 .f32) (W : FVec Ideal Cert.Kernel6Ideal.S1024x1024 .bf16)
    (PR : FVec Ideal Cert.Kernel6Ideal.S8448x5120 .bf16) (YA YB : FVec Ideal Cert.Kernel6Ideal.S8448x1024 .bf16) (WA WB : FVec Ideal Cert.Kernel6Ideal.S512x1024 .bf16)
    (h : Cert.Pre_finite6.fn (F := Ideal) D X G W PR YA YB WA WB = fun _ => 1#1)
    (D' X' : FVec Ideal Cert.Kernel6Ideal.S8448x1024 .f32) (G' : FVec Ideal Cert.Kernel6Ideal.S1x1024 .f32) (W' : FVec Ideal Cert.Kernel6Ideal.S1024x1024 .bf16)
    (PR' : FVec Ideal Cert.Kernel6Ideal.S8448x5120 .bf16) (YA' YB' : FVec Ideal Cert.Kernel6Ideal.S8448x1024 .bf16) (WA' WB' : FVec Ideal Cert.Kernel6Ideal.S512x1024 .bf16)
    (e : D' = D ∧ X' = X ∧ G' = G ∧ W' = W ∧ PR' = PR ∧ YA' = YA ∧ YB' = YB ∧ WA' = WA ∧ WB' = WB) (j : Cert.Reference6Ideal.S8448x1024.Idx) :
    Cert.Reference6Ideal.Merge.gate (Cert.Reference6Ideal.Merge.gb PR') (Cert.Reference6Ideal.Merge.dm (Cert.Reference6Ideal.Merge.dmx D' X' G') W') YB' j = dgate (DMf D X G W (j 0) (j 1)) (el YB j) (el PR (ix2 (j 0) ⟨4096 + (j 1).val, by have : (j 1).val < 1024 := (j 1).isLt; omega⟩)) := by
  obtain ⟨rfl, rfl, rfl, rfl, rfl, rfl, rfl, rfl, rfl⟩ := e
  exact (Cert.Reference6Ideal.Merge.gate_at _ _ YB' _ j (Cert.Reference6Ideal.Merge.gb_at PR' j)).trans (congrArg (fun d => dgate d _ _) (dm_eq D' X' G' W' PR' YA' YB' WA' WB' h j))

theorem doa_eq (D X : FVec Ideal Cert.Kernel6Ideal.S8448x1024 .f32) (G : FVec Ideal Cert.Kernel6Ideal.S1x1024 .f32) (W : FVec Ideal Cert.Kernel6Ideal.S1024x1024 .bf16)
    (PR : FVec Ideal Cert.Kernel6Ideal.S8448x5120 .bf16) (YA YB : FVec Ideal Cert.Kernel6Ideal.S8448x1024 .bf16) (WA WB : FVec Ideal Cert.Kernel6Ideal.S512x1024 .bf16)
    (h : Cert.Pre_finite6.fn (F := Ideal) D X G W PR YA YB WA WB = fun _ => 1#1)
    (D' X' : FVec Ideal Cert.Kernel6Ideal.S8448x1024 .f32) (G' : FVec Ideal Cert.Kernel6Ideal.S1x1024 .f32) (W' : FVec Ideal Cert.Kernel6Ideal.S1024x1024 .bf16)
    (PR' : FVec Ideal Cert.Kernel6Ideal.S8448x5120 .bf16) (YA' YB' : FVec Ideal Cert.Kernel6Ideal.S8448x1024 .bf16) (WA' WB' : FVec Ideal Cert.Kernel6Ideal.S512x1024 .bf16)
    (e : D' = D ∧ X' = X ∧ G' = G ∧ W' = W ∧ PR' = PR ∧ YA' = YA ∧ YB' = YB ∧ WA' = WA ∧ WB' = WB) (j : Cert.Reference6Ideal.S8448x512.Idx) :
    Cert.Reference6Ideal.Merge.through (Cert.Reference6Ideal.Merge.ga PR') (Cert.Reference6Ideal.Merge.dm (Cert.Reference6Ideal.Merge.dmx D' X' G') W') WA' j = back (fun k => dy (DMf D X G W (j 0) k) (el PR (ix2 (j 0) ⟨3072 + (k).val, by have : (k).val < 1024 := (k).isLt; omega⟩))) (fun q k => el WA (ix2 q k)) (j 1) := by
  obtain ⟨rfl, rfl, rfl, rfl, rfl, rfl, rfl, rfl, rfl⟩ := e
  exact (Cert.Reference6Ideal.Merge.through_at _ _ WA' _ j (fun k => Cert.Reference6Ideal.Merge.ga_at PR' (ix2 (j 0) k))).trans
    (congrArg (fun d => back d _ _) (funext fun k => congrArg (fun d => dy d _) (dm_eq D' X' G' W' PR' YA' YB' WA' WB' h (ix2 (j 0) k))))

theorem dob_eq (D X : FVec Ideal Cert.Kernel6Ideal.S8448x1024 .f32) (G : FVec Ideal Cert.Kernel6Ideal.S1x1024 .f32) (W : FVec Ideal Cert.Kernel6Ideal.S1024x1024 .bf16)
    (PR : FVec Ideal Cert.Kernel6Ideal.S8448x5120 .bf16) (YA YB : FVec Ideal Cert.Kernel6Ideal.S8448x1024 .bf16) (WA WB : FVec Ideal Cert.Kernel6Ideal.S512x1024 .bf16)
    (h : Cert.Pre_finite6.fn (F := Ideal) D X G W PR YA YB WA WB = fun _ => 1#1)
    (D' X' : FVec Ideal Cert.Kernel6Ideal.S8448x1024 .f32) (G' : FVec Ideal Cert.Kernel6Ideal.S1x1024 .f32) (W' : FVec Ideal Cert.Kernel6Ideal.S1024x1024 .bf16)
    (PR' : FVec Ideal Cert.Kernel6Ideal.S8448x5120 .bf16) (YA' YB' : FVec Ideal Cert.Kernel6Ideal.S8448x1024 .bf16) (WA' WB' : FVec Ideal Cert.Kernel6Ideal.S512x1024 .bf16)
    (e : D' = D ∧ X' = X ∧ G' = G ∧ W' = W ∧ PR' = PR ∧ YA' = YA ∧ YB' = YB ∧ WA' = WA ∧ WB' = WB) (j : Cert.Reference6Ideal.S8448x512.Idx) :
    Cert.Reference6Ideal.Merge.through (Cert.Reference6Ideal.Merge.gb PR') (Cert.Reference6Ideal.Merge.dm (Cert.Reference6Ideal.Merge.dmx D' X' G') W') WB' j = back (fun k => dy (DMf D X G W (j 0) k) (el PR (ix2 (j 0) ⟨4096 + (k).val, by have : (k).val < 1024 := (k).isLt; omega⟩))) (fun q k => el WB (ix2 q k)) (j 1) := by
  obtain ⟨rfl, rfl, rfl, rfl, rfl, rfl, rfl, rfl, rfl⟩ := e
  exact (Cert.Reference6Ideal.Merge.through_at _ _ WB' _ j (fun k => Cert.Reference6Ideal.Merge.gb_at PR' (ix2 (j 0) k))).trans
    (congrArg (fun d => back d _ _) (funext fun k => congrArg (fun d => dy d _) (dm_eq D' X' G' W' PR' YA' YB' WA' WB' h (ix2 (j 0) k))))

theorem algebraic : Cert.algebraic_Kernel6Ideal_Reference6Ideal_pre_finite6 := by
  intro m ρ m' ρ' hpre hag
  refine ⟨fun c => (Cert.Kernel6Ideal.Gen.dats m 0 c).arrAt 10 (Cert.Kernel6Ideal.cfgs 0).N,
    fun c => (Cert.Kernel6Ideal.Gen.dats m 0 c).arrAt 11 (Cert.Kernel6Ideal.cfgs 0).N,
    fun c => (Cert.Kernel6Ideal.Gen.dats m 0 c).arrAt 12 (Cert.Kernel6Ideal.cfgs 0).N,
    fun c => (Cert.Kernel6Ideal.Gen.dats m 0 c).arrAt 13 (Cert.Kernel6Ideal.cfgs 0).N,
    fun c => (Cert.Kernel6Ideal.Gen.dats m 0 c).arrAt 14 (Cert.Kernel6Ideal.cfgs 0).N,
    fun c => (Cert.Kernel6Ideal.Gen.dats m 0 c).arrAt 15 (Cert.Kernel6Ideal.cfgs 0).N,
    fun c => (Cert.Kernel6Ideal.Gen.dats m 0 c).arrAt 16 (Cert.Kernel6Ideal.cfgs 0).N,
    fun c => (Cert.Kernel6Ideal.Gen.dats m 0 c).arrAt 17 (Cert.Kernel6Ideal.cfgs 0).N,
    Cert.Kernel6Ideal.Value.run_blocks m ρ,
    (θ_run Cert.Reference6Ideal.defs _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2.1.trans ?_, (h c).2.2.2.2.2.2.2.2⟩) (Cert.Reference6Ideal.Value.run m' ρ')⟩
  · refine Eq.trans ?_ (Cert.Kernel6Ideal.Merge.dmx_final m c).symm
    funext j
    refine (Cert.Reference6Ideal.Merge.dmx_at _ _ _ j).trans ?_
    obtain ⟨h0, h1, h2, h3, h4, h5, h6, h7, h8⟩ := hag c
    rw [h0, h1, h2]
    exact (congrFun (dx_eq _ _ _ _ _ _ _ _ _ (hpre c) (j 0)) (j 1)).symm
  · refine Eq.trans ?_ (Cert.Kernel6Ideal.Merge.dya_final m c).symm
    funext j
    exact dya_eq _ _ _ _ _ _ _ _ _ (hpre c) _ _ _ _ _ _ _ _ _ (hag c) j
  · refine Eq.trans ?_ (Cert.Kernel6Ideal.Merge.dyb_final m c).symm
    funext j
    exact dyb_eq _ _ _ _ _ _ _ _ _ (hpre c) _ _ _ _ _ _ _ _ _ (hag c) j
  · refine Eq.trans ?_ (Cert.Kernel6Ideal.Merge.dga_final m c).symm
    funext j
    exact (dga_eq _ _ _ _ _ _ _ _ _ (hpre c) _ _ _ _ _ _ _ _ _ (hag c) j).trans (congrArg (fun i => dgate _ (el _ i) _) (eq_ix2 j))
  · refine Eq.trans ?_ (Cert.Kernel6Ideal.Merge.dgb_final m c).symm
    funext j
    exact (dgb_eq _ _ _ _ _ _ _ _ _ (hpre c) _ _ _ _ _ _ _ _ _ (hag c) j).trans (congrArg (fun i => dgate _ (el _ i) _) (eq_ix2 j))
  · refine Eq.trans ?_ (Cert.Kernel6Ideal.Merge.doa_final m c).symm
    funext j
    exact doa_eq _ _ _ _ _ _ _ _ _ (hpre c) _ _ _ _ _ _ _ _ _ (hag c) j
  · refine Eq.trans ?_ (Cert.Kernel6Ideal.Merge.dob_final m c).symm
    funext j
    exact dob_eq _ _ _ _ _ _ _ _ _ (hpre c) _ _ _ _ _ _ _ _ _ (hag c) j
  · refine Eq.trans ?_ (Cert.Kernel6Ideal.Merge.dg_final m c).symm
    funext j
    refine (Cert.Reference6Ideal.Merge.dg_at _ _ j).trans ?_
    obtain ⟨h0, h1, h2, h3, h4, h5, h6, h7, h8⟩ := hag c
    rw [h0, h1]

end Cert.Proof.Merge

end
-- ==== Proof.UpFrameIdeal.lean ====
/- The run of the up projection's call: what each grid point leaves in the two results' buffers. The normalised rows are written at the first
   column block of a row block and read at the others, where their buffer is left as it was found. -/
module

public import proofs.«01_k».proof.Proof.Gen.Kernel7Ideal.Frame
public import proofs.«01_k».proof.Proof.Gen.Kernel7Ideal.Skeleton
public import Idealize.ShloMosaic.Lib.Claim

@[expose] public section

set_option maxRecDepth 16384

noncomputable section

namespace Cert.Kernel7Ideal.Rms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

/-- The first column block of a row block is where the normalised rows are written. -/
theorem hcond : ∀ t : Fin cfg0.N, k0_cond1 (grid0.coords t) = 1#1 ↔ t.val % 4 = 0 :=
  (by decide +kernel : ∀ t : Fin grid0.N, k0_cond1 (grid0.coords t) = 1#1 ↔ t.val % 4 = 0)

/-- A buffer of the product's block and one of the normalised rows'. -/
abbrev VO3 : View sig .tc .vmem S768x1408 .bf16 := (Memref.whole cc0_stg3_0 : Memref sig .tc .vmem S768x1408 .bf16).view
abbrev VO4 : View sig .tc .vmem S768x1024 .bf16 := (Memref.whole cc0_stg4_0 : Memref sig .tc .vmem S768x1024 .bf16).view

/-- Each window's current buffer at a point. -/
abbrev ms0 (t : Fin cfg0.N) : Memref sig .tc .vmem S768x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1408 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x1408 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S768x1024 .bf16 := win0_4.stage (cfg0.slots t 4)
abbrev hs4 (t : Fin cfg0.N) : (ms4 t).IsWhole := hstage0_4 ((cfg0.slots t 4).cast nbuf0_4)

/-! ## The body at a first column block and at another one -/

set_option maxHeartbeats 1000000 in
/-- At a first column block the body writes both results' buffers: the pieces it writes. -/
noncomputable def runA (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S768x1408 .bf16) (harg5 : arg5.IsWhole) (arg6 : Memref sig .tc .vmem S768x1024 .bf16) (harg6 : arg6.IsWhole) (hc0 : k0_cond1 i = 1#1)
    (x0 : Vec F S768x1024 .f32) (x1 : Vec F S1x1024 .f32) (x2 : Vec F S1024x1408 .bf16) :
    Σ' (L3 : List (View.Piece (Elt F) S768x1408 .bf16)), { L4 : List (View.Piece (Elt F) S768x1024 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_up_proj i arg2 harg2 arg3 harg3 arg4 harg4 arg5 harg5 arg6 harg6) K } := by
  refine ⟨?_, ?_, fun E K => ?run⟩
  case run =>
    simp only [cc0_up_proj_eq_skeleton]; unfold cc0_up_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 1000000 in
/-- At another column block the body writes the product's buffer and leaves the normalised rows' as it found it. -/
noncomputable def runB (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S768x1408 .bf16) (harg5 : arg5.IsWhole) (arg6 : Memref sig .tc .vmem S768x1024 .bf16) (harg6 : arg6.IsWhole) (hc0 : ¬k0_cond1 i = 1#1)
    (x0 : Vec F S768x1024 .f32) (x1 : Vec F S1x1024 .f32) (x2 : Vec F S1024x1408 .bf16) (xo : Vec F S768x1024 .bf16) :
    { L3 : List (View.Piece (Elt F) S768x1408 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xo) -∗ K ⟨⟩))
          ⊢ wp frame (wpE (defs₀ (F := F)) Variants.none c none) E (cc0_up_proj i arg2 harg2 arg3 harg3 arg4 harg4 arg5 harg5 arg6 harg6) K } := by
  refine ⟨?_, fun E K => ?run⟩
  case run =>
    simp only [cc0_up_proj_eq_skeleton]; unfold cc0_up_proj_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact H4

variable (m : (ℓ : Loc nD τ sig) → Buf (Elt F) ℓ) (ρ : Dev nD → PrngReg)

/-- The two runs at a point's buffers and blocks. -/
abbrev ptA (c : Dev nD) (t : Fin cfg0.N) (h : t.val % 4 = 0) :=
  runA (F := F) c (grid0.coords t) (ms0 t) (hs0 t) (ms1 t) (hs1 t) (ms2 t) (hs2 t) (ms3 t) (hs3 t) (ms4 t) (hs4 t) ((hcond t).mpr h) (iblk m c 0 t) (iblk m c 1 t) (iblk m c 2 t)
abbrev ptB (c : Dev nD) (t : Fin cfg0.N) (h : ¬t.val % 4 = 0) (xo : Vec F S768x1024 .bf16) :=
  runB (F := F) c (grid0.coords t) (ms0 t) (hs0 t) (ms1 t) (hs1 t) (ms2 t) (hs2 t) (ms3 t) (hs3 t) (ms4 t) (hs4 t) (fun e => h ((hcond t).mp e)) (iblk m c 0 t) (iblk m c 1 t) (iblk m c 2 t) xo

theorem coverA3 (c : Dev nD) (t : Fin cfg0.N) (h : t.val % 4 = 0) (y : S768x1408.Idx) : ∃ pc ∈ (ptA m c t h).1, y ∈ pc.1.set :=
  View.cover_of_tiledL (ptA m c t h).1 S768x1408.size (by sl_kernel_rfl) y

theorem coverA4 (c : Dev nD) (t : Fin cfg0.N) (h : t.val % 4 = 0) (y : S768x1024.Idx) : ∃ pc ∈ (ptA m c t h).2.1, y ∈ pc.1.set :=
  View.cover_of_tiledL (ptA m c t h).2.1 S768x1024.size (by sl_kernel_rfl) y

theorem coverB3 (c : Dev nD) (t : Fin cfg0.N) (h : ¬t.val % 4 = 0) (xo : Vec F S768x1024 .bf16) (y : S768x1408.Idx) : ∃ pc ∈ (ptB m c t h xo).1, y ∈ pc.1.set :=
  View.cover_of_tiledL (ptB m c t h xo).1 S768x1408.size (by sl_kernel_rfl) y

/-- What a point leaves in the product's buffer and in the normalised rows'. -/
def outA3 (c : Dev nD) (t : Fin cfg0.N) (h : t.val % 4 = 0) : Vec F S768x1408 .bf16 := VO3.read (Elt F) (VO3.writes (Elt F) VO3.junk (ptA m c t h).1)
def outA4 (c : Dev nD) (t : Fin cfg0.N) (h : t.val % 4 = 0) : Vec F S768x1024 .bf16 := VO4.read (Elt F) (VO4.writes (Elt F) VO4.junk (ptA m c t h).2.1)
def outB3 (c : Dev nD) (t : Fin cfg0.N) (h : ¬t.val % 4 = 0) (xo : Vec F S768x1024 .bf16) : Vec F S768x1408 .bf16 := VO3.read (Elt F) (VO3.writes (Elt F) VO3.junk (ptB m c t h xo).1)

/-- What the two buffers hold after each point. -/
def outs (c : Dev nD) : (n : ℕ) → n < cfg0.N → Vec F S768x1408 .bf16 × Vec F S768x1024 .bf16
  | 0, hn => (outA3 m c ⟨0, hn⟩ rfl, outA4 m c ⟨0, hn⟩ rfl)
  | n + 1, hn =>
    if h : (n + 1) % 4 = 0 then (outA3 m c ⟨n + 1, hn⟩ h, outA4 m c ⟨n + 1, hn⟩ h)
    else (outB3 m c ⟨n + 1, hn⟩ h (outs c n (by omega)).2, (outs c n (by omega)).2)

theorem outs_A (c : Dev nD) (t : Fin cfg0.N) (h : t.val % 4 = 0) : outs m c t.val t.isLt = (outA3 m c t h, outA4 m c t h) := by
  obtain ⟨n, hn⟩ := t
  cases n with
  | zero => exact rfl
  | succ n => exact (dif_pos h).trans rfl

theorem outs_B (c : Dev nD) (t : Fin cfg0.N) (h : ¬t.val % 4 = 0) :
    outs m c t.val t.isLt = (outB3 m c t h (outs m c (t.val - 1) (Nat.lt_of_le_of_lt (Nat.sub_le _ _) t.isLt)).2, (outs m c (t.val - 1) (Nat.lt_of_le_of_lt (Nat.sub_le _ _) t.isLt)).2) := by
  obtain ⟨n, hn⟩ := t
  cases n with
  | zero => exact absurd (Nat.zero_mod _) h
  | succ n => exact (dif_neg h).trans rfl

/-- Each buffer on its own. -/
theorem outs_A1 (c : Dev nD) (t : Fin cfg0.N) (h : t.val % 4 = 0) : (outs m c t.val t.isLt).1 = outA3 m c t h := by rw [outs_A m c t h]
theorem outs_A2 (c : Dev nD) (t : Fin cfg0.N) (h : t.val % 4 = 0) : (outs m c t.val t.isLt).2 = outA4 m c t h := by rw [outs_A m c t h]
theorem outs_B1 (c : Dev nD) (t : Fin cfg0.N) (h : ¬t.val % 4 = 0) :
    (outs m c t.val t.isLt).1 = outB3 m c t h (outs m c (t.val - 1) (Nat.lt_of_le_of_lt (Nat.sub_le _ _) t.isLt)).2 := by rw [outs_B m c t h]
theorem outs_B2 (c : Dev nD) (t : Fin cfg0.N) (h : ¬t.val % 4 = 0) :
    (outs m c t.val t.isLt).2 = (outs m c (t.val - 1) (Nat.lt_of_le_of_lt (Nat.sub_le _ _) t.isLt)).2 := by rw [outs_B m c t h]

/-! ## The run's contents -/

/-- What the arrays hold before and each buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outs m c t.val t.isLt).1
    | ⟨4, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outs m c t.val t.isLt).1 := by dsimp only [dats]
theorem after4 (c : Dev nD) (t : Fin cfg0.N) : (dats m 0 c).after 4 t = (outs m c t.val t.isLt).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Whether a point leaves the normalised rows' buffer as it found it. -/
theorem idle_A (t : Fin cfg0.N) (h : t.val % 4 = 0) : cfg0.idle 4 (cfg0.grid.coords t) = false := by
  show (!(k0_cond1 (grid0.coords t) == 1#1)) = false
  rw [(hcond t).mpr h]; rfl
theorem idle_B (t : Fin cfg0.N) (h : ¬t.val % 4 = 0) : cfg0.idle 4 (cfg0.grid.coords t) = true := by
  show (!(k0_cond1 (grid0.coords t) == 1#1)) = true
  rw [beq_eq_false_iff_ne.mpr fun e => h ((hcond t).mp e)]; rfl

/-- At another column block the normalised rows' buffer holds what the row block's first point wrote. -/
theorem before4 (c : Dev nD) : ∀ (n : ℕ) (t : Fin cfg0.N), t.val = n → ∀ (h : ¬t.val % 4 = 0) (d),
    (dats m 0 c).before 4 t d = (outs m c (t.val - 1) (Nat.lt_of_le_of_lt (Nat.sub_le _ _) t.isLt)).2 := by
  intro n
  induction n with
  | zero => intro t ht h; exact absurd (by rw [ht]) h
  | succ n ih =>
    intro t ht h d
    have hf : (cfg0.win 4).flush ⟨t.val - 1, Nat.lt_of_le_of_lt (Nat.sub_le _ _) t.isLt⟩ = false :=
      Bool.eq_false_iff.mpr fun e => by have := (flush0_4 _).mp e; dsimp only at this; omega
    by_cases h1 : (t.val - 1) % 4 = 0
    · rw [Dat.before_of_pos _ 4 t (by omega) ((cfg0.win 4).fetch_out rfl t), hf, if_neg Bool.false_ne_true]
      unfold Dat.left
      rw [idle_A ⟨t.val - 1, Nat.lt_of_le_of_lt (Nat.sub_le _ _) t.isLt⟩ h1]
      unfold Dat.kept
      exact (Window.fill_cut _ _ _).trans (after4 m c _)
    · rw [Dat.before_of_pos _ 4 t (by omega) ((cfg0.win 4).fetch_out rfl t), hf, if_neg Bool.false_ne_true]
      unfold Dat.left
      rw [idle_B ⟨t.val - 1, Nat.lt_of_le_of_lt (Nat.sub_le _ _) t.isLt⟩ h1]
      refine (ih ⟨t.val - 1, Nat.lt_of_le_of_lt (Nat.sub_le _ _) t.isLt⟩ (by show t.val - 1 = n; omega) h1 d).trans ?_
      exact (congrArg Prod.snd (outs_B m c ⟨t.val - 1, Nat.lt_of_le_of_lt (Nat.sub_le _ _) t.isLt⟩ h1)).symm

/-! ## The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (dats m 0 c).leavesExact 4 t)

/-- What the body must leave in the normalised rows' buffer, at each kind of point. -/
theorem leaves_A (c : Dev nD) (t : Fin cfg0.N) (h : t.val % 4 = 0) :
    (dats m 0 c).leavesExact 4 t = owns (c : Thread nD τ) (ms4 t) fullShare (outA4 m c t h) := by
  unfold Dat.leavesExact
  rw [idle_A t h]
  show owns (c : Thread nD τ) (ms4 t) fullShare ((dats m 0 c).after 4 t) = _
  rw [after4, outs_A m c t h]

theorem leaves_B (c : Dev nD) (t : Fin cfg0.N) (h : ¬t.val % 4 = 0) :
    owns (c : Thread nD τ) (ms4 t) fullShare ((outs m c (t.val - 1) (Nat.lt_of_le_of_lt (Nat.sub_le _ _) t.isLt)).2) ⊢ ((dats m 0 c).leavesExact 4 t : sProp (MT nD τ sig Unit (Elt F) ℕ (UR sig nD τ) ℕ)) := by
  unfold Dat.leavesExact
  rw [idle_B t h]
  cases hf : (cfg0.win 4).flush t
  · show _ ⊢ (iprop(∃ d, owns (c : Thread nD τ) (ms4 t) fullShare ((dats m 0 c).before 4 t d)) : sProp (MT nD τ sig Unit (Elt F) ℕ (UR sig nD τ) ℕ))
    simp only [before4 m c t.val t rfl h]
    iintro H
    iexists (fun _ => (outs m c (t.val - 1) (Nat.lt_of_le_of_lt (Nat.sub_le _ _) t.isLt)).2 (fun a => ⟨0, by revert a; decide⟩))
    iexact H
  · show _ ⊢ owns (c : Thread nD τ) (ms4 t) fullShare ((dats m 0 c).after 4 t)
    rw [after4, outs_B m c t h]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h0 : t.val % 4 = 0
  · rw [leaves_A m c t h0, outs_A m c t h0]
    unfold outA3 outA4; (try dsimp only)
    iintro ⟨HΦ, Ho, ⟨%d0, H0⟩, ⟨%d1, H1⟩, ⟨%d2, H2⟩, ⟨%d3, H3⟩, ⟨%d4, H4⟩⟩
    iapply ((ptA m c t h0).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverA3 m c t h0)
    unfold owns; iexists _; isplitr
    swap; · iexact H4
    ipureintro; exact View.read_writes_of_cover _ _ _ _ _ (coverA4 m c t h0)
  · rw [outs_B m c t h0]
    simp only [before4 m c t.val t rfl h0]
    unfold outB3; (try dsimp only)
    iintro ⟨HΦ, Ho, ⟨%d0, H0⟩, ⟨%d1, H1⟩, ⟨%d2, H2⟩, ⟨%d3, H3⟩, ⟨%d4, H4⟩⟩
    iapply ((ptB m c t h0 _).2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB3 m c t h0 _)
    iapply (leaves_B m c t h0)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every execution ends with the arguments unchanged and no semaphore left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- Every execution ends with each result's array as the points leave it and the arguments unchanged. -/
theorem run_blocks : θ_run defs (onTc (τ := τ) (main (F := F))) ⟨m, fun _ => 0, ρ⟩ fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1 3, (h c).1 4,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

end Cert.Kernel7Ideal.Rms

end
-- ==== Proof.InFrameIdeal.lean ====
/- The run of the input projection's call: what each grid point leaves in the two results' buffers. The normalised rows are written at the first
   column block of a row block and read at the others, where their buffer is left as it was found. -/
module

public import proofs.«01_k».proof.Proof.Gen.Kernel14Ideal.Frame
public import proofs.«01_k».proof.Proof.Gen.Kernel14Ideal.Skeleton
public import Idealize.ShloMosaic.Lib.Claim

@[expose] public section

set_option maxRecDepth 16384

noncomputable section

namespace Cert.Kernel14Ideal.Rms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel14Ideal Cert.Kernel14Ideal.Gen

variable {F : FTy → Type} [FloatOps F]

/-- The first column block of a row block is where the normalised rows are written. -/
theorem hcond : ∀ t : Fin cfg0.N, k0_cond1 (grid0.coords t) = 1#1 ↔ t.val % 4 = 0 :=
  (by decide +kernel : ∀ t : Fin grid0.N, k0_cond1 (grid0.coords t) = 1#1 ↔ t.val % 4 = 0)

/-- A buffer of the product's block and one of the normalised rows'. -/
abbrev VO3 : View sig .tc .vmem S768x1280 .bf16 := (Memref.whole cc0_stg3_0 : Memref sig .tc .vmem S768x1280 .bf16).view
abbrev VO4 : View sig .tc .vmem S768x1024 .bf16 := (Memref.whole cc0_stg4_0 : Memref sig .tc .vmem S768x1024 .bf16).view

/-- Each window's current buffer at a point. -/
abbrev ms0 (t : Fin cfg0.N) : Memref sig .tc .vmem S768x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1280 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x1280 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S768x1024 .bf16 := win0_4.stage (cfg0.slots t 4)
abbrev hs4 (t : Fin cfg0.N) : (ms4 t).IsWhole := hstage0_4 ((cfg0.slots t 4).cast nbuf0_4)

/-! ## The body at a first column block and at another one -/

set_option maxHeartbeats 1000000 in
/-- At a first column block the body writes both results' buffers: the pieces it writes. -/
noncomputable def runA (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1024x1280 .bf16) (harg4 : arg4.IsWhole) (arg5 : Memref sig .tc .vmem S768x1280 .bf16) (harg5 : arg5.IsWhole) (arg6 : Memref sig .tc .vmem S768x1024 .bf16) (harg6 : arg6.IsWhole) (hc0 : k0_cond1 i = 1#1)
    (x0 : Vec F S768x1024 .f32) (x1 : Vec F S1x1024 .f32) (x2 : Vec F S1024x1280 .bf16) :
    Σ' (L3 : List (View.Piece (Elt F) S768x1280 .bf16)), { L4 : List (View.Piece (Elt F) S768x1024 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_in_proj i arg2 harg2 arg3 harg3 arg4 harg4 arg5 harg5 arg6 harg6) K } := by
  refine ⟨?_, ?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 1000000 in
/-- At another column block the body writes the product's buffer and leaves the normalised rows' as it found it. -/
noncomputable def runB (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1024x1280 .bf16) (harg4 : arg4.IsWhole) (arg5 : Memref sig .tc .vmem S768x1280 .bf16) (harg5 : arg5.IsWhole) (arg6 : Memref sig .tc .vmem S768x1024 .bf16) (harg6 : arg6.IsWhole) (hc0 : ¬k0_cond1 i = 1#1)
    (x0 : Vec F S768x1024 .f32) (x1 : Vec F S1x1024 .f32) (x2 : Vec F S1024x1280 .bf16) (xo : Vec F S768x1024 .bf16) :
    { L3 : List (View.Piece (Elt F) S768x1280 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xo) -∗ K ⟨⟩))
          ⊢ wp frame (wpE (defs₀ (F := F)) Variants.none c none) E (cc0_in_proj i arg2 harg2 arg3 harg3 arg4 harg4 arg5 harg5 arg6 harg6) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact H4

variable (m : (ℓ : Loc nD τ sig) → Buf (Elt F) ℓ) (ρ : Dev nD → PrngReg)

/-- The two runs at a point's buffers and blocks. -/
abbrev ptA (c : Dev nD) (t : Fin cfg0.N) (h : t.val % 4 = 0) :=
  runA (F := F) c (grid0.coords t) (ms0 t) (hs0 t) (ms1 t) (hs1 t) (ms2 t) (hs2 t) (ms3 t) (hs3 t) (ms4 t) (hs4 t) ((hcond t).mpr h) (iblk m c 0 t) (iblk m c 1 t) (iblk m c 2 t)
abbrev ptB (c : Dev nD) (t : Fin cfg0.N) (h : ¬t.val % 4 = 0) (xo : Vec F S768x1024 .bf16) :=
  runB (F := F) c (grid0.coords t) (ms0 t) (hs0 t) (ms1 t) (hs1 t) (ms2 t) (hs2 t) (ms3 t) (hs3 t) (ms4 t) (hs4 t) (fun e => h ((hcond t).mp e)) (iblk m c 0 t) (iblk m c 1 t) (iblk m c 2 t) xo

theorem coverA3 (c : Dev nD) (t : Fin cfg0.N) (h : t.val % 4 = 0) (y : S768x1280.Idx) : ∃ pc ∈ (ptA m c t h).1, y ∈ pc.1.set :=
  View.cover_of_tiledL (ptA m c t h).1 S768x1280.size (by sl_kernel_rfl) y

theorem coverA4 (c : Dev nD) (t : Fin cfg0.N) (h : t.val % 4 = 0) (y : S768x1024.Idx) : ∃ pc ∈ (ptA m c t h).2.1, y ∈ pc.1.set :=
  View.cover_of_tiledL (ptA m c t h).2.1 S768x1024.size (by sl_kernel_rfl) y

theorem coverB3 (c : Dev nD) (t : Fin cfg0.N) (h : ¬t.val % 4 = 0) (xo : Vec F S768x1024 .bf16) (y : S768x1280.Idx) : ∃ pc ∈ (ptB m c t h xo).1, y ∈ pc.1.set :=
  View.cover_of_tiledL (ptB m c t h xo).1 S768x1280.size (by sl_kernel_rfl) y

/-- What a point leaves in the product's buffer and in the normalised rows'. -/
def outA3 (c : Dev nD) (t : Fin cfg0.N) (h : t.val % 4 = 0) : Vec F S768x1280 .bf16 := VO3.read (Elt F) (VO3.writes (Elt F) VO3.junk (ptA m c t h).1)
def outA4 (c : Dev nD) (t : Fin cfg0.N) (h : t.val % 4 = 0) : Vec F S768x1024 .bf16 := VO4.read (Elt F) (VO4.writes (Elt F) VO4.junk (ptA m c t h).2.1)
def outB3 (c : Dev nD) (t : Fin cfg0.N) (h : ¬t.val % 4 = 0) (xo : Vec F S768x1024 .bf16) : Vec F S768x1280 .bf16 := VO3.read (Elt F) (VO3.writes (Elt F) VO3.junk (ptB m c t h xo).1)

/-- What the two buffers hold after each point. -/
def outs (c : Dev nD) : (n : ℕ) → n < cfg0.N → Vec F S768x1280 .bf16 × Vec F S768x1024 .bf16
  | 0, hn => (outA3 m c ⟨0, hn⟩ rfl, outA4 m c ⟨0, hn⟩ rfl)
  | n + 1, hn =>
    if h : (n + 1) % 4 = 0 then (outA3 m c ⟨n + 1, hn⟩ h, outA4 m c ⟨n + 1, hn⟩ h)
    else (outB3 m c ⟨n + 1, hn⟩ h (outs c n (by omega)).2, (outs c n (by omega)).2)

theorem outs_A (c : Dev nD) (t : Fin cfg0.N) (h : t.val % 4 = 0) : outs m c t.val t.isLt = (outA3 m c t h, outA4 m c t h) := by
  obtain ⟨n, hn⟩ := t
  cases n with
  | zero => exact rfl
  | succ n => exact (dif_pos h).trans rfl

theorem outs_B (c : Dev nD) (t : Fin cfg0.N) (h : ¬t.val % 4 = 0) :
    outs m c t.val t.isLt = (outB3 m c t h (outs m c (t.val - 1) (Nat.lt_of_le_of_lt (Nat.sub_le _ _) t.isLt)).2, (outs m c (t.val - 1) (Nat.lt_of_le_of_lt (Nat.sub_le _ _) t.isLt)).2) := by
  obtain ⟨n, hn⟩ := t
  cases n with
  | zero => exact absurd (Nat.zero_mod _) h
  | succ n => exact (dif_neg h).trans rfl

/-- Each buffer on its own. -/
theorem outs_A1 (c : Dev nD) (t : Fin cfg0.N) (h : t.val % 4 = 0) : (outs m c t.val t.isLt).1 = outA3 m c t h := by rw [outs_A m c t h]
theorem outs_A2 (c : Dev nD) (t : Fin cfg0.N) (h : t.val % 4 = 0) : (outs m c t.val t.isLt).2 = outA4 m c t h := by rw [outs_A m c t h]
theorem outs_B1 (c : Dev nD) (t : Fin cfg0.N) (h : ¬t.val % 4 = 0) :
    (outs m c t.val t.isLt).1 = outB3 m c t h (outs m c (t.val - 1) (Nat.lt_of_le_of_lt (Nat.sub_le _ _) t.isLt)).2 := by rw [outs_B m c t h]
theorem outs_B2 (c : Dev nD) (t : Fin cfg0.N) (h : ¬t.val % 4 = 0) :
    (outs m c t.val t.isLt).2 = (outs m c (t.val - 1) (Nat.lt_of_le_of_lt (Nat.sub_le _ _) t.isLt)).2 := by rw [outs_B m c t h]

/-! ## The run's contents -/

/-- What the arrays hold before and each buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outs m c t.val t.isLt).1
    | ⟨4, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outs m c t.val t.isLt).1 := by dsimp only [dats]
theorem after4 (c : Dev nD) (t : Fin cfg0.N) : (dats m 0 c).after 4 t = (outs m c t.val t.isLt).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Whether a point leaves the normalised rows' buffer as it found it. -/
theorem idle_A (t : Fin cfg0.N) (h : t.val % 4 = 0) : cfg0.idle 4 (cfg0.grid.coords t) = false := by
  show (!(k0_cond1 (grid0.coords t) == 1#1)) = false
  rw [(hcond t).mpr h]; rfl
theorem idle_B (t : Fin cfg0.N) (h : ¬t.val % 4 = 0) : cfg0.idle 4 (cfg0.grid.coords t) = true := by
  show (!(k0_cond1 (grid0.coords t) == 1#1)) = true
  rw [beq_eq_false_iff_ne.mpr fun e => h ((hcond t).mp e)]; rfl

/-- At another column block the normalised rows' buffer holds what the row block's first point wrote. -/
theorem before4 (c : Dev nD) : ∀ (n : ℕ) (t : Fin cfg0.N), t.val = n → ∀ (h : ¬t.val % 4 = 0) (d),
    (dats m 0 c).before 4 t d = (outs m c (t.val - 1) (Nat.lt_of_le_of_lt (Nat.sub_le _ _) t.isLt)).2 := by
  intro n
  induction n with
  | zero => intro t ht h; exact absurd (by rw [ht]) h
  | succ n ih =>
    intro t ht h d
    have hf : (cfg0.win 4).flush ⟨t.val - 1, Nat.lt_of_le_of_lt (Nat.sub_le _ _) t.isLt⟩ = false :=
      Bool.eq_false_iff.mpr fun e => by have := (flush0_4 _).mp e; dsimp only at this; omega
    by_cases h1 : (t.val - 1) % 4 = 0
    · rw [Dat.before_of_pos _ 4 t (by omega) ((cfg0.win 4).fetch_out rfl t), hf, if_neg Bool.false_ne_true]
      unfold Dat.left
      rw [idle_A ⟨t.val - 1, Nat.lt_of_le_of_lt (Nat.sub_le _ _) t.isLt⟩ h1]
      unfold Dat.kept
      exact (Window.fill_cut _ _ _).trans (after4 m c _)
    · rw [Dat.before_of_pos _ 4 t (by omega) ((cfg0.win 4).fetch_out rfl t), hf, if_neg Bool.false_ne_true]
      unfold Dat.left
      rw [idle_B ⟨t.val - 1, Nat.lt_of_le_of_lt (Nat.sub_le _ _) t.isLt⟩ h1]
      refine (ih ⟨t.val - 1, Nat.lt_of_le_of_lt (Nat.sub_le _ _) t.isLt⟩ (by show t.val - 1 = n; omega) h1 d).trans ?_
      exact (congrArg Prod.snd (outs_B m c ⟨t.val - 1, Nat.lt_of_le_of_lt (Nat.sub_le _ _) t.isLt⟩ h1)).symm

/-! ## The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (dats m 0 c).leavesExact 4 t)

/-- What the body must leave in the normalised rows' buffer, at each kind of point. -/
theorem leaves_A (c : Dev nD) (t : Fin cfg0.N) (h : t.val % 4 = 0) :
    (dats m 0 c).leavesExact 4 t = owns (c : Thread nD τ) (ms4 t) fullShare (outA4 m c t h) := by
  unfold Dat.leavesExact
  rw [idle_A t h]
  show owns (c : Thread nD τ) (ms4 t) fullShare ((dats m 0 c).after 4 t) = _
  rw [after4, outs_A m c t h]

theorem leaves_B (c : Dev nD) (t : Fin cfg0.N) (h : ¬t.val % 4 = 0) :
    owns (c : Thread nD τ) (ms4 t) fullShare ((outs m c (t.val - 1) (Nat.lt_of_le_of_lt (Nat.sub_le _ _) t.isLt)).2) ⊢ ((dats m 0 c).leavesExact 4 t : sProp (MT nD τ sig Unit (Elt F) ℕ (UR sig nD τ) ℕ)) := by
  unfold Dat.leavesExact
  rw [idle_B t h]
  cases hf : (cfg0.win 4).flush t
  · show _ ⊢ (iprop(∃ d, owns (c : Thread nD τ) (ms4 t) fullShare ((dats m 0 c).before 4 t d)) : sProp (MT nD τ sig Unit (Elt F) ℕ (UR sig nD τ) ℕ))
    simp only [before4 m c t.val t rfl h]
    iintro H
    iexists (fun _ => (outs m c (t.val - 1) (Nat.lt_of_le_of_lt (Nat.sub_le _ _) t.isLt)).2 (fun a => ⟨0, by revert a; decide⟩))
    iexact H
  · show _ ⊢ owns (c : Thread nD τ) (ms4 t) fullShare ((dats m 0 c).after 4 t)
    rw [after4, outs_B m c t h]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h0 : t.val % 4 = 0
  · rw [leaves_A m c t h0, outs_A m c t h0]
    unfold outA3 outA4; (try dsimp only)
    iintro ⟨HΦ, Ho, ⟨%d0, H0⟩, ⟨%d1, H1⟩, ⟨%d2, H2⟩, ⟨%d3, H3⟩, ⟨%d4, H4⟩⟩
    iapply ((ptA m c t h0).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverA3 m c t h0)
    unfold owns; iexists _; isplitr
    swap; · iexact H4
    ipureintro; exact View.read_writes_of_cover _ _ _ _ _ (coverA4 m c t h0)
  · rw [outs_B m c t h0]
    simp only [before4 m c t.val t rfl h0]
    unfold outB3; (try dsimp only)
    iintro ⟨HΦ, Ho, ⟨%d0, H0⟩, ⟨%d1, H1⟩, ⟨%d2, H2⟩, ⟨%d3, H3⟩, ⟨%d4, H4⟩⟩
    iapply ((ptB m c t h0 _).2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB3 m c t h0 _)
    iapply (leaves_B m c t h0)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every execution ends with the arguments unchanged and no semaphore left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- Every execution ends with each result's array as the points leave it and the arguments unchanged. -/
theorem run_blocks : θ_run defs (onTc (τ := τ) (main (F := F))) ⟨m, fun _ => 0, ρ⟩ fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1 3, (h c).1 4,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

end Cert.Kernel14Ideal.Rms

end
-- ==== Proof.RmsMm.lean ====
/- The forward calls of a layer's two projections: the normalised rows and their product with the weights equal the same lines
   written over whole arrays. -/
module

public import proofs.«01_k».proof.Proof.UpFrameIdeal
public import proofs.«01_k».proof.Proof.InFrameIdeal
public import proofs.«01_k».proof.Proof.Gen.Kernel7
public import proofs.«01_k».proof.Proof.Gen.Kernel14
public import proofs.«01_k».proof.Proof.Gen.Reference7Ideal.Run
public import proofs.«01_k».proof.Proof.Gen.Reference14Ideal.Run
public import Idealize.ShloMosaic.Lib.Pipeline.ValueKit
public import Idealize.ShloMosaic.Lib.Pipeline.Value
public import proofs.«01_k».proof.Proof.Reals
public import proofs.«01_k».proof.Proof.UpBwd
public import proofs.«01_k».proof.Defs

@[expose] public section

set_option maxRecDepth 16384

noncomputable section

namespace Cert.Proof.RmsMm
open Idealize.ShloMosaic
open Cert.KernelIdeal.NormBwd (rr el)

/-- A normalised row. -/
def nrm (M G : Fin 1024 → EReal) (q : Fin 1024) : EReal := M q * rr M * G q

/-- A row against a matrix. -/
def prd {n : ℕ} (A : Fin 1024 → EReal) (W : Fin 1024 → Fin n → EReal) (q : Fin n) : EReal := ∑ k : Fin 1024, A k * W k q

/-- The row of the array that a row of a block is, and the column likewise where there is one block of columns. -/
theorem row_of (t y0 r i0 : ℕ) (e : r = i0 * 768 + 1 * y0) (hi : i0 = t / 4) : r = t / 4 * 768 + y0 := by
  rw [e, hi, one_mul]

theorem col_of {n : ℕ} (t : ℕ) (y1 q : Fin n) (i1 : ℕ) (e : q.val = i1 * n + 1 * y1.val) (hi : i1 = 0) : q = y1 :=
  Fin.ext (by rw [e, hi, zero_mul, one_mul, zero_add])

end Cert.Proof.RmsMm

namespace Cert.Reference7Ideal.Rms
open Idealize.ShloMosaic Idealize.ShloMosaic.TcCoe Idealize.SL.Sem
open Cert.Reference7Ideal Cert.Reference7Ideal.Gen
open Cert.KernelIdeal.NormBwd (rr el)
open Cert.Proof.RmsMm (nrm prd)

/-- The normalised rows. -/
abbrev normed (H : FVec Ideal S8448x1024 .f32) (G : FVec Ideal S1x1024 .f32) : FVec Ideal S8448x1024 .f32 :=
  mulf (mulf H (broadcastInDim S8448x1024 ![0, 1] bcast_S8448x1_S8448x1024_0_1 (Host.rsqrt (addf (Host.divf (broadcastInDim S8448x1 ![0] bcast_S8448_S8448x1_0 (Host.reduceAdd (mulf H H) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 G)

theorem normed_at (H : FVec Ideal S8448x1024 .f32) (G : FVec Ideal S1x1024 .f32) (j : S8448x1024.Idx) :
    normed H G j = nrm (fun q => el H (ix2 (j 0) q)) (fun q => el G (ix2 0 q)) (j 1) := by
  pointwise [normed, nrm, rr]

theorem norm_eq (H : FVec Ideal S8448x1024 .f32) (G : FVec Ideal S1x1024 .f32) (H' : FVec Ideal S8448x1024 .f32) (G' : FVec Ideal S1x1024 .f32)
    (eH : H' = H) (eG : G' = G) (j : S8448x1024.Idx) :
    (truncf .bf16 (normed H' G') bitsLt_bf16_f32 : FVec Ideal S8448x1024 .bf16) j = nrm (fun q => el H (ix2 (j 0) q)) (fun q => el G (ix2 0 q)) (j 1) := by
  subst eH eG
  exact normed_at H' G' j

end Cert.Reference7Ideal.Rms

namespace Cert.Kernel7Ideal.Rms
open Idealize.ShloMosaic Idealize.ShloMosaic.TcCoe
open Cert.Kernel7Ideal Cert.Kernel7Ideal.Gen
open Cert.KernelIdeal.NormBwd (rr el)
open Cert.Proof.RmsMm (nrm prd)

/-- One block's normalised rows. -/
theorem norm_part (h : FVec Ideal S768x1024 .f32) (g : FVec Ideal S1x1024 .f32) (j : S768x1024.Idx) :
    k0_pay1 (F := Ideal) h g j = nrm (fun q => el h (ix2 (j 0) q)) (fun q => el g (ix2 0 q)) (j 1) := by
  obtain ⟨p, q, rfl⟩ : ∃ p q, j = ix2 p q := ⟨j 0, j 1, eq_ix2 j⟩
  pointwise [k0_pay1, nrm, rr]

end Cert.Kernel7Ideal.Rms

namespace Cert.Reference7Ideal.Rms
open Idealize.ShloMosaic Idealize.ShloMosaic.TcCoe Idealize.SL.Sem
open Cert.Reference7Ideal Cert.Reference7Ideal.Gen
open Cert.KernelIdeal.NormBwd (rr el)
open Cert.Proof.RmsMm (nrm prd)
open Cert.Reference7Ideal.Rms (normed normed_at)

/-- The up projection. -/
theorem product_eq (H : FVec Ideal S8448x1024 .f32) (G : FVec Ideal S1x1024 .f32) (W : FVec Ideal S1024x5632 .bf16) (H' : FVec Ideal S8448x1024 .f32) (G' : FVec Ideal S1x1024 .f32) (W' : FVec Ideal S1024x5632 .bf16)
    (eH : H' = H) (eG : G' = G) (eW : W' = W) (j : S8448x5632.Idx) :
    (truncf .bf16 (Host.dotGeneral dot_S8448x1024_S1024x5632_S8448x5632_1_0_0_1_n_n none (normed H' G') (extf .f32 W' bitsLt_bf16_f32)) bitsLt_bf16_f32 : FVec Ideal S8448x5632 .bf16) j
      = prd (nrm (fun q => el H (ix2 (j 0) q)) (fun q => el G (ix2 0 q))) (fun k q => el W (ix2 k q)) (j 1) := by
  subst eH eG eW
  have e : ∀ M : FVec Ideal S8448x1024 .f32, (truncf .bf16 (Host.dotGeneral dot_S8448x1024_S1024x5632_S8448x5632_1_0_0_1_n_n none M (extf .f32 W' bitsLt_bf16_f32)) bitsLt_bf16_f32 : FVec Ideal S8448x5632 .bf16) j
      = prd (fun k => el M (ix2 (j 0) k)) (fun k q => el W' (ix2 k q)) (j 1) := fun M => by pointwise [prd]
  exact (e _).trans (congrArg (fun a => prd a _ _) (funext fun k => normed_at H' G' (ix2 (j 0) k)))

end Cert.Reference7Ideal.Rms

namespace Cert.Kernel7Ideal.Rms

open Idealize.ShloMosaic Idealize.ShloMosaic.TcCoe Idealize.SL.Sem
open Idealize.ShloMosaic.Pipeline (Dat)
open Cert.Kernel7Ideal Cert.Kernel7Ideal.Gen
open Cert.KernelIdeal.NormBwd (rr el)
open Cert.Proof.RmsMm (nrm prd row_of col_of)

/-- One block of the product. -/
theorem mm_part (x : FVec Ideal S768x1024 .bf16) (w : FVec Ideal S1024x1408 .bf16) (j : S768x1408.Idx) :
    k0_pay2 (F := Ideal) x w j = prd (fun k => el x (ix2 (j 0) k)) (fun k q => el w (ix2 k q)) (j 1) := by
  obtain ⟨p, q, rfl⟩ : ∃ p q, j = ix2 p q := ⟨j 0, j 1, eq_ix2 j⟩
  pointwise [k0_pay2, prd]

variable (m : (ℓ : Loc nD τ sig) → Buf (Elt Ideal) ℓ)

/-- The windows' block indices at every grid point. -/
theorem idx : ∀ t : Fin cfg0.N, win0_0.index t = ![t.val / 4, 0] ∧ win0_1.index t = ![0, 0] ∧ win0_2.index t = ![0, t.val % 4]
    ∧ win0_3.index t = ![t.val / 4, t.val % 4] ∧ win0_4.index t = ![t.val / 4, 0] :=
  (by decide +kernel : ∀ t : Fin grid0.N, _)

/-- The arguments, by row and column. -/
abbrev H (c : Dev nD) (r : Fin 8448) (q : Fin 1024) : EReal := el (s := S8448x1024) (φ := .f32) (m ((c : Thread nD τ).loc main_arg0)) (ix2 r q)
abbrev G (c : Dev nD) (q : Fin 1024) : EReal := el (s := S1x1024) (φ := .f32) (m ((c : Thread nD τ).loc main_arg1)) (ix2 0 q)
abbrev W (c : Dev nD) (k : Fin 1024) (q : Fin 5632) : EReal := el (s := S1024x5632) (φ := .bf16) (m ((c : Thread nD τ).loc main_arg2)) (ix2 k q)

theorem h_at (c : Dev nD) (t : Fin cfg0.N) (p : Fin 768) (q : Fin 1024) (r : Fin 8448) (h : r.val = t.val / 4 * 768 + p.val) :
    el (s := S768x1024) (φ := .f32) (iblk m c 0 t) (ix2 p q) = H m c r q := by
  simp only [el]
  blk_point [iblk, V, idx t]

theorem g_at (c : Dev nD) (t : Fin cfg0.N) (q : Fin 1024) :
    el (s := S1x1024) (φ := .f32) (iblk m c 1 t) (ix2 0 q) = G m c q := by
  simp only [el]
  blk_point [iblk, V, idx t]

theorem w_at (c : Dev nD) (t : Fin cfg0.N) (k : Fin 1024) (q : Fin 1408) (s : Fin 5632) (h : s.val = t.val % 4 * 1408 + q.val) :
    el (s := S1024x1408) (φ := .bf16) (iblk m c 2 t) (ix2 k q) = W m c k s := by
  simp only [el]
  blk_point [iblk, V, idx t]

/-! ## What a point leaves -/

theorem outA4_eq (c : Dev nD) (t : Fin cfg0.N) (h : t.val % 4 = 0) (j : S768x1024.Idx) :
    outA4 m c t h j = k0_pay1 (F := Ideal) (iblk m c 0 t) (iblk m c 1 t) j := by
  unfold outA4 ptA; frame_out

theorem outA3_eq (c : Dev nD) (t : Fin cfg0.N) (h : t.val % 4 = 0) (j : S768x1408.Idx) :
    outA3 m c t h j = k0_pay2 (F := Ideal) (k0_pay1 (F := Ideal) (iblk m c 0 t) (iblk m c 1 t)) (iblk m c 2 t) j := by
  unfold outA3 ptA; frame_out

theorem outB3_eq (c : Dev nD) (t : Fin cfg0.N) (h : ¬t.val % 4 = 0) (x : Vec Ideal S768x1024 .bf16) (j : S768x1408.Idx) :
    outB3 m c t h x j = k0_pay2 (F := Ideal) x (iblk m c 2 t) j := by
  unfold outB3 ptB; frame_out

/-- The normalised rows of the arguments. -/
abbrev X (c : Dev nD) (r : Fin 8448) : Fin 1024 → EReal := nrm (H m c r) (G m c)

theorem first_at (c : Dev nD) (t : Fin cfg0.N) (p : Fin 768) (q : Fin 1024) (r : Fin 8448) (h : r.val = t.val / 4 * 768 + p.val) :
    el (s := S768x1024) (φ := .bf16) (k0_pay1 (F := Ideal) (iblk m c 0 t) (iblk m c 1 t)) (ix2 p q) = X m c r q := by
  refine (Cert.Kernel7Ideal.Rms.norm_part _ _ (ix2 p q)).trans ?_
  exact congrArg₂ (fun a b => nrm a b q) (funext fun q => h_at m c t p q r h) (funext fun q => g_at m c t q)

attribute [local irreducible] outA3 outA4 outB3 k0_pay1 k0_pay2

theorem second_A (c : Dev nD) (t : Fin cfg0.N) (h : t.val % 4 = 0) (j : S768x1024.Idx) :
    (outs m c t.val t.isLt).2 j = k0_pay1 (F := Ideal) (iblk m c 0 t) (iblk m c 1 t) j :=
  (congrFun (outs_A2 m c t h) j).trans (outA4_eq m c t h j)

theorem second_B (c : Dev nD) (t : Fin cfg0.N) (h : ¬t.val % 4 = 0) (j : S768x1024.Idx) :
    (outs m c t.val t.isLt).2 j = (outs m c (t.val - 1) (Nat.lt_of_le_of_lt (Nat.sub_le _ _) t.isLt)).2 j :=
  congrFun (outs_B2 m c t h) j

theorem one_A (c : Dev nD) (t : Fin cfg0.N) (h : t.val % 4 = 0) (j : S768x1408.Idx) :
    (outs m c t.val t.isLt).1 j = k0_pay2 (F := Ideal) (k0_pay1 (F := Ideal) (iblk m c 0 t) (iblk m c 1 t)) (iblk m c 2 t) j :=
  (congrFun (outs_A1 m c t h) j).trans (outA3_eq m c t h j)

theorem one_B (c : Dev nD) (t : Fin cfg0.N) (h : ¬t.val % 4 = 0) (j : S768x1408.Idx) :
    (outs m c t.val t.isLt).1 j = k0_pay2 (F := Ideal) (outs m c (t.val - 1) (Nat.lt_of_le_of_lt (Nat.sub_le _ _) t.isLt)).2 (iblk m c 2 t) j :=
  (congrFun (outs_B1 m c t h) j).trans (outB3_eq m c t h _ j)

/-- After every point of a row block the second buffer holds its normalised rows. -/
theorem x_at (c : Dev nD) : ∀ (n : ℕ) (t : Fin cfg0.N), t.val = n → ∀ (p : Fin 768) (q : Fin 1024) (r : Fin 8448), r.val = t.val / 4 * 768 + p.val →
    el (s := S768x1024) (φ := .bf16) (outs m c t.val t.isLt).2 (ix2 p q) = X m c r q := by
  intro n
  induction n with
  | zero =>
    intro t ht p q r h
    have h0 : t.val % 4 = 0 := by rw [ht]
    exact (second_A m c t h0 (ix2 p q)).trans (first_at m c t p q r h)
  | succ n ih =>
    intro t ht p q r h
    by_cases h0 : t.val % 4 = 0
    · exact (second_A m c t h0 (ix2 p q)).trans (first_at m c t p q r h)
    · exact (second_B m c t h0 (ix2 p q)).trans (ih ⟨t.val - 1, Nat.lt_of_le_of_lt (Nat.sub_le _ _) t.isLt⟩ (by show t.val - 1 = n; omega) p q r (by show r.val = (t.val - 1) / 4 * 768 + p.val; omega))

/-- After every point the first buffer holds its block of the product. -/
theorem y_at (c : Dev nD) (t : Fin cfg0.N) (p : Fin 768) (q : Fin 1408) (r : Fin 8448) (s : Fin 5632) (h : r.val = t.val / 4 * 768 + p.val) (hs : s.val = t.val % 4 * 1408 + q.val) :
    el (s := S768x1408) (φ := .bf16) (outs m c t.val t.isLt).1 (ix2 p q) = prd (X m c r) (W m c) s := by
  by_cases h0 : t.val % 4 = 0
  · refine (one_A m c t h0 (ix2 p q)).trans ((mm_part _ _ (ix2 p q)).trans ?_)
    exact Reals.sum_eq _ _ fun k => congrArg₂ (fun a b : EReal => a * b) (first_at m c t p k r h) (w_at m c t k q s hs)
  · refine (one_B m c t h0 (ix2 p q)).trans ((mm_part _ _ (ix2 p q)).trans ?_)
    exact Reals.sum_eq _ _ fun k => congrArg₂ (fun a b : EReal => a * b)
      (x_at m c (t.val - 1) ⟨t.val - 1, Nat.lt_of_le_of_lt (Nat.sub_le _ _) t.isLt⟩ rfl p k r (by show r.val = (t.val - 1) / 4 * 768 + p.val; omega)) (w_at m c t k q s hs)

/-! ## The arrays after the run -/

/-- The product after the run. -/
theorem y_final (c : Dev nD) : (dats m 0 c).arrAt 3 (cfgs 0).N = fun j : S8448x5632.Idx => prd (X m c (j 0)) (W m c) (j 1) := by
  refine (dats m 0 c).arrAt_eq_of_covers 3 _ (by decide +kernel) fun t hf y => ?_
  blk_simp
  have h0 := row_of t.val (y 0).val ((win0_3.blk t).view.emb y 0).val _ rfl (by rw [(idx t).2.2.2.1]; rfl)
  have h1 : ((win0_3.blk t).view.emb y 1).val = t.val % 4 * 1408 + (y 1).val := by
    show (win0_3.index t 1) * 1408 + 1 * (y 1).val = _
    rw [(idx t).2.2.2.1, one_mul]; rfl
  rw [after3]
  exact (congrArg (outs m c t.val t.isLt).1 (eq_ix2 y)).trans (y_at m c t (y 0) (y 1) _ _ h0 h1)

/-- The normalised rows after the run. -/
theorem x_final (c : Dev nD) : (dats m 0 c).arrAt 4 (cfgs 0).N = fun j : S8448x1024.Idx => X m c (j 0) (j 1) := by
  refine (dats m 0 c).arrAt_eq_of_covers 4 _ (by decide +kernel) fun t hf y => ?_
  blk_simp
  have h0 := row_of t.val (y 0).val ((win0_4.blk t).view.emb y 0).val _ rfl (by rw [(idx t).2.2.2.2]; rfl)
  have h1 := col_of (n := 1024) 0 (y 1) ((win0_4.blk t).view.emb y 1) _ rfl (by rw [(idx t).2.2.2.2]; rfl)
  rw [h1, after4]
  exact (congrArg (outs m c t.val t.isLt).2 (eq_ix2 y)).trans (x_at m c t.val t rfl (y 0) (y 1) _ h0)

end Cert.Kernel7Ideal.Rms

namespace Cert.Proof.RmsMm

open Idealize.ShloMosaic Idealize.SL.Sem

/-- The two programs' tables of bodies are the same at the machine's floats. -/
theorem bodies7 : Cert.Kernel7.defs₀ (F := Bits) = Cert.Kernel7Ideal.defs₀ (F := Bits) := by
  unfold Cert.Kernel7.defs₀ Cert.Kernel7Ideal.defs₀
  refine congrArg Defs.onTc ?_
  funext l x
  match l, x with
  | 0, (t, s) => rfl

theorem defs7 : Cert.Kernel7.defs (F := Bits) = Cert.Kernel7Ideal.defs (F := Bits) :=
  congrArg (Pipeline.defs (Cert.Kernel7Ideal.pcfgs (F := Bits))) bodies7

/-- The up projection's frame is the run's at the machine's floats. -/
theorem frame7 : Cert.quiescent_Kernel7 := fun m ρ _ => by
  rw [defs7]
  exact Cert.Kernel7Ideal.Rms.frame (F := Bits) m ρ

/-- The up projection: both results equal the lines over whole arrays. -/
theorem algebraic7 : Cert.algebraic_Kernel7Ideal_Reference7Ideal := by
  intro m ρ m' ρ' hpre hag
  refine ⟨fun c => (Cert.Kernel7Ideal.Rms.dats m 0 c).arrAt 3 (Cert.Kernel7Ideal.cfgs 0).N, fun c => (Cert.Kernel7Ideal.Rms.dats m 0 c).arrAt 4 (Cert.Kernel7Ideal.cfgs 0).N, Cert.Kernel7Ideal.Rms.run_blocks m ρ,
    (θ_run Cert.Reference7Ideal.defs _ _).mono (fun r h c => ⟨(h c).1.trans ?_, (h c).2.1.trans ?_, (h c).2.2⟩) (Cert.Reference7Ideal.Value.run m' ρ')⟩
  · refine Eq.trans ?_ (Cert.Kernel7Ideal.Rms.y_final m c).symm
    funext j
    exact Cert.Reference7Ideal.Rms.product_eq _ _ _ _ _ _ (hag c).1 (hag c).2.1 (hag c).2.2 j
  · refine Eq.trans ?_ (Cert.Kernel7Ideal.Rms.x_final m c).symm
    funext j
    exact Cert.Reference7Ideal.Rms.norm_eq _ _ _ _ (hag c).1 (hag c).2.1 j

end Cert.Proof.RmsMm

namespace Cert.Reference14Ideal.Rms
open Idealize.ShloMosaic Idealize.ShloMosaic.TcCoe Idealize.SL.Sem
open Cert.Reference14Ideal Cert.Reference14Ideal.Gen
open Cert.KernelIdeal.NormBwd (rr el)
open Cert.Proof.RmsMm (nrm prd)
open Cert.Reference7Ideal.Rms (normed normed_at)

/-- The input projection. -/
theorem product_eq (H : FVec Ideal S8448x1024 .f32) (G : FVec Ideal S1x1024 .f32) (W : FVec Ideal S1024x5120 .bf16) (H' : FVec Ideal S8448x1024 .f32) (G' : FVec Ideal S1x1024 .f32) (W' : FVec Ideal S1024x5120 .bf16)
    (eH : H' = H) (eG : G' = G) (eW : W' = W) (j : S8448x5120.Idx) :
    (truncf .bf16 (Host.dotGeneral dot_S8448x1024_S1024x5120_S8448x5120_1_0_0_1_n_n none (normed H' G') (extf .f32 W' bitsLt_bf16_f32)) bitsLt_bf16_f32 : FVec Ideal S8448x5120 .bf16) j
      = prd (nrm (fun q => el H (ix2 (j 0) q)) (fun q => el G (ix2 0 q))) (fun k q => el W (ix2 k q)) (j 1) := by
  subst eH eG eW
  have e : ∀ M : FVec Ideal S8448x1024 .f32, (truncf .bf16 (Host.dotGeneral dot_S8448x1024_S1024x5120_S8448x5120_1_0_0_1_n_n none M (extf .f32 W' bitsLt_bf16_f32)) bitsLt_bf16_f32 : FVec Ideal S8448x5120 .bf16) j
      = prd (fun k => el M (ix2 (j 0) k)) (fun k q => el W' (ix2 k q)) (j 1) := fun M => by pointwise [prd]
  exact (e _).trans (congrArg (fun a => prd a _ _) (funext fun k => normed_at H' G' (ix2 (j 0) k)))

end Cert.Reference14Ideal.Rms

namespace Cert.Kernel14Ideal.Rms

open Idealize.ShloMosaic Idealize.ShloMosaic.TcCoe Idealize.SL.Sem
open Idealize.ShloMosaic.Pipeline (Dat)
open Cert.Kernel14Ideal Cert.Kernel14Ideal.Gen
open Cert.KernelIdeal.NormBwd (rr el)
open Cert.Proof.RmsMm (nrm prd row_of col_of)

/-- One block of the product. -/
theorem mm_part (x : FVec Ideal S768x1024 .bf16) (w : FVec Ideal S1024x1280 .bf16) (j : S768x1280.Idx) :
    k0_pay2 (F := Ideal) x w j = prd (fun k => el x (ix2 (j 0) k)) (fun k q => el w (ix2 k q)) (j 1) := by
  obtain ⟨p, q, rfl⟩ : ∃ p q, j = ix2 p q := ⟨j 0, j 1, eq_ix2 j⟩
  pointwise [k0_pay2, prd]

variable (m : (ℓ : Loc nD τ sig) → Buf (Elt Ideal) ℓ)

/-- The windows' block indices at every grid point. -/
theorem idx : ∀ t : Fin cfg0.N, win0_0.index t = ![t.val / 4, 0] ∧ win0_1.index t = ![0, 0] ∧ win0_2.index t = ![0, t.val % 4]
    ∧ win0_3.index t = ![t.val / 4, t.val % 4] ∧ win0_4.index t = ![t.val / 4, 0] :=
  (by decide +kernel : ∀ t : Fin grid0.N, _)

/-- The arguments, by row and column. -/
abbrev H (c : Dev nD) (r : Fin 8448) (q : Fin 1024) : EReal := el (s := S8448x1024) (φ := .f32) (m ((c : Thread nD τ).loc main_arg0)) (ix2 r q)
abbrev G (c : Dev nD) (q : Fin 1024) : EReal := el (s := S1x1024) (φ := .f32) (m ((c : Thread nD τ).loc main_arg1)) (ix2 0 q)
abbrev W (c : Dev nD) (k : Fin 1024) (q : Fin 5120) : EReal := el (s := S1024x5120) (φ := .bf16) (m ((c : Thread nD τ).loc main_arg2)) (ix2 k q)

theorem h_at (c : Dev nD) (t : Fin cfg0.N) (p : Fin 768) (q : Fin 1024) (r : Fin 8448) (h : r.val = t.val / 4 * 768 + p.val) :
    el (s := S768x1024) (φ := .f32) (iblk m c 0 t) (ix2 p q) = H m c r q := by
  simp only [el]
  blk_point [iblk, V, idx t]

theorem g_at (c : Dev nD) (t : Fin cfg0.N) (q : Fin 1024) :
    el (s := S1x1024) (φ := .f32) (iblk m c 1 t) (ix2 0 q) = G m c q := by
  simp only [el]
  blk_point [iblk, V, idx t]

theorem w_at (c : Dev nD) (t : Fin cfg0.N) (k : Fin 1024) (q : Fin 1280) (s : Fin 5120) (h : s.val = t.val % 4 * 1280 + q.val) :
    el (s := S1024x1280) (φ := .bf16) (iblk m c 2 t) (ix2 k q) = W m c k s := by
  simp only [el]
  blk_point [iblk, V, idx t]

/-! ## What a point leaves -/

theorem outA4_eq (c : Dev nD) (t : Fin cfg0.N) (h : t.val % 4 = 0) (j : S768x1024.Idx) :
    outA4 m c t h j = k0_pay1 (F := Ideal) (iblk m c 0 t) (iblk m c 1 t) j := by
  unfold outA4 ptA; frame_out

theorem outA3_eq (c : Dev nD) (t : Fin cfg0.N) (h : t.val % 4 = 0) (j : S768x1280.Idx) :
    outA3 m c t h j = k0_pay2 (F := Ideal) (k0_pay1 (F := Ideal) (iblk m c 0 t) (iblk m c 1 t)) (iblk m c 2 t) j := by
  unfold outA3 ptA; frame_out

theorem outB3_eq (c : Dev nD) (t : Fin cfg0.N) (h : ¬t.val % 4 = 0) (x : Vec Ideal S768x1024 .bf16) (j : S768x1280.Idx) :
    outB3 m c t h x j = k0_pay2 (F := Ideal) x (iblk m c 2 t) j := by
  unfold outB3 ptB; frame_out

/-- The normalised rows of the arguments. -/
abbrev X (c : Dev nD) (r : Fin 8448) : Fin 1024 → EReal := nrm (H m c r) (G m c)

theorem first_at (c : Dev nD) (t : Fin cfg0.N) (p : Fin 768) (q : Fin 1024) (r : Fin 8448) (h : r.val = t.val / 4 * 768 + p.val) :
    el (s := S768x1024) (φ := .bf16) (k0_pay1 (F := Ideal) (iblk m c 0 t) (iblk m c 1 t)) (ix2 p q) = X m c r q := by
  refine (Cert.Kernel7Ideal.Rms.norm_part _ _ (ix2 p q)).trans ?_
  exact congrArg₂ (fun a b => nrm a b q) (funext fun q => h_at m c t p q r h) (funext fun q => g_at m c t q)

attribute [local irreducible] outA3 outA4 outB3 k0_pay1 k0_pay2

theorem second_A (c : Dev nD) (t : Fin cfg0.N) (h : t.val % 4 = 0) (j : S768x1024.Idx) :
    (outs m c t.val t.isLt).2 j = k0_pay1 (F := Ideal) (iblk m c 0 t) (iblk m c 1 t) j :=
  (congrFun (outs_A2 m c t h) j).trans (outA4_eq m c t h j)

theorem second_B (c : Dev nD) (t : Fin cfg0.N) (h : ¬t.val % 4 = 0) (j : S768x1024.Idx) :
    (outs m c t.val t.isLt).2 j = (outs m c (t.val - 1) (Nat.lt_of_le_of_lt (Nat.sub_le _ _) t.isLt)).2 j :=
  congrFun (outs_B2 m c t h) j

theorem one_A (c : Dev nD) (t : Fin cfg0.N) (h : t.val % 4 = 0) (j : S768x1280.Idx) :
    (outs m c t.val t.isLt).1 j = k0_pay2 (F := Ideal) (k0_pay1 (F := Ideal) (iblk m c 0 t) (iblk m c 1 t)) (iblk m c 2 t) j :=
  (congrFun (outs_A1 m c t h) j).trans (outA3_eq m c t h j)

theorem one_B (c : Dev nD) (t : Fin cfg0.N) (h : ¬t.val % 4 = 0) (j : S768x1280.Idx) :
    (outs m c t.val t.isLt).1 j = k0_pay2 (F := Ideal) (outs m c (t.val - 1) (Nat.lt_of_le_of_lt (Nat.sub_le _ _) t.isLt)).2 (iblk m c 2 t) j :=
  (congrFun (outs_B1 m c t h) j).trans (outB3_eq m c t h _ j)

/-- After every point of a row block the second buffer holds its normalised rows. -/
theorem x_at (c : Dev nD) : ∀ (n : ℕ) (t : Fin cfg0.N), t.val = n → ∀ (p : Fin 768) (q : Fin 1024) (r : Fin 8448), r.val = t.val / 4 * 768 + p.val →
    el (s := S768x1024) (φ := .bf16) (outs m c t.val t.isLt).2 (ix2 p q) = X m c r q := by
  intro n
  induction n with
  | zero =>
    intro t ht p q r h
    have h0 : t.val % 4 = 0 := by rw [ht]
    exact (second_A m c t h0 (ix2 p q)).trans (first_at m c t p q r h)
  | succ n ih =>
    intro t ht p q r h
    by_cases h0 : t.val % 4 = 0
    · exact (second_A m c t h0 (ix2 p q)).trans (first_at m c t p q r h)
    · exact (second_B m c t h0 (ix2 p q)).trans (ih ⟨t.val - 1, Nat.lt_of_le_of_lt (Nat.sub_le _ _) t.isLt⟩ (by show t.val - 1 = n; omega) p q r (by show r.val = (t.val - 1) / 4 * 768 + p.val; omega))

/-- After every point the first buffer holds its block of the product. -/
theorem y_at (c : Dev nD) (t : Fin cfg0.N) (p : Fin 768) (q : Fin 1280) (r : Fin 8448) (s : Fin 5120) (h : r.val = t.val / 4 * 768 + p.val) (hs : s.val = t.val % 4 * 1280 + q.val) :
    el (s := S768x1280) (φ := .bf16) (outs m c t.val t.isLt).1 (ix2 p q) = prd (X m c r) (W m c) s := by
  by_cases h0 : t.val % 4 = 0
  · refine (one_A m c t h0 (ix2 p q)).trans ((mm_part _ _ (ix2 p q)).trans ?_)
    exact Reals.sum_eq _ _ fun k => congrArg₂ (fun a b : EReal => a * b) (first_at m c t p k r h) (w_at m c t k q s hs)
  · refine (one_B m c t h0 (ix2 p q)).trans ((mm_part _ _ (ix2 p q)).trans ?_)
    exact Reals.sum_eq _ _ fun k => congrArg₂ (fun a b : EReal => a * b)
      (x_at m c (t.val - 1) ⟨t.val - 1, Nat.lt_of_le_of_lt (Nat.sub_le _ _) t.isLt⟩ rfl p k r (by show r.val = (t.val - 1) / 4 * 768 + p.val; omega)) (w_at m c t k q s hs)

/-! ## The arrays after the run -/

/-- The product after the run. -/
theorem y_final (c : Dev nD) : (dats m 0 c).arrAt 3 (cfgs 0).N = fun j : S8448x5120.Idx => prd (X m c (j 0)) (W m c) (j 1) := by
  refine (dats m 0 c).arrAt_eq_of_covers 3 _ (by decide +kernel) fun t hf y => ?_
  blk_simp
  have h0 := row_of t.val (y 0).val ((win0_3.blk t).view.emb y 0).val _ rfl (by rw [(idx t).2.2.2.1]; rfl)
  have h1 : ((win0_3.blk t).view.emb y 1).val = t.val % 4 * 1280 + (y 1).val := by
    show (win0_3.index t 1) * 1280 + 1 * (y 1).val = _
    rw [(idx t).2.2.2.1, one_mul]; rfl
  rw [after3]
  exact (congrArg (outs m c t.val t.isLt).1 (eq_ix2 y)).trans (y_at m c t (y 0) (y 1) _ _ h0 h1)

/-- The normalised rows after the run. -/
theorem x_final (c : Dev nD) : (dats m 0 c).arrAt 4 (cfgs 0).N = fun j : S8448x1024.Idx => X m c (j 0) (j 1) := by
  refine (dats m 0 c).arrAt_eq_of_covers 4 _ (by decide +kernel) fun t hf y => ?_
  blk_simp
  have h0 := row_of t.val (y 0).val ((win0_4.blk t).view.emb y 0).val _ rfl (by rw [(idx t).2.2.2.2]; rfl)
  have h1 := col_of (n := 1024) 0 (y 1) ((win0_4.blk t).view.emb y 1) _ rfl (by rw [(idx t).2.2.2.2]; rfl)
  rw [h1, after4]
  exact (congrArg (outs m c t.val t.isLt).2 (eq_ix2 y)).trans (x_at m c t.val t rfl (y 0) (y 1) _ h0)

end Cert.Kernel14Ideal.Rms

namespace Cert.Proof.RmsMm

open Idealize.ShloMosaic Idealize.SL.Sem

/-- The two programs' tables of bodies are the same at the machine's floats. -/
theorem bodies14 : Cert.Kernel14.defs₀ (F := Bits) = Cert.Kernel14Ideal.defs₀ (F := Bits) := by
  unfold Cert.Kernel14.defs₀ Cert.Kernel14Ideal.defs₀
  refine congrArg Defs.onTc ?_
  funext l x
  match l, x with
  | 0, (t, s) => rfl

theorem defs14 : Cert.Kernel14.defs (F := Bits) = Cert.Kernel14Ideal.defs (F := Bits) :=
  congrArg (Pipeline.defs (Cert.Kernel14Ideal.pcfgs (F := Bits))) bodies14

/-- The input projection's frame is the run's at the machine's floats. -/
theorem frame14 : Cert.quiescent_Kernel14 := fun m ρ _ => by
  rw [defs14]
  exact Cert.Kernel14Ideal.Rms.frame (F := Bits) m ρ

/-- The input projection: both results equal the lines over whole arrays. -/
theorem algebraic14 : Cert.algebraic_Kernel14Ideal_Reference14Ideal := by
  intro m ρ m' ρ' hpre hag
  refine ⟨fun c => (Cert.Kernel14Ideal.Rms.dats m 0 c).arrAt 3 (Cert.Kernel14Ideal.cfgs 0).N, fun c => (Cert.Kernel14Ideal.Rms.dats m 0 c).arrAt 4 (Cert.Kernel14Ideal.cfgs 0).N, Cert.Kernel14Ideal.Rms.run_blocks m ρ,
    (θ_run Cert.Reference14Ideal.defs _ _).mono (fun r h c => ⟨(h c).1.trans ?_, (h c).2.1.trans ?_, (h c).2.2⟩) (Cert.Reference14Ideal.Value.run m' ρ')⟩
  · refine Eq.trans ?_ (Cert.Kernel14Ideal.Rms.y_final m c).symm
    funext j
    exact Cert.Reference14Ideal.Rms.product_eq _ _ _ _ _ _ (hag c).1 (hag c).2.1 (hag c).2.2 j
  · refine Eq.trans ?_ (Cert.Kernel14Ideal.Rms.x_final m c).symm
    funext j
    exact Cert.Reference7Ideal.Rms.norm_eq _ _ _ _ (hag c).1 (hag c).2.1 j

end Cert.Proof.RmsMm

end
-- ==== Proof.ConvT.lean ====
/- The convolution's gradient by its input: each row of the result takes its own row and the two rows after it, the last two rows of a tile
   reading the next tile's first rows, and equals the `jax.vjp` of the causal convolution over whole arrays. -/
module

public import proofs.«01_k».proof.Proof.Gen.Kernel8Ideal.Value
public import proofs.«01_k».proof.Proof.Gen.Reference8Ideal.Run
public import Idealize.ShloMosaic.Lib.Pipeline.ValueKit
public import proofs.«01_k».proof.Proof.Reals
public import proofs.«01_k».proof.Proof.UpBwd
public import proofs.«01_k».proof.Defs

@[expose] public section

set_option maxRecDepth 16384

noncomputable section

namespace Cert.Kernel8Ideal.ConvT
open Idealize.ShloMosaic

/-- The three taps of one column against a row and the two rows after it, `0` past the last row. -/
def taps (u : Fin 8448 → EReal) (w2 w1 w0 : EReal) (r : Fin 8448) : EReal :=
  w2 * u r + w1 * (if h : r.val + 1 < 8448 then u ⟨r.val + 1, h⟩ else 0) + w0 * (if h : r.val + 2 < 8448 then u ⟨r.val + 2, h⟩ else 0)

end Cert.Kernel8Ideal.ConvT

namespace Cert.Reference8Ideal.ConvT
open Idealize.ShloMosaic Idealize.ShloMosaic.TcCoe Idealize.SL.Sem
open Cert.Reference8Ideal Cert.Reference8Ideal.Gen
open Cert.KernelIdeal.NormBwd (el)
open Cert.Kernel8Ideal.ConvT (taps)

/-- The gradient by the input. -/
abbrev grad (U : FVec Ideal S8448x5632 .bf16) (C : FVec Ideal S3x5632 .f32) : FVec Ideal S8448x5632 .bf16 :=
  truncf .bf16 (extractStridedSlice S8448x5632 ![2, 0] (addf (addf (pad S8450x5632 ![2, 0] ![0, 0] ![0, 0] (mulf (broadcastInDim S8448x5632 ![0, 1] bcast_S1x5632_S8448x5632_0_1 (broadcastInDim S1x5632 ![1] bcast_S5632_S1x5632_1 (shapeCast _ (extractStridedSlice S1x5632 ![2, 0] C slices_S3x5632_S1x5632_2_0) shapeCasts_S1x5632_S5632))) (extf .f32 U bitsLt_bf16_f32)) (constant S_ .f32 0x00000000#32) pads_S8448x5632_S8450x5632_200_000 h_S_) (pad S8450x5632 ![1, 0] ![1, 0] ![0, 0] (mulf (broadcastInDim S8448x5632 ![0, 1] bcast_S1x5632_S8448x5632_0_1 (broadcastInDim S1x5632 ![1] bcast_S5632_S1x5632_1 (shapeCast _ (extractStridedSlice S1x5632 ![1, 0] C slices_S3x5632_S1x5632_1_0) shapeCasts_S1x5632_S5632))) (extf .f32 U bitsLt_bf16_f32)) (constant S_ .f32 0x00000000#32) pads_S8448x5632_S8450x5632_110_000 h_S_)) (pad S8450x5632 ![0, 0] ![2, 0] ![0, 0] (mulf (broadcastInDim S8448x5632 ![0, 1] bcast_S1x5632_S8448x5632_0_1 (broadcastInDim S1x5632 ![1] bcast_S5632_S1x5632_1 (shapeCast _ (extractStridedSlice S1x5632 ![0, 0] C slices_S3x5632_S1x5632_0_0) shapeCasts_S1x5632_S5632))) (extf .f32 U bitsLt_bf16_f32)) (constant S_ .f32 0x00000000#32) pads_S8448x5632_S8450x5632_020_000 h_S_)) slices_S8450x5632_S8448x5632_2_0) bitsLt_bf16_f32

theorem grad_at (U : FVec Ideal S8448x5632 .bf16) (C : FVec Ideal S3x5632 .f32) (r : Fin 8448) (q : Fin 5632) :
    grad U C (ix2 r q) = taps (fun r => el U (ix2 r q)) (el C (ix2 2 q)) (el C (ix2 1 q)) (el C (ix2 0 q)) r := by
  have e1 (w : EReal) : (if h : 1 ≤ 2 + r.val ∧ 2 + r.val - 1 < 8448 then w * el U (ix2 ⟨2 + r.val - 1, h.2⟩ q) else 0)
      = w * (if h : r.val + 1 < 8448 then el U (ix2 ⟨r.val + 1, h⟩ q) else 0) := by
    by_cases h : r.val + 1 < 8448
    · rw [dif_pos ⟨by omega, by omega⟩, dif_pos h]
      exact congrArg (fun k => w * el U (ix2 k q)) (Fin.ext (by show 2 + r.val - 1 = r.val + 1; omega))
    · rw [dif_neg (fun c => h (by omega)), dif_neg h, mul_zero]
  have e2 (w : EReal) : (if h : 2 + r.val < 8448 then w * el U (ix2 ⟨2 + r.val, h⟩ q) else 0)
      = w * (if h : r.val + 2 < 8448 then el U (ix2 ⟨r.val + 2, h⟩ q) else 0) := by
    by_cases h : r.val + 2 < 8448
    · rw [dif_pos (by omega), dif_pos h]
      exact congrArg (fun k => w * el U (ix2 k q)) (Fin.ext (by show 2 + r.val = r.val + 2; omega))
    · rw [dif_neg (fun c => h (by omega)), dif_neg h, mul_zero]
  pointwise [grad, taps]
  exact congrArg₂ (fun a b : EReal => a + b) (congrArg₂ (fun a b : EReal => a + b) rfl (e1 _)) (e2 _)

end Cert.Reference8Ideal.ConvT

namespace Cert.Kernel8Ideal.ConvT

open Idealize.ShloMosaic Idealize.ShloMosaic.TcCoe Idealize.SL.Sem
open Idealize.ShloMosaic.Pipeline (Dat)
open Cert.Kernel8Ideal Cert.Kernel8Ideal.Gen
open Cert.KernelIdeal.NormBwd (el)

/-! ## One grid point's values at an index -/

/-- One column chunk of a tile: `b` says whether this is the last tile. -/
def chunk (b : BitVec 1) (u : FVec Ideal S128x256 .bf16) (n0 n1 : FVec Ideal S1x256 .bf16) (w2 w1 w0 : FVec Ideal S1x256 .f32) : FVec Ideal S128x256 .bf16 :=
  k0_pay1 (F := Ideal) (k0_pay105 b u n0 n1) (k0_pay106 b u n0 w2 w1) w0

/-- Row `s` rows after row `p` of a tile, the next tile's rows being `n0` and `n1`. -/
def after (b : BitVec 1) (u : Fin 128 → EReal) (n0 n1 : EReal) (p : Fin 128) (s : ℕ) : EReal :=
  if h : p.val + s < 128 then u ⟨p.val + s, h⟩ else Scalar.select b 0 (if p.val + s = 128 then n0 else n1)

theorem sel0 {α : Type} (x y : α) : Scalar.select 0#1 x y = y := rfl
theorem sel1 {α : Type} (x y : α) : Scalar.select 1#1 x y = x := rfl

theorem is127 : ∀ p : Fin 128, IntOp.cmpi .eq (BitVec.ofNat 32 p.val) 127#32 = if p.val = 127 then 1#1 else 0#1 := by decide +kernel
theorem is126 : ∀ p : Fin 128, IntOp.cmpi .eq (BitVec.ofNat 32 p.val) 126#32 = if p.val = 126 then 1#1 else 0#1 := by decide +kernel

/-- The rotation by one row with the next tile's first row in the last place. -/
theorem after_one (b : BitVec 1) (u : Fin 128 → EReal) (n0 n1 : EReal) (p : Fin 128) :
    Scalar.select (IntOp.cmpi .eq (BitVec.ofNat 32 p.val) 127#32) (Scalar.select b 0 n0) (u ⟨(p.val + 128 - 127) % 128, by omega⟩) = after b u n0 n1 p 1 := by
  have hp := p.isLt
  unfold after
  rw [is127]
  by_cases h : p.val + 1 < 128
  · rw [dif_pos h, if_neg (by omega), sel0]
    exact congrArg u (Fin.ext (by show (p.val + 128 - 127) % 128 = p.val + 1; omega))
  · rw [dif_neg h, if_pos (by omega), if_pos (by omega), sel1]

/-- The rotation by two rows with the next tile's first two rows in the last places. -/
theorem after_two (b : BitVec 1) (u : Fin 128 → EReal) (n0 n1 : EReal) (p : Fin 128) :
    Scalar.select (IntOp.cmpi .eq (BitVec.ofNat 32 p.val) 127#32) (Scalar.select b 0 n1)
      (Scalar.select (IntOp.cmpi .eq (BitVec.ofNat 32 p.val) 126#32) (Scalar.select b 0 n0) (u ⟨(p.val + 128 - 126) % 128, by omega⟩)) = after b u n0 n1 p 2 := by
  have hp := p.isLt
  unfold after
  rw [is127, is126]
  by_cases h : p.val + 2 < 128
  · rw [dif_pos h, if_neg (by omega), if_neg (by omega), sel0, sel0]
    exact congrArg u (Fin.ext (by show (p.val + 128 - 126) % 128 = p.val + 2; omega))
  · rw [dif_neg h]
    by_cases h1 : p.val = 127
    · rw [if_pos h1, sel1, if_neg (by omega : ¬p.val + 2 = 128)]
    · rw [if_neg h1, if_pos (by omega), if_pos (by omega), sel0, sel1]

theorem chunk_at (b : BitVec 1) (u : FVec Ideal S128x256 .bf16) (n0 n1 : FVec Ideal S1x256 .bf16) (w2 w1 w0 : FVec Ideal S1x256 .f32) (p : Fin 128) (q : Fin 256) :
    chunk b u n0 n1 w2 w1 w0 (ix2 p q) = el w2 (ix2 0 q) * el u (ix2 p q)
      + el w1 (ix2 0 q) * after b (fun p => el u (ix2 p q)) (el n0 (ix2 0 q)) (el n1 (ix2 0 q)) p 1
      + el w0 (ix2 0 q) * after b (fun p => el u (ix2 p q)) (el n0 (ix2 0 q)) (el n1 (ix2 0 q)) p 2 := by
  rw [← after_one, ← after_two]
  pointwise [chunk, k0_pay1, k0_pay105, k0_pay106, k0_pay103, k0_pay104]

/-- One tile, over its columns. -/
def tile (b : BitVec 1) (u : FVec Ideal S128x5632 .bf16) (n : FVec Ideal S16x5632 .bf16) (w : FVec Ideal S3x5632 .f32) (p : Fin 128) (q : Fin 5632) : EReal :=
  el w (ix2 2 q) * el u (ix2 p q)
      + el w (ix2 1 q) * after b (fun p => el u (ix2 p q)) (el n (ix2 0 q)) (el n (ix2 1 q)) p 1
      + el w (ix2 0 q) * after b (fun p => el u (ix2 p q)) (el n (ix2 0 q)) (el n (ix2 1 q)) p 2

/-- A column chunk is the tile's columns `o, …, o + 255`. -/
theorem chunk_tile (b : BitVec 1) (u : FVec Ideal S128x5632 .bf16) (n : FVec Ideal S16x5632 .bf16) (w : FVec Ideal S3x5632 .f32)
    (u' : FVec Ideal S128x256 .bf16) (n0 n1 : FVec Ideal S1x256 .bf16) (w2 w1 w0 : FVec Ideal S1x256 .f32) (y0 : Fin 128) (y1 : Fin 5632) (x0 : Fin 128) (x1 : Fin 256)
    (h0 : y0 = x0) (hu : ∀ p, u' (ix2 p x1) = u (ix2 p y1)) (hn0 : n0 (ix2 0 x1) = n (ix2 0 y1)) (hn1 : n1 (ix2 0 x1) = n (ix2 1 y1))
    (hw2 : w2 (ix2 0 x1) = w (ix2 2 y1)) (hw1 : w1 (ix2 0 x1) = w (ix2 1 y1)) (hw0 : w0 (ix2 0 x1) = w (ix2 0 y1)) :
    chunk b u' n0 n1 w2 w1 w0 (ix2 x0 x1) = tile b u n w y0 y1 := by
  subst h0
  refine (chunk_at b u' n0 n1 w2 w1 w0 y0 x1).trans ?_
  simp only [tile, el, hu, hn0, hn1, hw2, hw1, hw0]

theorem tile_at (i : grid0.Coords) (u : FVec Ideal S128x5632 .bf16) (n : FVec Ideal S16x5632 .bf16) (w : FVec Ideal S3x5632 .f32) (y : S128x5632.Idx) :
    out0_3 (F := Ideal) i u n w y = tile (Scalar.cmpi .eq (BitVec.ofNat 32 (i 0).val) 65#32) u n w (y 0) (y 1) := by
  idx_vars y
  canon_tiles x h
  all_goals
    idx_vars x
    refine chunk_tile _ u n w _ _ _ _ _ _ _ _ x0 x1 (Fin.ext h0) (fun p => ?_) ?_ ?_ ?_ ?_ ?_
    all_goals refine View.ld_unit_apply_of _ _ _ _ _ _ (Fin.forall_fin_two.2 ⟨?_, ?_⟩)
    all_goals first | rfl | exact h1 | exact (zero_add _).symm | exact h1.trans (zero_add _).symm

/-- The rows after a tile's row are the array's rows after it. -/
theorem after_row (D : Fin 8448 → EReal) (t : ℕ) (ht : t < 66) (b : BitVec 1) (hb : b = if t = 65 then 1#1 else 0#1) (u : Fin 128 → EReal)
    (hu : ∀ (p : Fin 128) (r : Fin 8448), r.val = t * 128 + p.val → u p = D r) (n0 n1 : EReal)
    (h0 : ∀ r : Fin 8448, t < 65 → r.val = t * 128 + 128 → n0 = D r) (h1 : ∀ r : Fin 8448, t < 65 → r.val = t * 128 + 129 → n1 = D r)
    (p : Fin 128) (r : Fin 8448) (hr : r.val = t * 128 + p.val) (s : ℕ) (hs : s = 1 ∨ s = 2) :
    after b u n0 n1 p s = if h : r.val + s < 8448 then D ⟨r.val + s, h⟩ else 0 := by
  have hp := p.isLt
  unfold after
  by_cases h : p.val + s < 128
  · rw [dif_pos h, dif_pos (by omega)]
    exact hu _ _ (by show r.val + s = t * 128 + (p.val + s); omega)
  · rw [dif_neg h]
    by_cases hl : t = 65
    · rw [if_pos hl] at hb
      rw [dif_neg (by omega), hb]
      rfl
    · rw [if_neg hl] at hb
      rw [dif_pos (by omega), hb]
      refine Eq.trans (b := if p.val + s = 128 then n0 else n1) rfl ?_
      by_cases he : p.val + s = 128
      · rw [if_pos he]
        exact h0 _ (by omega) (by show r.val + s = _; omega)
      · rw [if_neg he]
        exact h1 _ (by omega) (by show r.val + s = _; omega)

variable (m : (ℓ : Loc nD τ sig) → Buf (Elt Ideal) ℓ)

/-! ## The run's contents -/

/-- The windows' block indices at every grid point. -/
theorem idx : ∀ t : Fin cfg0.N, win0_0.index t = ![t.val, 0] ∧ win0_1.index t = ![min ((t.val + 1) * 8) 527, 0] ∧ win0_2.index t = ![0, 0] ∧ win0_3.index t = ![t.val, 0] :=
  (by decide +kernel : ∀ t : Fin grid0.N, _)

/-- The last tile is the grid's last point. -/
theorem last : ∀ t : Fin cfg0.N, Scalar.cmpi .eq (BitVec.ofNat 32 (grid0.coords t 0).val) 65#32 = if t.val = 65 then 1#1 else 0#1 :=
  (by decide +kernel : ∀ t : Fin grid0.N, _)

/-- The arguments, by row and column. -/
abbrev U (c : Dev nD) (r : Fin 8448) (q : Fin 5632) : EReal := el (s := S8448x5632) (φ := .bf16) (m ((c : Thread nD τ).loc main_arg0)) (ix2 r q)
abbrev C (c : Dev nD) (k : Fin 3) (q : Fin 5632) : EReal := el (s := S3x5632) (φ := .f32) (m ((c : Thread nD τ).loc main_arg1)) (ix2 k q)

theorem u_at (c : Dev nD) (t : Fin cfg0.N) (p : Fin 128) (q : Fin 5632) (r : Fin 8448) (h : r.val = t.val * 128 + p.val) :
    el (s := S128x5632) (φ := .bf16) (iblk m c 0 t) (ix2 p q) = U m c r q := by
  simp only [el]
  blk_point [iblk, V, idx t]

theorem n_at (c : Dev nD) (t : Fin cfg0.N) (p : Fin 16) (q : Fin 5632) (r : Fin 8448) (h : r.val = min ((t.val + 1) * 8) 527 * 16 + p.val) :
    el (s := S16x5632) (φ := .bf16) (iblk m c 1 t) (ix2 p q) = U m c r q := by
  simp only [el]
  blk_point [iblk, V, idx t]

theorem w_at (c : Dev nD) (t : Fin cfg0.N) (k : Fin 3) (q : Fin 5632) :
    el (s := S3x5632) (φ := .f32) (iblk m c 2 t) (ix2 k q) = C m c k q := by
  simp only [el]
  blk_point [iblk, V, idx t]

theorem row_of (t : Fin cfg0.N) (y0 : Fin 128) (r : Fin 8448) (i0 : ℕ) (e : r.val = i0 * 128 + 1 * y0.val) (hi : i0 = t.val) : r.val = t.val * 128 + y0.val := by
  rw [e, hi, one_mul]

theorem col_of {n : ℕ} (y1 q : Fin n) (i1 : ℕ) (e : q.val = i1 * n + 1 * y1.val) (hi : i1 = 0) : q = y1 :=
  Fin.ext (by rw [e, hi, zero_mul, one_mul, zero_add])

theorem rows_at (c : Dev nD) (t : Fin cfg0.N) (p : Fin 128) (q : Fin 5632) (r : Fin 8448) (hr : r.val = t.val * 128 + p.val) (s : ℕ) (hs : s = 1 ∨ s = 2) :
    after (Scalar.cmpi .eq (BitVec.ofNat 32 (grid0.coords t 0).val) 65#32) (fun p => el (s := S128x5632) (φ := .bf16) (iblk m c 0 t) (ix2 p q))
      (el (s := S16x5632) (φ := .bf16) (iblk m c 1 t) (ix2 0 q)) (el (s := S16x5632) (φ := .bf16) (iblk m c 1 t) (ix2 1 q)) p s
      = if h : r.val + s < 8448 then U m c ⟨r.val + s, h⟩ q else 0 := by
  refine after_row (fun r => U m c r q) t.val t.isLt _ (last t) _ (fun p r h => u_at m c t p q r h) _ _ (fun r h e => n_at m c t 0 q r ?_) (fun r h e => n_at m c t 1 q r ?_) p r hr s hs
  · show r.val = _ + 0
    omega
  · show r.val = _ + 1
    omega

/-- The result after the run. -/
theorem final (c : Dev nD) : (dats m 0 c).arrAt 3 (cfgs 0).N = fun j : S8448x5632.Idx =>
    taps (fun r => U m c r (j 1)) (C m c 2 (j 1)) (C m c 1 (j 1)) (C m c 0 (j 1)) (j 0) := by
  refine (dats m 0 c).arrAt_eq_of_covers 3 _ (by decide +kernel) fun t hf y => ?_
  blk_simp
  have e0 := row_of t (y 0) ((win0_3.blk t).view.emb y 0) _ rfl (by rw [(idx t).2.2.2]; rfl)
  have e1 := col_of (n := 5632) (y 1) ((win0_3.blk t).view.emb y 1) _ rfl (by rw [(idx t).2.2.2]; rfl)
  rw [e1, after0_3]
  refine (tile_at _ _ _ _ y).trans ?_
  unfold tile taps
  rw [rows_at m c t (y 0) (y 1) _ e0 1 (.inl rfl), rows_at m c t (y 0) (y 1) _ e0 2 (.inr rfl), u_at m c t (y 0) (y 1) _ e0, w_at m c t 0 (y 1), w_at m c t 1 (y 1), w_at m c t 2 (y 1)]

end Cert.Kernel8Ideal.ConvT

namespace Cert.Proof.ConvT

open Idealize.ShloMosaic Idealize.SL.Sem
open Cert.KernelIdeal.NormBwd (el)
open Cert.Kernel8Ideal.ConvT (taps)
open Cert.Reference8Ideal.ConvT
open Cert.Reference8Ideal (S8448x5632 S3x5632)

theorem grad_eq (U : FVec Ideal S8448x5632 .bf16) (C : FVec Ideal S3x5632 .f32) (U' : FVec Ideal S8448x5632 .bf16) (C' : FVec Ideal S3x5632 .f32)
    (e : U' = U ∧ C' = C) (j : S8448x5632.Idx) :
    grad U' C' j = taps (fun r => el U (ix2 r (j 1))) (el C (ix2 2 (j 1))) (el C (ix2 1 (j 1))) (el C (ix2 0 (j 1))) (j 0) := by
  obtain ⟨rfl, rfl⟩ := e
  refine Eq.trans (b := grad U' C' (ix2 (j 0) (j 1))) (congrArg _ (eq_ix2 j)) ?_
  exact grad_at U' C' (j 0) (j 1)

theorem algebraic : Cert.algebraic_Kernel8Ideal_Reference8Ideal := by
  intro m ρ m' ρ' hpre hag
  refine ⟨fun c => (Cert.Kernel8Ideal.Gen.dats m 0 c).arrAt 3 (Cert.Kernel8Ideal.cfgs 0).N, Cert.Kernel8Ideal.Value.run_blocks m ρ,
    (θ_run Cert.Reference8Ideal.defs _ _).mono (fun r h c => ⟨(h c).1.trans ?_, (h c).2⟩) (Cert.Reference8Ideal.Value.run m' ρ')⟩
  refine Eq.trans ?_ (Cert.Kernel8Ideal.ConvT.final m c).symm
  funext j
  exact grad_eq _ _ _ _ (hag c) j

end Cert.Proof.ConvT

end
-- ==== Proof.MergeFwd.lean ====
/- The forward call of the merge of the two mixers: their output products, the gated sum, the output product and the residual
   with the normalised product equal the same lines written over whole arrays. -/
module

public import proofs.«01_k».proof.Proof.Gen.Kernel11Ideal.Value
public import proofs.«01_k».proof.Proof.Gen.Reference11Ideal.Run
public import Idealize.ShloMosaic.Lib.Pipeline.ValueKit
public import proofs.«01_k».proof.Proof.Reals
public import proofs.«01_k».proof.Proof.UpBwd
public import proofs.«01_k».proof.Defs

@[expose] public section

set_option maxRecDepth 16384

noncomputable section

namespace Cert.Kernel11Ideal.Merge
open Idealize.ShloMosaic
open Cert.KernelIdeal.NormBwd (rr el)

/-- A row against a matrix. -/
def prd {n : ℕ} (A : Fin n → EReal) (W : Fin n → Fin 1024 → EReal) (q : Fin 1024) : EReal := ∑ k : Fin n, A k * W k q

/-- The gated sum of a row of the two branches. -/
def gated (A B : Fin 512 → EReal) (SA SB : Fin 1024 → EReal) (WA WB : Fin 512 → Fin 1024 → EReal) (q : Fin 1024) : EReal :=
  Ideal.logistic (SA q) * prd A WA q + Ideal.logistic (SB q) * prd B WB q

/-- A row of the residual with the normalised product. -/
def resid (H M G : Fin 1024 → EReal) (q : Fin 1024) : EReal := H q + M q * rr M * G q

end Cert.Kernel11Ideal.Merge

namespace Cert.Reference11Ideal.Merge
open Idealize.ShloMosaic Idealize.ShloMosaic.TcCoe Idealize.SL.Sem
open Cert.Reference11Ideal Cert.Reference11Ideal.Gen
open Cert.KernelIdeal.NormBwd (rr el)
open Cert.Kernel11Ideal.Merge (prd gated resid)

/-- A branch's output product. -/
abbrev prod (O : FVec Ideal S8448x512 .bf16) (W : FVec Ideal S512x1024 .bf16) : FVec Ideal S8448x1024 .f32 :=
  Host.dotGeneral dot_S8448x512_S512x1024_S8448x1024_1_0_0_1_n_n none (extf .f32 O bitsLt_bf16_f32) (extf .f32 W bitsLt_bf16_f32)

/-- The gated sum. -/
abbrev merged (OA OB : FVec Ideal S8448x512 .bf16) (PR : FVec Ideal S8448x5120 .bf16) (WA WB : FVec Ideal S512x1024 .bf16) : FVec Ideal S8448x1024 .f32 :=
  addf (mulf (Host.divf (broadcastInDim S8448x1024 ![] bcast_S_S8448x1024 (constant S_ .f32 0x3F800000#32)) (addf (broadcastInDim S8448x1024 ![] bcast_S_S8448x1024 (constant S_ .f32 0x3F800000#32)) (Host.exp (Host.negf (extf .f32 (extractStridedSlice S8448x1024 ![0, 3072] PR slices_S8448x5120_S8448x1024_0_3072) bitsLt_bf16_f32))))) (prod OA WA)) (mulf (Host.divf (broadcastInDim S8448x1024 ![] bcast_S_S8448x1024 (constant S_ .f32 0x3F800000#32)) (addf (broadcastInDim S8448x1024 ![] bcast_S_S8448x1024 (constant S_ .f32 0x3F800000#32)) (Host.exp (Host.negf (extf .f32 (extractStridedSlice S8448x1024 ![0, 4096] PR slices_S8448x5120_S8448x1024_0_4096) bitsLt_bf16_f32))))) (prod OB WB))

/-- The output product. -/
abbrev mixed (OA OB : FVec Ideal S8448x512 .bf16) (PR : FVec Ideal S8448x5120 .bf16) (WA WB : FVec Ideal S512x1024 .bf16) (WO : FVec Ideal S1024x1024 .bf16) : FVec Ideal S8448x1024 .f32 :=
  Host.dotGeneral dot_S8448x1024_S1024x1024_S8448x1024_1_0_0_1_n_n none (merged OA OB PR WA WB) (extf .f32 WO bitsLt_bf16_f32)

/-- The residual with the normalised output product. -/
abbrev next (OA OB : FVec Ideal S8448x512 .bf16) (PR : FVec Ideal S8448x5120 .bf16) (H : FVec Ideal S8448x1024 .f32) (WA WB : FVec Ideal S512x1024 .bf16) (WO : FVec Ideal S1024x1024 .bf16) (G : FVec Ideal S1x1024 .f32) : FVec Ideal S8448x1024 .f32 :=
  addf H (mulf (mulf (mixed OA OB PR WA WB WO) (broadcastInDim S8448x1024 ![0, 1] bcast_S8448x1_S8448x1024_0_1 (Host.rsqrt (addf (Host.divf (broadcastInDim S8448x1 ![0] bcast_S8448_S8448x1_0 (Host.reduceAdd (mulf (mixed OA OB PR WA WB WO) (mixed OA OB PR WA WB WO)) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 G))

theorem prod_at (O : FVec Ideal S8448x512 .bf16) (W : FVec Ideal S512x1024 .bf16) (j : S8448x1024.Idx) :
    prod O W j = prd (fun k => el O (ix2 (j 0) k)) (fun k q => el W (ix2 k q)) (j 1) := by
  pointwise [prod, prd]

theorem merged_at (OA OB : FVec Ideal S8448x512 .bf16) (PR : FVec Ideal S8448x5120 .bf16) (WA WB : FVec Ideal S512x1024 .bf16) (j : S8448x1024.Idx) :
    merged OA OB PR WA WB j = gated (fun k => el OA (ix2 (j 0) k)) (fun k => el OB (ix2 (j 0) k)) (fun q => el PR (ix2 (j 0) ⟨3072 + q.val, by omega⟩))
      (fun q => el PR (ix2 (j 0) ⟨4096 + q.val, by omega⟩)) (fun k q => el WA (ix2 k q)) (fun k q => el WB (ix2 k q)) (j 1) := by
  pointwise [merged, gated, prod, prd, Ideal.logistic]

theorem mixed_at (OA OB : FVec Ideal S8448x512 .bf16) (PR : FVec Ideal S8448x5120 .bf16) (WA WB : FVec Ideal S512x1024 .bf16) (WO : FVec Ideal S1024x1024 .bf16) (j : S8448x1024.Idx) :
    mixed OA OB PR WA WB WO j = prd (fun k => el (merged OA OB PR WA WB) (ix2 (j 0) k)) (fun k q => el WO (ix2 k q)) (j 1) := by
  unfold mixed
  generalize merged OA OB PR WA WB = M
  pointwise [prd]

theorem next_at (OA OB : FVec Ideal S8448x512 .bf16) (PR : FVec Ideal S8448x5120 .bf16) (H : FVec Ideal S8448x1024 .f32) (WA WB : FVec Ideal S512x1024 .bf16) (WO : FVec Ideal S1024x1024 .bf16) (G : FVec Ideal S1x1024 .f32) (j : S8448x1024.Idx) :
    next OA OB PR H WA WB WO G j = resid (fun q => el H (ix2 (j 0) q)) (fun q => el (mixed OA OB PR WA WB WO) (ix2 (j 0) q)) (fun q => el G (ix2 0 q)) (j 1) := by
  unfold next
  generalize mixed OA OB PR WA WB WO = M
  pointwise [resid, rr]

end Cert.Reference11Ideal.Merge

namespace Cert.Kernel11Ideal.Merge

open Idealize.ShloMosaic Idealize.ShloMosaic.TcCoe Idealize.SL.Sem
open Idealize.ShloMosaic.Pipeline (Dat)
open Cert.Kernel11Ideal Cert.Kernel11Ideal.Gen
open Cert.KernelIdeal.NormBwd (rr el)

/-! ## One grid point's values at an index -/

theorem ya_part (o : FVec Ideal S256x512 .bf16) (w : FVec Ideal S512x1024 .bf16) (j : S256x1024.Idx) :
    k0_pay6 (F := Ideal) o w j = prd (fun k => el o (ix2 (j 0) k)) (fun k q => el w (ix2 k q)) (j 1) := by
  pointwise [k0_pay6, k0_pay2, prd]

theorem yb_part (o : FVec Ideal S256x512 .bf16) (w : FVec Ideal S512x1024 .bf16) (j : S256x1024.Idx) :
    k0_pay7 (F := Ideal) o w j = prd (fun k => el o (ix2 (j 0) k)) (fun k q => el w (ix2 k q)) (j 1) := by
  pointwise [k0_pay7, k0_pay3, prd]

theorem m_part (a b : FVec Ideal S256x512 .bf16) (wa wb : FVec Ideal S512x1024 .bf16) (sa sb : FVec Ideal S256x1024 .bf16) (j : S256x1024.Idx) :
    k0_pay4 (F := Ideal) a wa b wb sa sb j = gated (fun k => el a (ix2 (j 0) k)) (fun k => el b (ix2 (j 0) k)) (fun q => el sa (ix2 (j 0) q))
      (fun q => el sb (ix2 (j 0) q)) (fun k q => el wa (ix2 k q)) (fun k q => el wb (ix2 k q)) (j 1) := by
  obtain ⟨p, q, rfl⟩ : ∃ p q, j = ix2 p q := ⟨j 0, j 1, eq_ix2 j⟩
  pointwise [k0_pay4, k0_pay2, k0_pay3, gated, prd]

theorem mixed_part (a b : FVec Ideal S256x512 .bf16) (wa wb : FVec Ideal S512x1024 .bf16) (sa sb : FVec Ideal S256x1024 .bf16) (wo : FVec Ideal S1024x1024 .bf16) (j : S256x1024.Idx) :
    k0_pay5 (F := Ideal) a wa b wb sa sb wo j = prd (fun k => el (k0_pay4 (F := Ideal) a wa b wb sa sb) (ix2 (j 0) k)) (fun k q => el wo (ix2 k q)) (j 1) := by
  unfold k0_pay5
  generalize k0_pay4 (F := Ideal) a wa b wb sa sb = M
  pointwise [prd]

theorem next_part (x h : FVec Ideal S256x1024 .f32) (g : FVec Ideal S1x1024 .f32) (j : S256x1024.Idx) :
    k0_pay1 (F := Ideal) x h (multiReduction .add [1] S256 (mulf x x) 0x00000000#32 reduces_S256x1024_S256 (.inl rfl) rfl) g j
      = resid (fun q => el h (ix2 (j 0) q)) (fun q => el x (ix2 (j 0) q)) (fun q => el g (ix2 0 q)) (j 1) := by
  obtain ⟨p, q, rfl⟩ : ∃ p q, j = ix2 p q := ⟨j 0, j 1, eq_ix2 j⟩
  pointwise [k0_pay1, resid, rr]

variable (m : (ℓ : Loc nD τ sig) → Buf (Elt Ideal) ℓ)

/-! ## The run's contents -/

/-- The windows' block indices at every grid point. -/
theorem idx : ∀ t : Fin cfg0.N, (win0_0.index t = ![t.val, 0] ∧ win0_1.index t = ![t.val, 0] ∧ win0_2.index t = ![t.val, 3]
    ∧ win0_3.index t = ![t.val, 4] ∧ win0_4.index t = ![t.val, 0] ∧ win0_5.index t = ![0, 0] ∧ win0_6.index t = ![0, 0]
    ∧ win0_7.index t = ![0, 0] ∧ win0_8.index t = ![0, 0])
    ∧ win0_9.index t = ![t.val, 0] ∧ win0_10.index t = ![t.val, 0] ∧ win0_11.index t = ![t.val, 0] ∧ win0_12.index t = ![t.val, 0]
    ∧ win0_13.index t = ![t.val, 0] :=
  (by decide +kernel : ∀ t : Fin grid0.N, _)

/-- The arguments, by row and column. -/
abbrev OA (c : Dev nD) (r : Fin 8448) (q : Fin 512) : EReal := el (s := S8448x512) (φ := .bf16) (m ((c : Thread nD τ).loc main_arg0)) (ix2 r q)
abbrev OB (c : Dev nD) (r : Fin 8448) (q : Fin 512) : EReal := el (s := S8448x512) (φ := .bf16) (m ((c : Thread nD τ).loc main_arg1)) (ix2 r q)
abbrev SA (c : Dev nD) (r : Fin 8448) (q : Fin 1024) : EReal := el (s := S8448x5120) (φ := .bf16) (m ((c : Thread nD τ).loc main_arg2)) (ix2 r ⟨3072 + q.val, by omega⟩)
abbrev SB (c : Dev nD) (r : Fin 8448) (q : Fin 1024) : EReal := el (s := S8448x5120) (φ := .bf16) (m ((c : Thread nD τ).loc main_arg2)) (ix2 r ⟨4096 + q.val, by omega⟩)
abbrev H (c : Dev nD) (r : Fin 8448) (q : Fin 1024) : EReal := el (s := S8448x1024) (φ := .f32) (m ((c : Thread nD τ).loc main_arg3)) (ix2 r q)
abbrev WA (c : Dev nD) (k : Fin 512) (q : Fin 1024) : EReal := el (s := S512x1024) (φ := .bf16) (m ((c : Thread nD τ).loc main_arg4)) (ix2 k q)
abbrev WB (c : Dev nD) (k : Fin 512) (q : Fin 1024) : EReal := el (s := S512x1024) (φ := .bf16) (m ((c : Thread nD τ).loc main_arg5)) (ix2 k q)
abbrev WO (c : Dev nD) (k : Fin 1024) (q : Fin 1024) : EReal := el (s := S1024x1024) (φ := .bf16) (m ((c : Thread nD τ).loc main_arg6)) (ix2 k q)
abbrev G (c : Dev nD) (q : Fin 1024) : EReal := el (s := S1x1024) (φ := .f32) (m ((c : Thread nD τ).loc main_arg7)) (ix2 0 q)

theorem oa_at (c : Dev nD) (t : Fin cfg0.N) (p : Fin 256) (q : Fin 512) (r : Fin 8448) (h : r.val = t.val * 256 + p.val) :
    el (s := S256x512) (φ := .bf16) (iblk m c 0 t) (ix2 p q) = OA m c r q := by
  simp only [el]
  blk_point [iblk, V, idx t]

theorem ob_at (c : Dev nD) (t : Fin cfg0.N) (p : Fin 256) (q : Fin 512) (r : Fin 8448) (h : r.val = t.val * 256 + p.val) :
    el (s := S256x512) (φ := .bf16) (iblk m c 1 t) (ix2 p q) = OB m c r q := by
  simp only [el]
  blk_point [iblk, V, idx t]

theorem sa_at (c : Dev nD) (t : Fin cfg0.N) (p : Fin 256) (q : Fin 1024) (r : Fin 8448) (h : r.val = t.val * 256 + p.val) :
    el (s := S256x1024) (φ := .bf16) (iblk m c 2 t) (ix2 p q) = SA m c r q := by
  simp only [el]
  blk_point [iblk, V, idx t]

theorem sb_at (c : Dev nD) (t : Fin cfg0.N) (p : Fin 256) (q : Fin 1024) (r : Fin 8448) (h : r.val = t.val * 256 + p.val) :
    el (s := S256x1024) (φ := .bf16) (iblk m c 3 t) (ix2 p q) = SB m c r q := by
  simp only [el]
  blk_point [iblk, V, idx t]

theorem h_at (c : Dev nD) (t : Fin cfg0.N) (p : Fin 256) (q : Fin 1024) (r : Fin 8448) (h : r.val = t.val * 256 + p.val) :
    el (s := S256x1024) (φ := .f32) (iblk m c 4 t) (ix2 p q) = H m c r q := by
  simp only [el]
  blk_point [iblk, V, idx t]

theorem wa_at (c : Dev nD) (t : Fin cfg0.N) (k : Fin 512) (q : Fin 1024) :
    el (s := S512x1024) (φ := .bf16) (iblk m c 5 t) (ix2 k q) = WA m c k q := by
  simp only [el]
  blk_point [iblk, V, idx t]

theorem wb_at (c : Dev nD) (t : Fin cfg0.N) (k : Fin 512) (q : Fin 1024) :
    el (s := S512x1024) (φ := .bf16) (iblk m c 6 t) (ix2 k q) = WB m c k q := by
  simp only [el]
  blk_point [iblk, V, idx t]

theorem wo_at (c : Dev nD) (t : Fin cfg0.N) (k : Fin 1024) (q : Fin 1024) :
    el (s := S1024x1024) (φ := .bf16) (iblk m c 7 t) (ix2 k q) = WO m c k q := by
  simp only [el]
  blk_point [iblk, V, idx t]

theorem g_at (c : Dev nD) (t : Fin cfg0.N) (q : Fin 1024) :
    el (s := S1x1024) (φ := .f32) (iblk m c 8 t) (ix2 0 q) = G m c q := by
  simp only [el]
  blk_point [iblk, V, idx t]

/-- One point's gated sum. -/
abbrev mt (c : Dev nD) (t : Fin cfg0.N) : FVec Ideal S256x1024 .bf16 :=
  k0_pay4 (F := Ideal) (iblk m c 0 t) (iblk m c 5 t) (iblk m c 1 t) (iblk m c 6 t) (iblk m c 2 t) (iblk m c 3 t)

/-- One point's output product. -/
abbrev xt (c : Dev nD) (t : Fin cfg0.N) : FVec Ideal S256x1024 .f32 :=
  k0_pay5 (F := Ideal) (iblk m c 0 t) (iblk m c 5 t) (iblk m c 1 t) (iblk m c 6 t) (iblk m c 2 t) (iblk m c 3 t) (iblk m c 7 t)

/-- The gated sum of the arguments. -/
abbrev M (c : Dev nD) (r : Fin 8448) : Fin 1024 → EReal := gated (OA m c r) (OB m c r) (SA m c r) (SB m c r) (WA m c) (WB m c)

/-- The output product of the arguments. -/
abbrev X (c : Dev nD) (r : Fin 8448) : Fin 1024 → EReal := prd (M m c r) (WO m c)

theorem yat_at (c : Dev nD) (t : Fin cfg0.N) (p : Fin 256) (q : Fin 1024) (r : Fin 8448) (h : r.val = t.val * 256 + p.val) :
    prd (fun k => el (s := S256x512) (φ := .bf16) (iblk m c 0 t) (ix2 p k)) (fun k q => el (s := S512x1024) (φ := .bf16) (iblk m c 5 t) (ix2 k q)) q
      = prd (OA m c r) (WA m c) q := by
  rw [show (fun k => el (s := S256x512) (φ := .bf16) (iblk m c 0 t) (ix2 p k)) = OA m c r from funext fun k => oa_at m c t p k r h,
    show (fun k q => el (s := S512x1024) (φ := .bf16) (iblk m c 5 t) (ix2 k q)) = WA m c from funext fun k => funext fun q => wa_at m c t k q]

theorem ybt_at (c : Dev nD) (t : Fin cfg0.N) (p : Fin 256) (q : Fin 1024) (r : Fin 8448) (h : r.val = t.val * 256 + p.val) :
    prd (fun k => el (s := S256x512) (φ := .bf16) (iblk m c 1 t) (ix2 p k)) (fun k q => el (s := S512x1024) (φ := .bf16) (iblk m c 6 t) (ix2 k q)) q
      = prd (OB m c r) (WB m c) q := by
  rw [show (fun k => el (s := S256x512) (φ := .bf16) (iblk m c 1 t) (ix2 p k)) = OB m c r from funext fun k => ob_at m c t p k r h,
    show (fun k q => el (s := S512x1024) (φ := .bf16) (iblk m c 6 t) (ix2 k q)) = WB m c from funext fun k => funext fun q => wb_at m c t k q]

theorem mt_at (c : Dev nD) (t : Fin cfg0.N) (p : Fin 256) (q : Fin 1024) (r : Fin 8448) (h : r.val = t.val * 256 + p.val) :
    el (mt m c t) (ix2 p q) = M m c r q := by
  refine (m_part _ _ _ _ _ _ (ix2 p q)).trans ?_
  show Ideal.logistic (el (s := S256x1024) (φ := .bf16) (iblk m c 2 t) (ix2 p q)) * prd _ _ q
    + Ideal.logistic (el (s := S256x1024) (φ := .bf16) (iblk m c 3 t) (ix2 p q)) * prd _ _ q = _
  rw [sa_at m c t p q r h, sb_at m c t p q r h]
  exact congrArg₂ (fun a b : EReal => _ * a + _ * b) (yat_at m c t p q r h) (ybt_at m c t p q r h)

theorem xt_at (c : Dev nD) (t : Fin cfg0.N) (p : Fin 256) (q : Fin 1024) (r : Fin 8448) (h : r.val = t.val * 256 + p.val) :
    el (xt m c t) (ix2 p q) = X m c r q := by
  refine (mixed_part _ _ _ _ _ _ _ (ix2 p q)).trans ?_
  exact Reals.sum_eq _ _ fun k => congrArg₂ (fun a b : EReal => a * b) (mt_at m c t p k r h) (wo_at m c t k q)

theorem row_of (t : Fin cfg0.N) (y0 : Fin 256) (r : Fin 8448) (i0 : ℕ) (e : r.val = i0 * 256 + 1 * y0.val) (hi : i0 = t.val) : r.val = t.val * 256 + y0.val := by
  rw [e, hi, one_mul]

theorem col_of {n : ℕ} (y1 q : Fin n) (i1 : ℕ) (e : q.val = i1 * n + 1 * y1.val) (hi : i1 = 0) : q = y1 :=
  Fin.ext (by rw [e, hi, zero_mul, one_mul, zero_add])

/-- The first branch after the run. -/
theorem ya_final (c : Dev nD) : (dats m 0 c).arrAt 9 (cfgs 0).N
    = fun j : S8448x1024.Idx => prd (OA m c (j 0)) (WA m c) (j 1) := by
  refine (dats m 0 c).arrAt_eq_of_covers 9 _ (by decide +kernel) fun t hf y => ?_
  blk_simp
  have h0 := row_of t (y 0) ((win0_9.blk t).view.emb y 0) _ rfl (by rw [(idx t).2.1]; rfl)
  have h1 := col_of (n := 1024) (y 1) ((win0_9.blk t).view.emb y 1) _ rfl (by rw [(idx t).2.1]; rfl)
  rw [h1]
  rw [after0_9]
  refine Eq.trans (b := k0_pay6 (F := Ideal) (iblk m c 0 t) (iblk m c 5 t) y) (by frame_out) ?_
  exact (ya_part _ _ y).trans (yat_at m c t (y 0) (y 1) _ h0)

/-- The second branch after the run. -/
theorem yb_final (c : Dev nD) : (dats m 0 c).arrAt 10 (cfgs 0).N
    = fun j : S8448x1024.Idx => prd (OB m c (j 0)) (WB m c) (j 1) := by
  refine (dats m 0 c).arrAt_eq_of_covers 10 _ (by decide +kernel) fun t hf y => ?_
  blk_simp
  have h0 := row_of t (y 0) ((win0_10.blk t).view.emb y 0) _ rfl (by rw [(idx t).2.2.1]; rfl)
  have h1 := col_of (n := 1024) (y 1) ((win0_10.blk t).view.emb y 1) _ rfl (by rw [(idx t).2.2.1]; rfl)
  rw [h1]
  rw [after0_10]
  refine Eq.trans (b := k0_pay7 (F := Ideal) (iblk m c 1 t) (iblk m c 6 t) y) (by frame_out) ?_
  exact (yb_part _ _ y).trans (ybt_at m c t (y 0) (y 1) _ h0)

/-- The gated sum after the run. -/
theorem m_final (c : Dev nD) : (dats m 0 c).arrAt 11 (cfgs 0).N
    = fun j : S8448x1024.Idx => M m c (j 0) (j 1) := by
  refine (dats m 0 c).arrAt_eq_of_covers 11 _ (by decide +kernel) fun t hf y => ?_
  blk_simp
  have h0 := row_of t (y 0) ((win0_11.blk t).view.emb y 0) _ rfl (by rw [(idx t).2.2.2.1]; rfl)
  have h1 := col_of (n := 1024) (y 1) ((win0_11.blk t).view.emb y 1) _ rfl (by rw [(idx t).2.2.2.1]; rfl)
  rw [h1]
  rw [after0_11]
  refine Eq.trans (b := el (mt m c t) y) (by frame_out) ?_
  rw [eq_ix2 y]
  exact mt_at m c t (y 0) (y 1) _ h0

/-- The output product after the run. -/
theorem x_final (c : Dev nD) : (dats m 0 c).arrAt 12 (cfgs 0).N
    = fun j : S8448x1024.Idx => X m c (j 0) (j 1) := by
  refine (dats m 0 c).arrAt_eq_of_covers 12 _ (by decide +kernel) fun t hf y => ?_
  blk_simp
  have h0 := row_of t (y 0) ((win0_12.blk t).view.emb y 0) _ rfl (by rw [(idx t).2.2.2.2.1]; rfl)
  have h1 := col_of (n := 1024) (y 1) ((win0_12.blk t).view.emb y 1) _ rfl (by rw [(idx t).2.2.2.2.1]; rfl)
  rw [h1]
  rw [after0_12]
  refine Eq.trans (b := el (xt m c t) y) (by frame_out) ?_
  rw [eq_ix2 y]
  exact xt_at m c t (y 0) (y 1) _ h0

/-- The residual after the run. -/
theorem next_final (c : Dev nD) : (dats m 0 c).arrAt 13 (cfgs 0).N
    = fun j : S8448x1024.Idx => resid (H m c (j 0)) (X m c (j 0)) (G m c) (j 1) := by
  refine (dats m 0 c).arrAt_eq_of_covers 13 _ (by decide +kernel) fun t hf y => ?_
  blk_simp
  have h0 := row_of t (y 0) ((win0_13.blk t).view.emb y 0) _ rfl (by rw [(idx t).2.2.2.2.2]; rfl)
  have h1 := col_of (n := 1024) (y 1) ((win0_13.blk t).view.emb y 1) _ rfl (by rw [(idx t).2.2.2.2.2]; rfl)
  rw [h1]
  rw [after0_13]
  refine Eq.trans (b := k0_pay1 (F := Ideal) (xt m c t) (iblk m c 4 t)
    (multiReduction .add [1] S256 (mulf (xt m c t) (xt m c t)) 0x00000000#32 reduces_S256x1024_S256 (.inl rfl) rfl) (iblk m c 8 t) y) (by frame_out; rfl) ?_
  refine (next_part _ _ _ y).trans ?_
  rw [show (fun q => el (s := S256x1024) (φ := .f32) (iblk m c 4 t) (ix2 (y 0) q)) = H m c _ from funext fun q => h_at m c t (y 0) q _ h0,
    show (fun q => el (xt m c t) (ix2 (y 0) q)) = X m c _ from funext fun q => xt_at m c t (y 0) q _ h0,
    show (fun q => el (s := S1x1024) (φ := .f32) (iblk m c 8 t) (ix2 0 q)) = G m c from funext fun q => g_at m c t q]

end Cert.Kernel11Ideal.Merge

namespace Cert.Proof.MergeFwd

open Idealize.ShloMosaic Idealize.SL.Sem
open Cert.KernelIdeal.NormBwd (rr el)
open Cert.Kernel11Ideal.Merge (prd gated resid)
open Cert.Reference11Ideal.Merge
open Cert.Reference11Ideal (S8448x512 S8448x5120 S8448x1024 S512x1024 S1024x1024 S1x1024)

theorem m_eq (OA OB : FVec Ideal S8448x512 .bf16) (PR : FVec Ideal S8448x5120 .bf16) (H : FVec Ideal S8448x1024 .f32) (WA WB : FVec Ideal S512x1024 .bf16) (WO : FVec Ideal S1024x1024 .bf16) (G : FVec Ideal S1x1024 .f32) (OA' OB' : FVec Ideal S8448x512 .bf16) (PR' : FVec Ideal S8448x5120 .bf16) (H' : FVec Ideal S8448x1024 .f32) (WA' WB' : FVec Ideal S512x1024 .bf16) (WO' : FVec Ideal S1024x1024 .bf16) (G' : FVec Ideal S1x1024 .f32)
    (e : OA' = OA ∧ OB' = OB ∧ PR' = PR ∧ H' = H ∧ WA' = WA ∧ WB' = WB ∧ WO' = WO ∧ G' = G) (j : S8448x1024.Idx) :
    merged OA' OB' PR' WA' WB' j = gated (fun k => el OA (ix2 (j 0) k)) (fun k => el OB (ix2 (j 0) k)) (fun q => el PR (ix2 (j 0) ⟨3072 + q.val, by omega⟩)) (fun q => el PR (ix2 (j 0) ⟨4096 + q.val, by omega⟩)) (fun k q => el WA (ix2 k q)) (fun k q => el WB (ix2 k q)) (j 1) := by
  obtain ⟨rfl, rfl, rfl, rfl, rfl, rfl, rfl, rfl⟩ := e
  exact merged_at _ _ _ _ _ j

theorem x_eq (OA OB : FVec Ideal S8448x512 .bf16) (PR : FVec Ideal S8448x5120 .bf16) (H : FVec Ideal S8448x1024 .f32) (WA WB : FVec Ideal S512x1024 .bf16) (WO : FVec Ideal S1024x1024 .bf16) (G : FVec Ideal S1x1024 .f32) (OA' OB' : FVec Ideal S8448x512 .bf16) (PR' : FVec Ideal S8448x5120 .bf16) (H' : FVec Ideal S8448x1024 .f32) (WA' WB' : FVec Ideal S512x1024 .bf16) (WO' : FVec Ideal S1024x1024 .bf16) (G' : FVec Ideal S1x1024 .f32)
    (e : OA' = OA ∧ OB' = OB ∧ PR' = PR ∧ H' = H ∧ WA' = WA ∧ WB' = WB ∧ WO' = WO ∧ G' = G) (j : S8448x1024.Idx) :
    mixed OA' OB' PR' WA' WB' WO' j = prd (gated (fun k => el OA (ix2 (j 0) k)) (fun k => el OB (ix2 (j 0) k)) (fun q => el PR (ix2 (j 0) ⟨3072 + q.val, by omega⟩)) (fun q => el PR (ix2 (j 0) ⟨4096 + q.val, by omega⟩)) (fun k q => el WA (ix2 k q)) (fun k q => el WB (ix2 k q))) (fun k q => el WO (ix2 k q)) (j 1) := by
  obtain ⟨rfl, rfl, rfl, rfl, rfl, rfl, rfl, rfl⟩ := e
  exact (mixed_at _ _ _ _ _ _ j).trans (congrArg (fun a => prd a _ _) (funext fun k => merged_at _ _ _ _ _ (ix2 (j 0) k)))

theorem next_eq (OA OB : FVec Ideal S8448x512 .bf16) (PR : FVec Ideal S8448x5120 .bf16) (H : FVec Ideal S8448x1024 .f32) (WA WB : FVec Ideal S512x1024 .bf16) (WO : FVec Ideal S1024x1024 .bf16) (G : FVec Ideal S1x1024 .f32) (OA' OB' : FVec Ideal S8448x512 .bf16) (PR' : FVec Ideal S8448x5120 .bf16) (H' : FVec Ideal S8448x1024 .f32) (WA' WB' : FVec Ideal S512x1024 .bf16) (WO' : FVec Ideal S1024x1024 .bf16) (G' : FVec Ideal S1x1024 .f32)
    (e : OA' = OA ∧ OB' = OB ∧ PR' = PR ∧ H' = H ∧ WA' = WA ∧ WB' = WB ∧ WO' = WO ∧ G' = G) (j : S8448x1024.Idx) :
    next OA' OB' PR' H' WA' WB' WO' G' j = resid (fun q => el H (ix2 (j 0) q)) (prd (gated (fun k => el OA (ix2 (j 0) k)) (fun k => el OB (ix2 (j 0) k)) (fun q => el PR (ix2 (j 0) ⟨3072 + q.val, by omega⟩)) (fun q => el PR (ix2 (j 0) ⟨4096 + q.val, by omega⟩)) (fun k q => el WA (ix2 k q)) (fun k q => el WB (ix2 k q))) (fun k q => el WO (ix2 k q))) (fun q => el G (ix2 0 q)) (j 1) := by
  obtain ⟨rfl, rfl, rfl, rfl, rfl, rfl, rfl, rfl⟩ := e
  exact (next_at _ _ _ _ _ _ _ _ j).trans (congrArg (fun a => resid _ a _ _) (funext fun q => x_eq OA' OB' PR' H' WA' WB' WO' G' _ _ _ _ _ _ _ _ ⟨rfl, rfl, rfl, rfl, rfl, rfl, rfl, rfl⟩ (ix2 (j 0) q)))

theorem ya_eq (OA OB : FVec Ideal S8448x512 .bf16) (PR : FVec Ideal S8448x5120 .bf16) (H : FVec Ideal S8448x1024 .f32) (WA WB : FVec Ideal S512x1024 .bf16) (WO : FVec Ideal S1024x1024 .bf16) (G : FVec Ideal S1x1024 .f32) (OA' OB' : FVec Ideal S8448x512 .bf16) (PR' : FVec Ideal S8448x5120 .bf16) (H' : FVec Ideal S8448x1024 .f32) (WA' WB' : FVec Ideal S512x1024 .bf16) (WO' : FVec Ideal S1024x1024 .bf16) (G' : FVec Ideal S1x1024 .f32)
    (e : OA' = OA ∧ OB' = OB ∧ PR' = PR ∧ H' = H ∧ WA' = WA ∧ WB' = WB ∧ WO' = WO ∧ G' = G) (j : S8448x1024.Idx) :
    prod OA' WA' j = prd (fun k => el OA (ix2 (j 0) k)) (fun k q => el WA (ix2 k q)) (j 1) := by
  obtain ⟨rfl, rfl, rfl, rfl, rfl, rfl, rfl, rfl⟩ := e
  exact prod_at _ _ j

theorem yb_eq (OA OB : FVec Ideal S8448x512 .bf16) (PR : FVec Ideal S8448x5120 .bf16) (H : FVec Ideal S8448x1024 .f32) (WA WB : FVec Ideal S512x1024 .bf16) (WO : FVec Ideal S1024x1024 .bf16) (G : FVec Ideal S1x1024 .f32) (OA' OB' : FVec Ideal S8448x512 .bf16) (PR' : FVec Ideal S8448x5120 .bf16) (H' : FVec Ideal S8448x1024 .f32) (WA' WB' : FVec Ideal S512x1024 .bf16) (WO' : FVec Ideal S1024x1024 .bf16) (G' : FVec Ideal S1x1024 .f32)
    (e : OA' = OA ∧ OB' = OB ∧ PR' = PR ∧ H' = H ∧ WA' = WA ∧ WB' = WB ∧ WO' = WO ∧ G' = G) (j : S8448x1024.Idx) :
    prod OB' WB' j = prd (fun k => el OB (ix2 (j 0) k)) (fun k q => el WB (ix2 k q)) (j 1) := by
  obtain ⟨rfl, rfl, rfl, rfl, rfl, rfl, rfl, rfl⟩ := e
  exact prod_at _ _ j

theorem algebraic : Cert.algebraic_Kernel11Ideal_Reference11Ideal := by
  intro m ρ m' ρ' hpre hag
  refine ⟨fun c => (Cert.Kernel11Ideal.Gen.dats m 0 c).arrAt 9 (Cert.Kernel11Ideal.cfgs 0).N, fun c => (Cert.Kernel11Ideal.Gen.dats m 0 c).arrAt 10 (Cert.Kernel11Ideal.cfgs 0).N, fun c => (Cert.Kernel11Ideal.Gen.dats m 0 c).arrAt 11 (Cert.Kernel11Ideal.cfgs 0).N, fun c => (Cert.Kernel11Ideal.Gen.dats m 0 c).arrAt 12 (Cert.Kernel11Ideal.cfgs 0).N, fun c => (Cert.Kernel11Ideal.Gen.dats m 0 c).arrAt 13 (Cert.Kernel11Ideal.cfgs 0).N, Cert.Kernel11Ideal.Value.run_blocks m ρ,
    (θ_run Cert.Reference11Ideal.defs _ _).mono (fun r h c => ⟨(h c).1.trans ?_, (h c).2.1.trans ?_, (h c).2.2.1.trans ?_, (h c).2.2.2.1.trans ?_, (h c).2.2.2.2.1.trans ?_, (h c).2.2.2.2.2⟩) (Cert.Reference11Ideal.Value.run m' ρ')⟩
  · refine Eq.trans ?_ (Cert.Kernel11Ideal.Merge.ya_final m c).symm
    funext j
    exact ya_eq _ _ _ _ _ _ _ _ _ _ _ _ _ _ _ _ (hag c) j
  · refine Eq.trans ?_ (Cert.Kernel11Ideal.Merge.yb_final m c).symm
    funext j
    exact yb_eq _ _ _ _ _ _ _ _ _ _ _ _ _ _ _ _ (hag c) j
  · refine Eq.trans ?_ (Cert.Kernel11Ideal.Merge.m_final m c).symm
    funext j
    exact m_eq _ _ _ _ _ _ _ _ _ _ _ _ _ _ _ _ (hag c) j
  · refine Eq.trans ?_ (Cert.Kernel11Ideal.Merge.x_final m c).symm
    funext j
    exact x_eq _ _ _ _ _ _ _ _ _ _ _ _ _ _ _ _ (hag c) j
  · refine Eq.trans ?_ (Cert.Kernel11Ideal.Merge.next_final m c).symm
    funext j
    exact next_eq _ _ _ _ _ _ _ _ _ _ _ _ _ _ _ _ (hag c) j

end Cert.Proof.MergeFwd

end
-- ==== Proof.DownLoss.lean ====
/- The forward call of the down projection and the loss: the product, the gradient of the loss by the layer's output and the sum of
   squares of the errors, accumulated over the row tiles, equal the loss's lines and its `jax.vjp` over whole arrays. -/
module

public import proofs.«01_k».proof.Proof.Gen.Kernel12Ideal.Value
public import proofs.«01_k».proof.Proof.Gen.Reference12Ideal.Run
public import Idealize.ShloMosaic.Lib.Pipeline.ValueKit
public import proofs.«01_k».proof.Proof.Reals
public import proofs.«01_k».proof.Proof.UpBwd
public import proofs.«01_k».proof.Defs

@[expose] public section

set_option maxRecDepth 16384

noncomputable section

namespace Cert.Kernel12Ideal.Loss
open Idealize.ShloMosaic
open Cert.KernelIdeal.NormBwd (rr el)

/-- A row against a matrix. -/
def prd (A : Fin 2816 → EReal) (W : Fin 2816 → Fin 1024 → EReal) (q : Fin 1024) : EReal := ∑ k : Fin 2816, A k * W k q

/-- A row of the layer's output: the residual with the normalised product. -/
def outp (H F G : Fin 1024 → EReal) (q : Fin 1024) : EReal := H q + F q * rr F * G q

/-- `1/2`. -/
theorem chalf : Ideal.ofBits .f32 0x3F000000#32 = ((1 / 2 : ℝ) : EReal) := by
  simp [Ideal.ofBits, Ideal.ieee, -EReal.coe_mul]; norm_num

/-- `2`. -/
theorem ctwo : Ideal.ofBits .f32 0x40000000#32 = ((2 : ℝ) : EReal) := by
  simp [Ideal.ofBits, Ideal.ieee, -EReal.coe_mul]; norm_num

/-- `1/1024`. -/
theorem crecip : Ideal.ofBits .f32 0x3A800000#32 = ((1 / 1024 : ℝ) : EReal) := by
  simp [Ideal.ofBits, Ideal.ieee, -EReal.coe_mul]; norm_num

/-- Half of the mean's derivative of a square is the product by the reciprocal. -/
theorem scale (x : EReal) : Ideal.div (Ideal.ofBits .f32 0x3F000000#32) (Ideal.ofBits .f32 0x44800000#32) * (Ideal.ofBits .f32 0x40000000#32 * x)
    = x * Ideal.ofBits .f32 0x3A800000#32 := by
  rw [chalf, Cert.Reals.c1024, ctwo, crecip, Cert.Reals.div_coe_coe _ (by norm_num), ← mul_assoc, ← EReal.coe_mul, mul_comm x]
  norm_num

end Cert.Kernel12Ideal.Loss

namespace Cert.Reference12Ideal.Loss
open Idealize.ShloMosaic Idealize.ShloMosaic.TcCoe Idealize.SL.Sem
open Cert.Reference12Ideal Cert.Reference12Ideal.Gen
open Cert.KernelIdeal.NormBwd (rr el)
open Cert.Kernel12Ideal.Loss (prd outp scale)

/-- The down projection. -/
abbrev ffn (A : FVec Ideal S8448x2816 .bf16) (W : FVec Ideal S2816x1024 .bf16) : FVec Ideal S8448x1024 .f32 :=
  Host.dotGeneral dot_S8448x2816_S2816x1024_S8448x1024_1_0_0_1_n_n none (extf .f32 A bitsLt_bf16_f32) (extf .f32 W bitsLt_bf16_f32)

/-- The errors of the rows after the first 256. -/
abbrev err (A : FVec Ideal S8448x2816 .bf16) (W : FVec Ideal S2816x1024 .bf16) (H : FVec Ideal S8448x1024 .f32) (G : FVec Ideal S1x1024 .f32) (T : FVec Ideal S8192x1024 .f32) : FVec Ideal S8192x1024 .f32 :=
  subf (extractStridedSlice S8192x1024 ![256, 0] (addf H (mulf (mulf (ffn A W) (broadcastInDim S8448x1024 ![0, 1] bcast_S8448x1_S8448x1024_0_1 (Host.rsqrt (addf (Host.divf (broadcastInDim S8448x1 ![0] bcast_S8448_S8448x1_0 (Host.reduceAdd (mulf (ffn A W) (ffn A W)) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 G))) slices_S8448x1024_S8192x1024_256_0) T

/-- The loss's gradient, of the errors. -/
abbrev grad (E : FVec Ideal S8192x1024 .f32) : FVec Ideal S8448x1024 .f32 :=
  pad S8448x1024 ![256, 0] ![0, 0] ![0, 0] (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) E)) (constant S_ .f32 0x00000000#32) pads_S8192x1024_S8448x1024_25600_000 h_S_

/-- The sum of squares of the errors. -/
abbrev total (E : FVec Ideal S8192x1024 .f32) : FVec Ideal S8x128 .f32 :=
  broadcastInDim S8x128 ![] bcast_S_S8x128 (Host.reduceAdd (mulf E E) (constant S_ .f32 0x00000000#32) reducesTo_S8192x1024_S_d0_1 h_S_)

theorem ffn_at (A : FVec Ideal S8448x2816 .bf16) (W : FVec Ideal S2816x1024 .bf16) (j : S8448x1024.Idx) :
    ffn A W j = prd (fun k => el A (ix2 (j 0) k)) (fun k q => el W (ix2 k q)) (j 1) := by
  pointwise [ffn, prd]

theorem err_at (A : FVec Ideal S8448x2816 .bf16) (W : FVec Ideal S2816x1024 .bf16) (H : FVec Ideal S8448x1024 .f32) (G : FVec Ideal S1x1024 .f32) (T : FVec Ideal S8192x1024 .f32) (p : Fin 8192) (q : Fin 1024) :
    err A W H G T (ix2 p q) = outp (fun q => el H (ix2 ⟨256 + p.val, by omega⟩ q)) (fun q => el (ffn A W) (ix2 ⟨256 + p.val, by omega⟩ q)) (fun q => el G (ix2 0 q)) q - el T (ix2 p q) := by
  unfold err
  generalize ffn A W = F
  pointwise [outp, rr]

theorem grad_at (E : FVec Ideal S8192x1024 .f32) (r : Fin 8448) (q : Fin 1024) :
    grad E (ix2 r q) = (if h : 256 ≤ r.val then el E (ix2 ⟨r.val - 256, by omega⟩ q) else 0) * Ideal.ofBits .f32 0x3A800000#32 := by
  pointwise [grad]
  by_cases h : 256 ≤ r.val
  · rw [dif_pos ⟨h, by omega⟩, dif_pos h]
    exact scale _
  · rw [dif_neg (fun c => h c.1), dif_neg h, zero_mul]

theorem total_at (E : FVec Ideal S8192x1024 .f32) (j : S8x128.Idx) :
    total E j = ∑ p : Fin 8192, ∑ q : Fin 1024, el E (ix2 p q) * el E (ix2 p q) := by
  pointwise [total]

end Cert.Reference12Ideal.Loss

namespace Cert.Kernel12Ideal.Loss

open Idealize.ShloMosaic Idealize.ShloMosaic.TcCoe Idealize.SL.Sem
open Idealize.ShloMosaic.Pipeline (Dat)
open Cert.Kernel12Ideal Cert.Kernel12Ideal.Gen
open Cert.KernelIdeal.NormBwd (rr el)

/-! ## One grid point's values at an index -/

theorem ffn_part (a : FVec Ideal S256x2816 .bf16) (w : FVec Ideal S2816x1024 .bf16) (j : S256x1024.Idx) :
    k0_pay3 (F := Ideal) a w j = prd (fun k => el a (ix2 (j 0) k)) (fun k q => el w (ix2 k q)) (j 1) := by
  pointwise [k0_pay3, prd]

/-- The first tile's rows are masked, the other tiles' are not. -/
theorem masked : ∀ n : Fin 33, Scalar.cmpi .sgt (BitVec.ofNat 32 n.val) 0#32 = if n.val = 0 then 0#1 else 1#1 := by decide

theorem err_part (i : grid0.Coords) (a : FVec Ideal S256x2816 .bf16) (w : FVec Ideal S2816x1024 .bf16) (h : FVec Ideal S256x1024 .f32) (g : FVec Ideal S1x1024 .f32) (t : FVec Ideal S256x1024 .f32)
    (p : Fin 256) (q : Fin 1024) :
    k0_pay4 (F := Ideal) i a w h g t (ix2 p q) = if (i 0).val = 0 then 0 else
      outp (fun q => el h (ix2 p q)) (fun q => el (k0_pay3 (F := Ideal) a w) (ix2 p q)) (fun q => el g (ix2 0 q)) q - el t (ix2 p q) := by
  unfold k0_pay4
  generalize k0_pay3 (F := Ideal) a w = F
  have hm := masked (i 0)
  by_cases h0 : (i 0).val = 0
  · rw [if_pos h0] at hm ⊢
    rw [show Scalar.cmpi .sgt (BitVec.ofNat 32 (i 0).val) 0#32 = 0#1 from hm]
    pointwise []
  · rw [if_neg h0] at hm ⊢
    rw [show Scalar.cmpi .sgt (BitVec.ofNat 32 (i 0).val) 0#32 = 1#1 from hm]
    pointwise [outp, rr]

theorem grad_part (i : grid0.Coords) (a : FVec Ideal S256x2816 .bf16) (w : FVec Ideal S2816x1024 .bf16) (h : FVec Ideal S256x1024 .f32) (g : FVec Ideal S1x1024 .f32) (t : FVec Ideal S256x1024 .f32)
    (j : S256x1024.Idx) :
    k0_pay5 (F := Ideal) i a w h g t j = el (k0_pay4 (F := Ideal) i a w h g t) j * Ideal.ofBits .f32 0x3A800000#32 := by
  pointwise [k0_pay5]

theorem total_part (i : grid0.Coords) (a : FVec Ideal S256x2816 .bf16) (w : FVec Ideal S2816x1024 .bf16) (h : FVec Ideal S256x1024 .f32) (g : FVec Ideal S1x1024 .f32) (t : FVec Ideal S256x1024 .f32)
    (j : S1x1.Idx) :
    k0_pay6 (F := Ideal) i a w h g t j = ∑ p : Fin 256, ∑ q : Fin 1024, el (k0_pay4 (F := Ideal) i a w h g t) (ix2 p q) * el (k0_pay4 (F := Ideal) i a w h g t) (ix2 p q) := by
  unfold k0_pay6
  generalize k0_pay4 (F := Ideal) i a w h g t = E
  pointwise []
  exact Finset.sum_comm

theorem zero_part (j : S8x128.Idx) : k0_pay1 (F := Ideal) j = 0 := by pointwise [k0_pay1]

theorem step_part (p : FVec Ideal S1x1 .f32) (a : FVec Ideal S8x128 .f32) (j : S8x128.Idx) : k0_pay2 (F := Ideal) p a j = el a j + el p (ix2 0 0) := by
  pointwise [k0_pay2]

variable (m : (ℓ : Loc nD τ sig) → Buf (Elt Ideal) ℓ)

/-! ## The run's contents -/

/-- The windows' block indices at every grid point. -/
theorem idx : ∀ t : Fin cfg0.N, win0_0.index t = ![t.val, 0] ∧ win0_1.index t = ![0, 0] ∧ win0_2.index t = ![t.val, 0]
    ∧ win0_3.index t = ![0, 0] ∧ win0_4.index t = ![t.val - 1, 0] ∧ win0_5.index t = ![t.val, 0] ∧ win0_6.index t = ![t.val, 0] ∧ win0_7.index t = ![0, 0] :=
  (by decide +kernel : ∀ t : Fin grid0.N, _)

theorem coord : ∀ t : Fin cfg0.N, (grid0.coords t 0).val = t.val := (by decide +kernel : ∀ t : Fin grid0.N, _)

/-- One point's errors. -/
abbrev et (c : Dev nD) (t : Fin cfg0.N) : FVec Ideal S256x1024 .f32 :=
  k0_pay4 (F := Ideal) (grid0.coords t) (iblk m c 0 t) (iblk m c 1 t) (iblk m c 2 t) (iblk m c 3 t) (iblk m c 4 t)

/-- One point's sum of squares. -/
abbrev st (c : Dev nD) (t : Fin cfg0.N) : FVec Ideal S1x1 .f32 :=
  k0_pay6 (F := Ideal) (grid0.coords t) (iblk m c 0 t) (iblk m c 1 t) (iblk m c 2 t) (iblk m c 3 t) (iblk m c 4 t)

theorem outs (c : Dev nD) (t : Fin cfg0.N) :
    (outsAt0 m c t.val t.isLt).1 = k0_pay3 (F := Ideal) (iblk m c 0 t) (iblk m c 1 t)
    ∧ (outsAt0 m c t.val t.isLt).2.1 = k0_pay5 (F := Ideal) (grid0.coords t) (iblk m c 0 t) (iblk m c 1 t) (iblk m c 2 t) (iblk m c 3 t) (iblk m c 4 t) := by
  by_cases h : t.val % 33 = 0
  · rw [outsAt0_A m c t h]
    exact ⟨by frame_out, by frame_out⟩
  · rw [outsAt0_B m c t h]
    exact ⟨by frame_out, by frame_out⟩

theorem ss_reset (c : Dev nD) (t : Fin cfg0.N) (h : t.val % 33 = 0) (j : S8x128.Idx) :
    (outsAt0 m c t.val t.isLt).2.2 j = 0 + el (st m c t) (ix2 0 0) := by
  rw [outsAt0_A m c t h]; frame_out; rw [step_part]
  exact congrArg (fun a : EReal => a + _) (zero_part j)

theorem ss_step (c : Dev nD) (t : Fin cfg0.N) (h : ¬t.val % 33 = 0) (j : S8x128.Idx) :
    (outsAt0 m c t.val t.isLt).2.2 j = (outsAt0 m c (t.val - 1) (by omega)).2.2 j + el (st m c t) (ix2 0 0) := by
  rw [outsAt0_B m c t h]; frame_out; rw [step_part]

/-- The arguments, by row and column. -/
abbrev A (c : Dev nD) (r : Fin 8448) (k : Fin 2816) : EReal := el (s := S8448x2816) (φ := .bf16) (m ((c : Thread nD τ).loc main_arg0)) (ix2 r k)
abbrev W (c : Dev nD) (k : Fin 2816) (q : Fin 1024) : EReal := el (s := S2816x1024) (φ := .bf16) (m ((c : Thread nD τ).loc main_arg1)) (ix2 k q)
abbrev H (c : Dev nD) (r : Fin 8448) (q : Fin 1024) : EReal := el (s := S8448x1024) (φ := .f32) (m ((c : Thread nD τ).loc main_arg2)) (ix2 r q)
abbrev G (c : Dev nD) (q : Fin 1024) : EReal := el (s := S1x1024) (φ := .f32) (m ((c : Thread nD τ).loc main_arg3)) (ix2 0 q)
abbrev T (c : Dev nD) (r : Fin 8192) (q : Fin 1024) : EReal := el (s := S8192x1024) (φ := .f32) (m ((c : Thread nD τ).loc main_arg4)) (ix2 r q)

/-- The down projection of the arguments. -/
abbrev FF (c : Dev nD) (r : Fin 8448) : Fin 1024 → EReal := prd (A m c r) (W m c)

/-- The errors of the arguments: none in the first 256 rows. -/
abbrev E (c : Dev nD) (r : Fin 8448) (q : Fin 1024) : EReal :=
  if h : 256 ≤ r.val then outp (H m c r) (FF m c r) (G m c) q - T m c ⟨r.val - 256, by omega⟩ q else 0

theorem a_at (c : Dev nD) (t : Fin cfg0.N) (p : Fin 256) (q : Fin 2816) (r : Fin 8448) (h : r.val = t.val * 256 + p.val) :
    el (s := S256x2816) (φ := .bf16) (iblk m c 0 t) (ix2 p q) = A m c r q := by
  simp only [el]
  blk_point [iblk, V, idx t]

theorem w_at (c : Dev nD) (t : Fin cfg0.N) (k : Fin 2816) (q : Fin 1024) :
    el (s := S2816x1024) (φ := .bf16) (iblk m c 1 t) (ix2 k q) = W m c k q := by
  simp only [el]
  blk_point [iblk, V, idx t]

theorem h_at (c : Dev nD) (t : Fin cfg0.N) (p : Fin 256) (q : Fin 1024) (r : Fin 8448) (h : r.val = t.val * 256 + p.val) :
    el (s := S256x1024) (φ := .f32) (iblk m c 2 t) (ix2 p q) = H m c r q := by
  simp only [el]
  blk_point [iblk, V, idx t]

theorem g_at (c : Dev nD) (t : Fin cfg0.N) (q : Fin 1024) :
    el (s := S1x1024) (φ := .f32) (iblk m c 3 t) (ix2 0 q) = G m c q := by
  simp only [el]
  blk_point [iblk, V, idx t]

theorem t_at (c : Dev nD) (t : Fin cfg0.N) (p : Fin 256) (q : Fin 1024) (r : Fin 8192) (h : r.val = (t.val - 1) * 256 + p.val) :
    el (s := S256x1024) (φ := .f32) (iblk m c 4 t) (ix2 p q) = T m c r q := by
  simp only [el]
  blk_point [iblk, V, idx t]

theorem ff_at (c : Dev nD) (t : Fin cfg0.N) (p : Fin 256) (q : Fin 1024) (r : Fin 8448) (h : r.val = t.val * 256 + p.val) :
    el (k0_pay3 (F := Ideal) (iblk m c 0 t) (iblk m c 1 t)) (ix2 p q) = FF m c r q := by
  refine (ffn_part _ _ (ix2 p q)).trans ?_
  exact Reals.sum_eq _ _ fun k => congrArg₂ (fun a b : EReal => a * b) (a_at m c t p k r h) (w_at m c t k q)

theorem et_at (c : Dev nD) (t : Fin cfg0.N) (p : Fin 256) (q : Fin 1024) (r : Fin 8448) (h : r.val = t.val * 256 + p.val) :
    el (et m c t) (ix2 p q) = E m c r q := by
  refine (err_part _ _ _ _ _ _ p q).trans ?_
  rw [coord t]
  by_cases h0 : t.val = 0
  · rw [if_pos h0, E, dif_neg (by omega)]
  · rw [if_neg h0, E, dif_pos (by omega),
      show (fun q => el (s := S256x1024) (φ := .f32) (iblk m c 2 t) (ix2 p q)) = H m c r from funext fun q => h_at m c t p q r h,
      show (fun q => el (k0_pay3 (F := Ideal) (iblk m c 0 t) (iblk m c 1 t)) (ix2 p q)) = FF m c r from funext fun q => ff_at m c t p q r h,
      show (fun q => el (s := S1x1024) (φ := .f32) (iblk m c 3 t) (ix2 0 q)) = G m c from funext fun q => g_at m c t q,
      t_at m c t p q ⟨r.val - 256, by omega⟩ (by show r.val - 256 = _; omega)]

theorem st_at (c : Dev nD) (t : Fin cfg0.N) : el (st m c t) (ix2 0 0) = ∑ p : Fin 256, ∑ q : Fin 1024,
    E m c ⟨t.val * 256 + p.val, by have := t.isLt; have : cfg0.N = 33 := rfl; omega⟩ q * E m c ⟨t.val * 256 + p.val, by have := t.isLt; have : cfg0.N = 33 := rfl; omega⟩ q := by
  refine (total_part _ _ _ _ _ _ _).trans ?_
  refine Reals.sum_eq _ _ fun p => Reals.sum_eq _ _ fun q => ?_
  exact congrArg₂ (fun a b : EReal => a * b) (et_at m c t p q _ rfl) (et_at m c t p q _ rfl)

theorem row_of (t : Fin cfg0.N) (y0 : Fin 256) (r : Fin 8448) (i0 : ℕ) (e : r.val = i0 * 256 + 1 * y0.val) (hi : i0 = t.val) : r.val = t.val * 256 + y0.val := by
  rw [e, hi, one_mul]

theorem col_of {n : ℕ} (y1 q : Fin n) (i1 : ℕ) (e : q.val = i1 * n + 1 * y1.val) (hi : i1 = 0) : q = y1 :=
  Fin.ext (by rw [e, hi, zero_mul, one_mul, zero_add])

/-- The down projection after the run. -/
theorem ffn_final (c : Dev nD) : (dats m 0 c).arrAt 5 (cfgs 0).N = fun j : S8448x1024.Idx => FF m c (j 0) (j 1) := by
  refine (dats m 0 c).arrAt_eq_of_covers 5 _ (by decide +kernel) fun t hf y => ?_
  blk_simp
  have h0 := row_of t (y 0) ((win0_5.blk t).view.emb y 0) _ rfl (by rw [(idx t).2.2.2.2.2.1]; rfl)
  have h1 := col_of (n := 1024) (y 1) ((win0_5.blk t).view.emb y 1) _ rfl (by rw [(idx t).2.2.2.2.2.1]; rfl)
  rw [h1, after0_5, (outs m c t).1]
  refine Eq.trans (b := el (k0_pay3 (F := Ideal) (iblk m c 0 t) (iblk m c 1 t)) (ix2 (y 0) (y 1))) (congrArg _ (eq_ix2 y)) ?_
  exact ff_at m c t (y 0) (y 1) _ h0

/-- The loss's gradient after the run. -/
theorem grad_final (c : Dev nD) : (dats m 0 c).arrAt 6 (cfgs 0).N = fun j : S8448x1024.Idx => E m c (j 0) (j 1) * Ideal.ofBits .f32 0x3A800000#32 := by
  refine (dats m 0 c).arrAt_eq_of_covers 6 _ (by decide +kernel) fun t hf y => ?_
  blk_simp
  have h0 := row_of t (y 0) ((win0_6.blk t).view.emb y 0) _ rfl (by rw [(idx t).2.2.2.2.2.2.1]; rfl)
  have h1 := col_of (n := 1024) (y 1) ((win0_6.blk t).view.emb y 1) _ rfl (by rw [(idx t).2.2.2.2.2.2.1]; rfl)
  rw [h1, after0_6, (outs m c t).2]
  refine (grad_part _ _ _ _ _ _ y).trans (congrArg (fun a : EReal => a * _) ?_)
  refine Eq.trans (b := el (et m c t) (ix2 (y 0) (y 1))) (congrArg _ (eq_ix2 y)) ?_
  exact et_at m c t (y 0) (y 1) _ h0

/-- The sum of squares after the run. -/
theorem ss_final (c : Dev nD) : (dats m 0 c).arrAt 7 (cfgs 0).N = fun j : S8x128.Idx => ∑ r : Fin 8448, ∑ q : Fin 1024, E m c r q * E m c r q := by
  refine (dats m 0 c).arrAt_eq_of_covers 7 _ (by decide +kernel) fun t hf y => ?_
  blk_simp
  rw [after0_7, Pipeline.eq_sum_fin_of_reset_step_apply_of_flush (fun n h => (outsAt0 m c n h).2.2) 33 (fun _ => 0) (fun t _ => el (st m c t) (ix2 0 0))
    (fun t h j => ss_reset m c t h j) (fun t h j => ss_step m c t h j) t ((flush0_7 t).mp hf) _, zero_add]
  simp only [st_at]
  refine Fin.sum_mul_add_congr fun s k hl => ?_
  have hN : t.val < 33 := t.isLt
  have ht : t.val % 33 = 32 := (flush0_7 t).mp hf
  exact congrArg (fun r => ∑ q : Fin 1024, E m c r q * E m c r q) (Fin.ext (by show _ = s.val * 256 + k.val; dsimp only; omega))

/-- The sum of squares is over the rows after the first 256. -/
theorem ss_rows (c : Dev nD) : (∑ r : Fin 8448, ∑ q : Fin 1024, E m c r q * E m c r q) = ∑ p : Fin 8192, ∑ q : Fin 1024,
    (outp (H m c ⟨256 + p.val, by omega⟩) (FF m c ⟨256 + p.val, by omega⟩) (G m c) q - T m c p q)
      * (outp (H m c ⟨256 + p.val, by omega⟩) (FF m c ⟨256 + p.val, by omega⟩) (G m c) q - T m c p q) := by
  refine (Fin.sum_univ_add (a := 256) (b := 8192) (fun r : Fin 8448 => ∑ q : Fin 1024, E m c r q * E m c r q)).trans ?_
  rw [Finset.sum_eq_zero fun p _ => Finset.sum_eq_zero fun q _ => ?_, zero_add]
  · refine Reals.sum_eq _ _ fun p => Reals.sum_eq _ _ fun q => ?_
    have he : E m c (Fin.natAdd 256 p) q = outp (H m c ⟨256 + p.val, by omega⟩) (FF m c ⟨256 + p.val, by omega⟩) (G m c) q - T m c p q := by
      rw [E, dif_pos (by show 256 ≤ 256 + p.val; omega)]
      refine congrArg (fun r => outp (H m c ⟨256 + p.val, by omega⟩) (FF m c ⟨256 + p.val, by omega⟩) (G m c) q - T m c r q) (Fin.ext ?_)
      show 256 + p.val - 256 = p.val
      omega
    exact congrArg₂ (fun a b : EReal => a * b) he he
  · have he : E m c (Fin.castAdd 8192 p) q = 0 := by
      rw [E, dif_neg (by show ¬256 ≤ p.val; omega)]
    exact (congrArg₂ (fun a b : EReal => a * b) he he).trans (mul_zero 0)

end Cert.Kernel12Ideal.Loss

namespace Cert.Proof.DownLoss

open Idealize.ShloMosaic Idealize.SL.Sem
open Cert.KernelIdeal.NormBwd (rr el)
open Cert.Kernel12Ideal.Loss (prd outp)
open Cert.Reference12Ideal.Loss
open Cert.Reference12Ideal (S8448x2816 S8448x1024 S2816x1024 S8192x1024 S1x1024 S8x128)

/-- The kernel's errors, of the arguments. -/
abbrev E (A : FVec Ideal S8448x2816 .bf16) (W : FVec Ideal S2816x1024 .bf16) (H : FVec Ideal S8448x1024 .f32) (G : FVec Ideal S1x1024 .f32) (T : FVec Ideal S8192x1024 .f32) (r : Fin 8448) (q : Fin 1024) : EReal :=
  if h : 256 ≤ r.val then outp (fun q => el H (ix2 r q)) (prd (fun k => el A (ix2 r k)) (fun k q => el W (ix2 k q))) (fun q => el G (ix2 0 q)) q - el T (ix2 ⟨r.val - 256, by omega⟩ q) else 0

theorem err_eq (A : FVec Ideal S8448x2816 .bf16) (W : FVec Ideal S2816x1024 .bf16) (H : FVec Ideal S8448x1024 .f32) (G : FVec Ideal S1x1024 .f32) (T : FVec Ideal S8192x1024 .f32) (p : Fin 8192) (q : Fin 1024) :
    el (err A W H G T) (ix2 p q) = outp (fun q => el H (ix2 ⟨256 + p.val, by omega⟩ q)) (prd (fun k => el A (ix2 ⟨256 + p.val, by omega⟩ k)) (fun k q => el W (ix2 k q))) (fun q => el G (ix2 0 q)) q - el T (ix2 p q) := by
  exact (err_at A W H G T p q).trans (congrArg (fun a => outp _ a _ q - _) (funext fun k => ffn_at A W (ix2 ⟨256 + p.val, by omega⟩ k)))

theorem ffn_eq (A : FVec Ideal S8448x2816 .bf16) (W : FVec Ideal S2816x1024 .bf16) (H : FVec Ideal S8448x1024 .f32) (G : FVec Ideal S1x1024 .f32) (T : FVec Ideal S8192x1024 .f32) (A' : FVec Ideal S8448x2816 .bf16) (W' : FVec Ideal S2816x1024 .bf16) (H' : FVec Ideal S8448x1024 .f32) (G' : FVec Ideal S1x1024 .f32) (T' : FVec Ideal S8192x1024 .f32)
    (e : A' = A ∧ W' = W ∧ H' = H ∧ G' = G ∧ T' = T) (j : S8448x1024.Idx) :
    ffn A' W' j = prd (fun k => el A (ix2 (j 0) k)) (fun k q => el W (ix2 k q)) (j 1) := by
  obtain ⟨rfl, rfl, rfl, rfl, rfl⟩ := e
  exact ffn_at _ _ j

theorem grad_eq (A : FVec Ideal S8448x2816 .bf16) (W : FVec Ideal S2816x1024 .bf16) (H : FVec Ideal S8448x1024 .f32) (G : FVec Ideal S1x1024 .f32) (T : FVec Ideal S8192x1024 .f32) (A' : FVec Ideal S8448x2816 .bf16) (W' : FVec Ideal S2816x1024 .bf16) (H' : FVec Ideal S8448x1024 .f32) (G' : FVec Ideal S1x1024 .f32) (T' : FVec Ideal S8192x1024 .f32)
    (e : A' = A ∧ W' = W ∧ H' = H ∧ G' = G ∧ T' = T) (j : S8448x1024.Idx) :
    grad (err A' W' H' G' T') j = E A W H G T (j 0) (j 1) * Ideal.ofBits .f32 0x3A800000#32 := by
  obtain ⟨rfl, rfl, rfl, rfl, rfl⟩ := e
  refine Eq.trans (b := grad (err A' W' H' G' T') (ix2 (j 0) (j 1))) (congrArg _ (eq_ix2 j)) ?_
  refine (grad_at _ (j 0) (j 1)).trans (congrArg (fun a : EReal => a * _) ?_)
  by_cases h : 256 ≤ (j 0).val
  · rw [dif_pos h]
    refine Eq.trans ?_ (dif_pos h).symm
    refine (err_eq A' W' H' G' T' _ _).trans ?_
    have hr : (⟨256 + ((j 0).val - 256), by have : (j 0).val < 8448 := (j 0).isLt; omega⟩ : Fin 8448) = j 0 := Fin.ext (by show 256 + ((j 0).val - 256) = _; omega)
    rw [hr]
  · rw [dif_neg h]
    unfold E
    rw [dif_neg h]

theorem ss_eq (A : FVec Ideal S8448x2816 .bf16) (W : FVec Ideal S2816x1024 .bf16) (H : FVec Ideal S8448x1024 .f32) (G : FVec Ideal S1x1024 .f32) (T : FVec Ideal S8192x1024 .f32) (A' : FVec Ideal S8448x2816 .bf16) (W' : FVec Ideal S2816x1024 .bf16) (H' : FVec Ideal S8448x1024 .f32) (G' : FVec Ideal S1x1024 .f32) (T' : FVec Ideal S8192x1024 .f32)
    (e : A' = A ∧ W' = W ∧ H' = H ∧ G' = G ∧ T' = T) (j : S8x128.Idx) :
    total (err A' W' H' G' T') j = ∑ p : Fin 8192, ∑ q : Fin 1024,
      (outp (fun q => el H (ix2 ⟨256 + p.val, by omega⟩ q)) (prd (fun k => el A (ix2 ⟨256 + p.val, by omega⟩ k)) (fun k q => el W (ix2 k q))) (fun q => el G (ix2 0 q)) q - el T (ix2 p q))
      * (outp (fun q => el H (ix2 ⟨256 + p.val, by omega⟩ q)) (prd (fun k => el A (ix2 ⟨256 + p.val, by omega⟩ k)) (fun k q => el W (ix2 k q))) (fun q => el G (ix2 0 q)) q - el T (ix2 p q)) := by
  obtain ⟨rfl, rfl, rfl, rfl, rfl⟩ := e
  refine (total_at _ j).trans (Reals.sum_eq _ _ fun p => Reals.sum_eq _ _ fun q => ?_)
  exact congrArg₂ (fun a b : EReal => a * b) (err_eq A' W' H' G' T' p q) (err_eq A' W' H' G' T' p q)

theorem algebraic : Cert.algebraic_Kernel12Ideal_Reference12Ideal := by
  intro m ρ m' ρ' hpre hag
  refine ⟨fun c => (Cert.Kernel12Ideal.Gen.dats m 0 c).arrAt 5 (Cert.Kernel12Ideal.cfgs 0).N, fun c => (Cert.Kernel12Ideal.Gen.dats m 0 c).arrAt 6 (Cert.Kernel12Ideal.cfgs 0).N,
    fun c => (Cert.Kernel12Ideal.Gen.dats m 0 c).arrAt 7 (Cert.Kernel12Ideal.cfgs 0).N, Cert.Kernel12Ideal.Value.run_blocks m ρ,
    (θ_run Cert.Reference12Ideal.defs _ _).mono (fun r h c => ⟨(h c).1.trans ?_, (h c).2.1.trans ?_, (h c).2.2.1.trans ?_, (h c).2.2.2⟩) (Cert.Reference12Ideal.Value.run m' ρ')⟩
  · refine Eq.trans ?_ (Cert.Kernel12Ideal.Loss.ffn_final m c).symm
    funext j
    exact ffn_eq _ _ _ _ _ _ _ _ _ _ (hag c) j
  · refine Eq.trans ?_ (Cert.Kernel12Ideal.Loss.grad_final m c).symm
    funext j
    exact grad_eq _ _ _ _ _ _ _ _ _ _ (hag c) j
  · refine Eq.trans ?_ (Cert.Kernel12Ideal.Loss.ss_final m c).symm
    funext j
    exact (ss_eq _ _ _ _ _ _ _ _ _ _ (hag c) j).trans (Cert.Kernel12Ideal.Loss.ss_rows m c).symm

end Cert.Proof.DownLoss

end
-- ==== Proof.ConvFwd.lean ====
/- The forward call of the causal convolution and the gate: each row takes its own row and the two rows before it, the first two rows of a
   tile reading the tile before's last rows, and the gelu of one half's columns times the other half's equals the plain lines. -/
module

public import proofs.«01_k».proof.Proof.Gen.Kernel13Ideal.Value
public import proofs.«01_k».proof.Proof.Gen.Reference13Ideal.Run
public import Idealize.ShloMosaic.Lib.Pipeline.ValueKit
public import proofs.«01_k».proof.Proof.Reals
public import proofs.«01_k».proof.Proof.UpBwd
public import proofs.«01_k».proof.Defs

@[expose] public section

set_option maxRecDepth 16384

noncomputable section

namespace Cert.Kernel13Ideal.Conv
open Idealize.ShloMosaic

/-- The row `s` rows before row `r` of a column, `0` before the first row. -/
def back (u : Fin 8448 → EReal) (s : ℕ) (r : Fin 8448) : EReal := if h : s ≤ r.val then u ⟨r.val - s, by omega⟩ else 0

/-- The three taps of one column against a row and the two rows before it, and the bias. -/
def cval (w0 w1 w2 β x2 x1 x0 : EReal) : EReal := β + w0 * x2 + w1 * x1 + w2 * x0

/-- The gelu of `g` in its tanh form, times `v`. -/
def gated (g v : EReal) : EReal :=
  Ideal.ofBits .f32 0x3F000000#32 * g * (1 + Ideal.tanh (Ideal.ofBits .f32 0x3F4C422A#32 * (g + Ideal.ofBits .f32 0x3D372713#32 * g * g * g))) * v

/-- The gate's product in the other order. -/
theorem gated_eq (g v : EReal) :
    g * (Ideal.ofBits .f32 0x3F000000#32 * (1 + Ideal.tanh (Ideal.ofBits .f32 0x3F4C422A#32 * (g + Ideal.ofBits .f32 0x3D372713#32 * (g * g * g))))) * v = gated g v := by
  unfold gated
  rw [← mul_assoc (Ideal.ofBits .f32 0x3D372713#32), ← mul_assoc (Ideal.ofBits .f32 0x3D372713#32), ← mul_assoc g, mul_comm g (Ideal.ofBits .f32 0x3F000000#32)]

/-- Row `s` rows before row `p` of a tile, the tile before's last rows being `n1` and, before it, `n2`. -/
def before (b : BitVec 1) (u : Fin 128 → EReal) (n1 n2 : EReal) (p : Fin 128) (s : ℕ) : EReal :=
  if h : s ≤ p.val then u ⟨p.val - s, by omega⟩ else Scalar.select b 0 (if p.val + 1 = s then n1 else n2)

theorem sel0 {α : Type} (x y : α) : Scalar.select 0#1 x y = y := rfl
theorem sel1 {α : Type} (x y : α) : Scalar.select 1#1 x y = x := rfl

theorem is0 : ∀ p : Fin 128, IntOp.cmpi .eq (BitVec.ofNat 32 p.val) 0#32 = if p.val = 0 then 1#1 else 0#1 := by decide +kernel
theorem is1 : ∀ p : Fin 128, IntOp.cmpi .eq (BitVec.ofNat 32 p.val) 1#32 = if p.val = 1 then 1#1 else 0#1 := by decide +kernel

/-- The rotation by one row with the tile before's last row in the first place. -/
theorem before_one (b : BitVec 1) (u : Fin 128 → EReal) (n1 n2 : EReal) (p : Fin 128) :
    Scalar.select (IntOp.cmpi .eq (BitVec.ofNat 32 p.val) 0#32) (Scalar.select b 0 n1) (u ⟨(p.val + 128 - 1) % 128, by omega⟩) = before b u n1 n2 p 1 := by
  have hp := p.isLt
  unfold before
  rw [is0]
  by_cases h : 1 ≤ p.val
  · rw [dif_pos h, if_neg (by omega), sel0]
    exact congrArg u (Fin.ext (by show (p.val + 128 - 1) % 128 = p.val - 1; omega))
  · rw [dif_neg h, if_pos (by omega), if_pos (by omega), sel1]

/-- The rotation by two rows with the tile before's last two rows in the first places. -/
theorem before_two (b : BitVec 1) (u : Fin 128 → EReal) (n1 n2 : EReal) (p : Fin 128) :
    Scalar.select (IntOp.cmpi .eq (BitVec.ofNat 32 p.val) 0#32) (Scalar.select b 0 n2)
      (Scalar.select (IntOp.cmpi .eq (BitVec.ofNat 32 p.val) 1#32) (Scalar.select b 0 n1) (u ⟨(p.val + 128 - 2) % 128, by omega⟩)) = before b u n1 n2 p 2 := by
  have hp := p.isLt
  unfold before
  rw [is0, is1]
  by_cases h : 2 ≤ p.val
  · rw [dif_pos h, if_neg (by omega), if_neg (by omega), sel0, sel0]
    exact congrArg u (Fin.ext (by show (p.val + 128 - 2) % 128 = p.val - 2; omega))
  · rw [dif_neg h]
    by_cases h1 : p.val = 0
    · rw [if_pos h1, sel1, if_neg (by omega : ¬p.val + 1 = 2)]
    · rw [if_neg h1, if_pos (by omega), if_pos (by omega), sel0, sel1]

/-- The rows before a tile's row are the array's rows before it. -/
theorem before_row (D : Fin 8448 → EReal) (t : ℕ) (ht : t < 66) (b : BitVec 1) (hb : b = if t = 0 then 1#1 else 0#1) (u : Fin 128 → EReal)
    (hu : ∀ (p : Fin 128) (r : Fin 8448), r.val = t * 128 + p.val → u p = D r) (n1 n2 : EReal)
    (h1 : ∀ r : Fin 8448, 0 < t → r.val = t * 128 - 1 → n1 = D r) (h2 : ∀ r : Fin 8448, 0 < t → r.val = t * 128 - 2 → n2 = D r)
    (p : Fin 128) (r : Fin 8448) (hr : r.val = t * 128 + p.val) (s : ℕ) (hs : s = 1 ∨ s = 2) :
    before b u n1 n2 p s = back D s r := by
  have hp := p.isLt
  unfold before back
  by_cases h : s ≤ p.val
  · rw [dif_pos h, dif_pos (by omega)]
    exact hu _ _ (by show r.val - s = t * 128 + (p.val - s); omega)
  · rw [dif_neg h]
    by_cases hl : t = 0
    · rw [if_pos hl] at hb
      rw [dif_neg (by omega), hb]
      rfl
    · rw [if_neg hl] at hb
      rw [dif_pos (by omega), hb]
      refine Eq.trans (b := if p.val + 1 = s then n1 else n2) rfl ?_
      by_cases he : p.val + 1 = s
      · rw [if_pos he]
        exact h1 _ (by omega) (by show r.val - s = _; omega)
      · rw [if_neg he]
        exact h2 _ (by omega) (by show r.val - s = _; omega)

end Cert.Kernel13Ideal.Conv

namespace Cert.Reference13Ideal.Conv
open Idealize.ShloMosaic Idealize.ShloMosaic.TcCoe Idealize.SL.Sem
open Cert.Reference13Ideal Cert.Reference13Ideal.Gen
open Cert.KernelIdeal.NormBwd (el)
open Cert.Kernel13Ideal.Conv (back cval gated gated_eq)

/-- The causal convolution. -/
abbrev conv (U : FVec Ideal S8448x5632 .bf16) (C : FVec Ideal S3x5632 .f32) (B : FVec Ideal S1x5632 .f32) : FVec Ideal S8448x5632 .f32 :=
  addf (addf (addf (broadcastInDim S8448x5632 ![0, 1] bcast_S1x5632_S8448x5632_0_1 B) (mulf (broadcastInDim S8448x5632 ![0, 1] bcast_S1x5632_S8448x5632_0_1 (broadcastInDim S1x5632 ![1] bcast_S5632_S1x5632_1 (shapeCast _ (extractStridedSlice S1x5632 ![0, 0] C slices_S3x5632_S1x5632_0_0) shapeCasts_S1x5632_S5632))) (extractStridedSlice S8448x5632 ![0, 0] (concatenate S8450x5632 0 [⟨S2x5632, (broadcastInDim S2x5632 ![] bcast_S_S2x5632 (constant S_ .f32 0x00000000#32))⟩, ⟨S8448x5632, (extf .f32 U bitsLt_bf16_f32)⟩] concatenates_S2x5632_S8448x5632_S8450x5632_d0) slices_S8450x5632_S8448x5632_0_0))) (mulf (broadcastInDim S8448x5632 ![0, 1] bcast_S1x5632_S8448x5632_0_1 (broadcastInDim S1x5632 ![1] bcast_S5632_S1x5632_1 (shapeCast _ (extractStridedSlice S1x5632 ![1, 0] C slices_S3x5632_S1x5632_1_0) shapeCasts_S1x5632_S5632))) (extractStridedSlice S8448x5632 ![1, 0] (concatenate S8450x5632 0 [⟨S2x5632, (broadcastInDim S2x5632 ![] bcast_S_S2x5632 (constant S_ .f32 0x00000000#32))⟩, ⟨S8448x5632, (extf .f32 U bitsLt_bf16_f32)⟩] concatenates_S2x5632_S8448x5632_S8450x5632_d0) slices_S8450x5632_S8448x5632_1_0))) (mulf (broadcastInDim S8448x5632 ![0, 1] bcast_S1x5632_S8448x5632_0_1 (broadcastInDim S1x5632 ![1] bcast_S5632_S1x5632_1 (shapeCast _ (extractStridedSlice S1x5632 ![2, 0] C slices_S3x5632_S1x5632_2_0) shapeCasts_S1x5632_S5632))) (extractStridedSlice S8448x5632 ![2, 0] (concatenate S8450x5632 0 [⟨S2x5632, (broadcastInDim S2x5632 ![] bcast_S_S2x5632 (constant S_ .f32 0x00000000#32))⟩, ⟨S8448x5632, (extf .f32 U bitsLt_bf16_f32)⟩] concatenates_S2x5632_S8448x5632_S8450x5632_d0) slices_S8450x5632_S8448x5632_2_0))

/-- The gate of the convolution's two halves. -/
abbrev gate (u : FVec Ideal S8448x5632 .f32) : FVec Ideal S8448x2816 .bf16 :=
  truncf .bf16 (mulf (mulf (extractStridedSlice S8448x2816 ![0, 0] u slices_S8448x5632_S8448x2816_0_0) (mulf (broadcastInDim S8448x2816 ![] bcast_S_S8448x2816 (constant S_ .f32 0x3F000000#32)) (addf (broadcastInDim S8448x2816 ![] bcast_S_S8448x2816 (constant S_ .f32 0x3F800000#32)) (Host.tanh (mulf (broadcastInDim S8448x2816 ![] bcast_S_S8448x2816 (constant S_ .f32 0x3F4C422A#32)) (addf (extractStridedSlice S8448x2816 ![0, 0] u slices_S8448x5632_S8448x2816_0_0) (mulf (broadcastInDim S8448x2816 ![] bcast_S_S8448x2816 (constant S_ .f32 0x3D372713#32)) (mulf (mulf (extractStridedSlice S8448x2816 ![0, 0] u slices_S8448x5632_S8448x2816_0_0) (extractStridedSlice S8448x2816 ![0, 0] u slices_S8448x5632_S8448x2816_0_0)) (extractStridedSlice S8448x2816 ![0, 0] u slices_S8448x5632_S8448x2816_0_0))))))))) (extractStridedSlice S8448x2816 ![0, 2816] u slices_S8448x5632_S8448x2816_0_2816)) bitsLt_bf16_f32

theorem conv_at (U : FVec Ideal S8448x5632 .bf16) (C : FVec Ideal S3x5632 .f32) (B : FVec Ideal S1x5632 .f32) (r : Fin 8448) (q : Fin 5632) :
    conv U C B (ix2 r q) = cval (el C (ix2 0 q)) (el C (ix2 1 q)) (el C (ix2 2 q)) (el B (ix2 0 q))
      (back (fun r => el U (ix2 r q)) 2 r) (back (fun r => el U (ix2 r q)) 1 r) (el U (ix2 r q)) := by
  unfold cval back
  have e2 : (if h : r.val < 2 then 0 else el U (ix2 ⟨r.val - 2, by omega⟩ q)) = if h : 2 ≤ r.val then el U (ix2 ⟨r.val - 2, by omega⟩ q) else 0 := by
    by_cases h : r.val < 2
    · rw [dif_pos h, dif_neg (by omega)]
    · rw [dif_neg h, dif_pos (by omega)]
  have e1 : (if h : 1 + r.val < 2 then 0 else el U (ix2 ⟨1 + r.val - 2, by omega⟩ q)) = if h : 1 ≤ r.val then el U (ix2 ⟨r.val - 1, by omega⟩ q) else 0 := by
    by_cases h : 1 + r.val < 2
    · rw [dif_pos h, dif_neg (by omega)]
    · rw [dif_neg h, dif_pos (by omega)]
      exact congrArg (fun k => el U (ix2 k q)) (Fin.ext (by show 1 + r.val - 2 = r.val - 1; omega))
  pointwise [conv]
  exact congrArg₂ (fun a b : EReal => a + b) (congrArg₂ (fun a b : EReal => a + b) (congrArg₂ (fun a b : EReal => a + b) rfl (congrArg (fun a : EReal => _ * a) e2)) (congrArg (fun a : EReal => _ * a) e1)) rfl

theorem gate_at (u : FVec Ideal S8448x5632 .f32) (r : Fin 8448) (q : Fin 2816) :
    gate u (ix2 r q) = gated (el u (ix2 r ⟨q.val, by omega⟩)) (el u (ix2 r ⟨2816 + q.val, by omega⟩)) := by
  pointwise [gate]
  exact gated_eq (el u (ix2 r ⟨q.val, by omega⟩)) (el u (ix2 r ⟨2816 + q.val, by omega⟩))

end Cert.Reference13Ideal.Conv

namespace Cert.Kernel13Ideal.Conv

open Idealize.ShloMosaic Idealize.ShloMosaic.TcCoe Idealize.SL.Sem
open Idealize.ShloMosaic.Pipeline (Dat)
open Cert.Kernel13Ideal Cert.Kernel13Ideal.Gen
open Cert.KernelIdeal.NormBwd (el)

/-! ## One grid point's values at an index -/

/-- The convolution of one column chunk of a tile: `b` says whether this is the first tile. -/
def cchunk (b : BitVec 1) (u : FVec Ideal S128x256 .bf16) (n1 n2 : FVec Ideal S1x256 .bf16) (β w0 w1 w2 : FVec Ideal S1x256 .f32) : FVec Ideal S128x256 .f32 :=
  k0_pay101 (F := Ideal) b (k0_pay100 u) n1 n2 β w0 w1 w2

/-- One column chunk of the result. -/
def chunk (b : BitVec 1) (u : FVec Ideal S128x256 .bf16) (n1 n2 : FVec Ideal S1x256 .bf16) (β w0 w1 w2 : FVec Ideal S1x256 .f32)
    (u' : FVec Ideal S128x256 .bf16) (n1' n2' : FVec Ideal S1x256 .bf16) (β' w0' w1' w2' : FVec Ideal S1x256 .f32) : FVec Ideal S128x256 .bf16 :=
  k0_pay1 (F := Ideal) (cchunk b u n1 n2 β w0 w1 w2) (cchunk b u' n1' n2' β' w0' w1' w2') (Scalar.ofBits .f32 0x3D372713#32)

theorem cchunk_at (b : BitVec 1) (u : FVec Ideal S128x256 .bf16) (n1 n2 : FVec Ideal S1x256 .bf16) (β w0 w1 w2 : FVec Ideal S1x256 .f32) (p : Fin 128) (q : Fin 256) :
    cchunk b u n1 n2 β w0 w1 w2 (ix2 p q) = cval (el w0 (ix2 0 q)) (el w1 (ix2 0 q)) (el w2 (ix2 0 q)) (el β (ix2 0 q))
      (before b (fun p => el u (ix2 p q)) (el n1 (ix2 0 q)) (el n2 (ix2 0 q)) p 2) (before b (fun p => el u (ix2 p q)) (el n1 (ix2 0 q)) (el n2 (ix2 0 q)) p 1) (el u (ix2 p q)) := by
  rw [← before_one, ← before_two]
  pointwise [cchunk, cval, k0_pay101, k0_pay100]

theorem gate_part (g v : FVec Ideal S128x256 .f32) (j : S128x256.Idx) :
    k0_pay1 (F := Ideal) g v (Scalar.ofBits .f32 0x3D372713#32) j = gated (el g j) (el v j) := by
  pointwise [k0_pay1, gated]

/-- One tile's convolution, over its columns. -/
def tile (b : BitVec 1) (u : FVec Ideal S128x5632 .bf16) (n : FVec Ideal S16x5632 .bf16) (w : FVec Ideal S3x5632 .f32) (β : FVec Ideal S1x5632 .f32) (p : Fin 128) (q : Fin 5632) : EReal :=
  cval (el w (ix2 0 q)) (el w (ix2 1 q)) (el w (ix2 2 q)) (el β (ix2 0 q))
      (before b (fun p => el u (ix2 p q)) (el n (ix2 15 q)) (el n (ix2 14 q)) p 2) (before b (fun p => el u (ix2 p q)) (el n (ix2 15 q)) (el n (ix2 14 q)) p 1) (el u (ix2 p q))

/-- A column chunk of the convolution is the tile's columns `o, …, o + 255`. -/
theorem cchunk_tile (b : BitVec 1) (u : FVec Ideal S128x5632 .bf16) (n : FVec Ideal S16x5632 .bf16) (w : FVec Ideal S3x5632 .f32) (β : FVec Ideal S1x5632 .f32)
    (u' : FVec Ideal S128x256 .bf16) (n1 n2 : FVec Ideal S1x256 .bf16) (β' w0 w1 w2 : FVec Ideal S1x256 .f32) (p : Fin 128) (y1 : Fin 5632) (x1 : Fin 256)
    (hu : ∀ p, u' (ix2 p x1) = u (ix2 p y1)) (hn1 : n1 (ix2 0 x1) = n (ix2 15 y1)) (hn2 : n2 (ix2 0 x1) = n (ix2 14 y1)) (hβ : β' (ix2 0 x1) = β (ix2 0 y1))
    (hw0 : w0 (ix2 0 x1) = w (ix2 0 y1)) (hw1 : w1 (ix2 0 x1) = w (ix2 1 y1)) (hw2 : w2 (ix2 0 x1) = w (ix2 2 y1)) :
    cchunk b u' n1 n2 β' w0 w1 w2 (ix2 p x1) = tile b u n w β p y1 := by
  refine (cchunk_at b u' n1 n2 β' w0 w1 w2 p x1).trans ?_
  simp only [tile, el, hu, hn1, hn2, hβ, hw0, hw1, hw2]

/-- A column chunk of the result is the gate of the two halves' columns. -/
theorem chunk_tile (b : BitVec 1) (u : FVec Ideal S128x5632 .bf16) (n : FVec Ideal S16x5632 .bf16) (w : FVec Ideal S3x5632 .f32) (β : FVec Ideal S1x5632 .f32)
    (g : FVec Ideal S128x256 .bf16) (g1 g2 : FVec Ideal S1x256 .bf16) (gβ gw0 gw1 gw2 : FVec Ideal S1x256 .f32)
    (v : FVec Ideal S128x256 .bf16) (v1 v2 : FVec Ideal S1x256 .bf16) (vβ vw0 vw1 vw2 : FVec Ideal S1x256 .f32)
    (y0 : Fin 128) (gq vq : Fin 5632) (x0 : Fin 128) (x1 : Fin 256) (h0 : y0 = x0)
    (hg : cchunk b g g1 g2 gβ gw0 gw1 gw2 (ix2 x0 x1) = tile b u n w β x0 gq) (hv : cchunk b v v1 v2 vβ vw0 vw1 vw2 (ix2 x0 x1) = tile b u n w β x0 vq) :
    chunk b g g1 g2 gβ gw0 gw1 gw2 v v1 v2 vβ vw0 vw1 vw2 (ix2 x0 x1) = gated (tile b u n w β y0 gq) (tile b u n w β y0 vq) := by
  subst h0
  exact (gate_part _ _ _).trans (congrArg₂ gated hg hv)

/-- The second half's columns. -/
theorem half {a b c : ℕ} (h : a = b + c) : 2816 + a = 2816 + b + c := by omega

theorem tile_at (i : grid0.Coords) (u : FVec Ideal S128x5632 .bf16) (n : FVec Ideal S16x5632 .bf16) (w : FVec Ideal S3x5632 .f32) (β : FVec Ideal S1x5632 .f32) (p : Fin 128) (q : Fin 2816) :
    out0_4 (F := Ideal) i u n w β (ix2 p q) = gated (tile (Scalar.cmpi .eq (BitVec.ofNat 32 (i 0).val) 0#32) u n w β p ⟨q.val, by omega⟩)
      (tile (Scalar.cmpi .eq (BitVec.ofNat 32 (i 0).val) 0#32) u n w β p ⟨2816 + q.val, by omega⟩) := by
  canon_tiles x h
  all_goals
    idx_vars x
    refine chunk_tile _ u n w β _ _ _ _ _ _ _ _ _ _ _ _ _ _ _ _ _ x0 x1 (Fin.ext h0) (cchunk_tile _ u n w β _ _ _ _ _ _ _ _ _ _ (fun p => ?_) ?_ ?_ ?_ ?_ ?_ ?_)
      (cchunk_tile _ u n w β _ _ _ _ _ _ _ _ _ _ (fun p => ?_) ?_ ?_ ?_ ?_ ?_ ?_)
    all_goals refine View.ld_unit_apply_of _ _ _ _ _ _ (Fin.forall_fin_two.2 ⟨?_, ?_⟩)
    all_goals first | rfl | exact h1 | exact (zero_add _).symm | exact h1.trans (zero_add _).symm | exact half h1 | exact congrArg (fun a => 2816 + a) h1

variable (m : (ℓ : Loc nD τ sig) → Buf (Elt Ideal) ℓ)

/-! ## The run's contents -/

/-- The windows' block indices at every grid point. -/
theorem idx : ∀ t : Fin cfg0.N, win0_0.index t = ![t.val, 0] ∧ win0_1.index t = ![t.val * 8 - 1, 0] ∧ win0_2.index t = ![0, 0] ∧ win0_3.index t = ![0, 0] ∧ win0_4.index t = ![t.val, 0] :=
  (by decide +kernel : ∀ t : Fin grid0.N, _)

/-- The first tile is the grid's first point. -/
theorem first : ∀ t : Fin cfg0.N, Scalar.cmpi .eq (BitVec.ofNat 32 (grid0.coords t 0).val) 0#32 = if t.val = 0 then 1#1 else 0#1 :=
  (by decide +kernel : ∀ t : Fin grid0.N, _)

/-- The arguments, by row and column. -/
abbrev U (c : Dev nD) (r : Fin 8448) (q : Fin 5632) : EReal := el (s := S8448x5632) (φ := .bf16) (m ((c : Thread nD τ).loc main_arg0)) (ix2 r q)
abbrev C (c : Dev nD) (k : Fin 3) (q : Fin 5632) : EReal := el (s := S3x5632) (φ := .f32) (m ((c : Thread nD τ).loc main_arg1)) (ix2 k q)
abbrev B (c : Dev nD) (q : Fin 5632) : EReal := el (s := S1x5632) (φ := .f32) (m ((c : Thread nD τ).loc main_arg2)) (ix2 0 q)

theorem u_at (c : Dev nD) (t : Fin cfg0.N) (p : Fin 128) (q : Fin 5632) (r : Fin 8448) (h : r.val = t.val * 128 + p.val) :
    el (s := S128x5632) (φ := .bf16) (iblk m c 0 t) (ix2 p q) = U m c r q := by
  simp only [el]
  blk_point [iblk, V, idx t]

theorem n_at (c : Dev nD) (t : Fin cfg0.N) (p : Fin 16) (q : Fin 5632) (r : Fin 8448) (h : r.val = (t.val * 8 - 1) * 16 + p.val) :
    el (s := S16x5632) (φ := .bf16) (iblk m c 1 t) (ix2 p q) = U m c r q := by
  simp only [el]
  blk_point [iblk, V, idx t]

theorem w_at (c : Dev nD) (t : Fin cfg0.N) (k : Fin 3) (q : Fin 5632) :
    el (s := S3x5632) (φ := .f32) (iblk m c 2 t) (ix2 k q) = C m c k q := by
  simp only [el]
  blk_point [iblk, V, idx t]

theorem b_at (c : Dev nD) (t : Fin cfg0.N) (q : Fin 5632) :
    el (s := S1x5632) (φ := .f32) (iblk m c 3 t) (ix2 0 q) = B m c q := by
  simp only [el]
  blk_point [iblk, V, idx t]

theorem row_of (t : Fin cfg0.N) (y0 : Fin 128) (r : Fin 8448) (i0 : ℕ) (e : r.val = i0 * 128 + 1 * y0.val) (hi : i0 = t.val) : r.val = t.val * 128 + y0.val := by
  rw [e, hi, one_mul]

theorem col_of {n : ℕ} (y1 q : Fin n) (i1 : ℕ) (e : q.val = i1 * n + 1 * y1.val) (hi : i1 = 0) : q = y1 :=
  Fin.ext (by rw [e, hi, zero_mul, one_mul, zero_add])

/-- The convolution of the arguments. -/
abbrev CV (c : Dev nD) (r : Fin 8448) (q : Fin 5632) : EReal :=
  cval (C m c 0 q) (C m c 1 q) (C m c 2 q) (B m c q) (back (fun r => U m c r q) 2 r) (back (fun r => U m c r q) 1 r) (U m c r q)

theorem rows_at (c : Dev nD) (t : Fin cfg0.N) (p : Fin 128) (q : Fin 5632) (r : Fin 8448) (hr : r.val = t.val * 128 + p.val) (s : ℕ) (hs : s = 1 ∨ s = 2) :
    before (Scalar.cmpi .eq (BitVec.ofNat 32 (grid0.coords t 0).val) 0#32) (fun p => el (s := S128x5632) (φ := .bf16) (iblk m c 0 t) (ix2 p q))
      (el (s := S16x5632) (φ := .bf16) (iblk m c 1 t) (ix2 15 q)) (el (s := S16x5632) (φ := .bf16) (iblk m c 1 t) (ix2 14 q)) p s
      = back (fun r => U m c r q) s r := by
  refine before_row (fun r => U m c r q) t.val t.isLt _ (first t) _ (fun p r h => u_at m c t p q r h) _ _ (fun r h e => n_at m c t 15 q r ?_) (fun r h e => n_at m c t 14 q r ?_) p r hr s hs
  · show r.val = _ + 15
    omega
  · show r.val = _ + 14
    omega

theorem conv_blk (c : Dev nD) (t : Fin cfg0.N) (p : Fin 128) (q : Fin 5632) (r : Fin 8448) (hr : r.val = t.val * 128 + p.val) :
    tile (Scalar.cmpi .eq (BitVec.ofNat 32 (grid0.coords t 0).val) 0#32) (iblk m c 0 t) (iblk m c 1 t) (iblk m c 2 t) (iblk m c 3 t) p q = CV m c r q := by
  unfold tile
  rw [rows_at m c t p q r hr 1 (.inl rfl), rows_at m c t p q r hr 2 (.inr rfl), u_at m c t p q r hr, w_at m c t 0 q, w_at m c t 1 q, w_at m c t 2 q, b_at m c t q]

/-- The gate of the convolution's halves. -/
def res (c : Dev nD) (r : Fin 8448) (q : Fin 2816) : EReal := gated (CV m c r ⟨q.val, by omega⟩) (CV m c r ⟨2816 + q.val, by omega⟩)

/-- The result after the run. -/
theorem final (c : Dev nD) : (dats m 0 c).arrAt 4 (cfgs 0).N = fun j : S8448x2816.Idx => res m c (j 0) (j 1) := by
  refine (dats m 0 c).arrAt_eq_of_covers 4 _ (by decide +kernel) fun t hf y => ?_
  blk_simp
  have e0 := row_of t (y 0) ((win0_4.blk t).view.emb y 0) _ rfl (by rw [(idx t).2.2.2.2]; rfl)
  have e1 := col_of (n := 2816) (y 1) ((win0_4.blk t).view.emb y 1) _ rfl (by rw [(idx t).2.2.2.2]; rfl)
  rw [e1, after0_4]
  refine Eq.trans (b := out0_4 (F := Ideal) (grid0.coords t) (iblk m c 0 t) (iblk m c 1 t) (iblk m c 2 t) (iblk m c 3 t) (ix2 (y 0) (y 1))) (congrArg _ (eq_ix2 y)) ?_
  refine (tile_at _ _ _ _ _ (y 0) (y 1)).trans ?_
  exact congrArg₂ gated (conv_blk m c t (y 0) _ _ e0) (conv_blk m c t (y 0) _ _ e0)

end Cert.Kernel13Ideal.Conv

namespace Cert.Proof.ConvFwd

open Idealize.ShloMosaic Idealize.SL.Sem
open Cert.KernelIdeal.NormBwd (el)
open Cert.Kernel13Ideal.Conv (back cval gated)
open Cert.Reference13Ideal.Conv
open Cert.Reference13Ideal (S8448x5632 S8448x2816 S3x5632 S1x5632)

/-- The convolution of the arguments. -/
abbrev CV (U : FVec Ideal S8448x5632 .bf16) (C : FVec Ideal S3x5632 .f32) (B : FVec Ideal S1x5632 .f32) (r : Fin 8448) (q : Fin 5632) : EReal :=
  cval (el C (ix2 0 q)) (el C (ix2 1 q)) (el C (ix2 2 q)) (el B (ix2 0 q)) (back (fun r => el U (ix2 r q)) 2 r) (back (fun r => el U (ix2 r q)) 1 r) (el U (ix2 r q))

/-- The gate of the convolution's halves. -/
def res (U : FVec Ideal S8448x5632 .bf16) (C : FVec Ideal S3x5632 .f32) (B : FVec Ideal S1x5632 .f32) (r : Fin 8448) (q : Fin 2816) : EReal := gated (CV U C B r ⟨q.val, by omega⟩) (CV U C B r ⟨2816 + q.val, by omega⟩)

theorem gate_eq (U : FVec Ideal S8448x5632 .bf16) (C : FVec Ideal S3x5632 .f32) (B : FVec Ideal S1x5632 .f32) (U' : FVec Ideal S8448x5632 .bf16) (C' : FVec Ideal S3x5632 .f32) (B' : FVec Ideal S1x5632 .f32)
    (e : U' = U ∧ C' = C ∧ B' = B) (j : S8448x2816.Idx) :
    gate (conv U' C' B') j = res U C B (j 0) (j 1) := by
  obtain ⟨rfl, rfl, rfl⟩ := e
  refine Eq.trans (b := gate (conv U' C' B') (ix2 (j 0) (j 1))) (congrArg _ (eq_ix2 j)) ?_
  refine (gate_at _ (j 0) (j 1)).trans ?_
  exact congrArg₂ gated (conv_at U' C' B' (j 0) _) (conv_at U' C' B' (j 0) _)

theorem algebraic : Cert.algebraic_Kernel13Ideal_Reference13Ideal := by
  intro m ρ m' ρ' hpre hag
  refine ⟨fun c => (Cert.Kernel13Ideal.Gen.dats m 0 c).arrAt 4 (Cert.Kernel13Ideal.cfgs 0).N, Cert.Kernel13Ideal.Value.run_blocks m ρ,
    (θ_run Cert.Reference13Ideal.defs _ _).mono (fun r h c => ⟨(h c).1.trans ?_, (h c).2⟩) (Cert.Reference13Ideal.Value.run m' ρ')⟩
  refine Eq.trans ?_ (Cert.Kernel13Ideal.Conv.final m c).symm
  funext j
  exact gate_eq _ _ _ _ _ _ (hag c) j

end Cert.Proof.ConvFwd

end
-- ==== Proof.LogF.lean ====
/- The forget gates' logarithms: the masked log-sigmoid of a product with a bias equals the same lines written over whole arrays. -/
module

public import proofs.«01_k».proof.Proof.Gen.Kernel15Ideal.Value
public import proofs.«01_k».proof.Proof.Gen.Reference15Ideal.Run
public import Idealize.ShloMosaic.Lib.Pipeline.ValueKit
public import proofs.«01_k».proof.Proof.Reals
public import proofs.«01_k».proof.Proof.UpBwd
public import proofs.«01_k».proof.Defs

@[expose] public section

set_option maxRecDepth 16384

noncomputable section

namespace Cert.Proof.LogF
open Idealize.ShloMosaic
open Cert.KernelIdeal.NormBwd (rr el)

/-- The logarithm of the logistic function as the kernel writes it. -/
def lsg (x : EReal) : EReal := min x 0 - Ideal.log (1 + Ideal.exp (0 - max x (-x)))

/-- An exponential is not negative. -/
theorem exp_nonneg (x : EReal) : 0 ≤ Ideal.exp x := by
  induction x with
  | bot => exact le_refl _
  | top => exact le_top
  | coe r => rw [Ideal.exp_coe]; exact_mod_cast (Real.exp_pos r).le

/-- One more than a number that is not negative has a logarithm that is not minus infinity. -/
theorem log_ne_bot {x : EReal} (h : 0 ≤ x) : Ideal.log (1 + x) ≠ ⊥ := by
  induction x with
  | bot => exact absurd h (by decide)
  | top => rw [EReal.add_top_of_ne_bot (by decide)]; exact (by decide : (⊤ : EReal) ≠ ⊥)
  | coe r =>
    have hr : 0 ≤ r := by exact_mod_cast h
    rw [show (1 : EReal) + (r : EReal) = ((1 + r : ℝ) : EReal) from rfl, Ideal.log_coe, if_neg (by linarith)]
    exact EReal.coe_ne_bot _

/-- The same from the logarithm of a sum of exponentials. -/
theorem lsg_eq (x : EReal) : -(max (-x) 0 + Ideal.log1p (Ideal.exp (-(max (-x - 0) (-(-x - 0)))))) = lsg x := by
  unfold lsg Ideal.log1p
  have e : -(max (-x) 0) = min x 0 := by
    rcases le_total x 0 with h | h
    · rw [max_eq_left (EReal.neg_nonneg.mpr h), neg_neg, min_eq_left h]
    · rw [max_eq_right (by rw [← neg_zero, EReal.neg_le_neg_iff]; exact h), neg_zero, min_eq_right h]
  rw [sub_zero, neg_neg, max_comm (-x) x, zero_sub,
    EReal.neg_add (.inl (lt_of_lt_of_le EReal.bot_lt_zero (le_max_right _ _)).ne') (.inr (log_ne_bot (exp_nonneg _))), e]

/-- One entry: row `r`, lane `q`, before the mask. -/
def ent (r : Fin 8448) (q : Fin 128) (f : EReal) : EReal :=
  Scalar.select (IntOp.andi (IntOp.cmpi .sge (BitVec.ofNat 32 r.val) 240#32) (IntOp.cmpi .slt (BitVec.ofNat 32 q.val) 8#32)) (lsg f) 0

/-- A row against a column with its bias. -/
def aff (A : Fin 1024 → EReal) (W : Fin 1024 → Fin 128 → EReal) (B : Fin 128 → EReal) (q : Fin 128) : EReal := (∑ k : Fin 1024, A k * W k q) + B q

end Cert.Proof.LogF

namespace Cert.Reference15Ideal.LogF
open Idealize.ShloMosaic Idealize.ShloMosaic.TcCoe Idealize.SL.Sem
open Cert.Reference15Ideal Cert.Reference15Ideal.Gen
open Cert.KernelIdeal.NormBwd (rr el)
open Cert.Proof.LogF (ent aff lsg lsg_eq)

/-- The product with its bias. -/
abbrev fg (A : FVec Ideal S8448x1024 .bf16) (W : FVec Ideal S1024x128 .bf16) (B : FVec Ideal S1x128 .f32) : FVec Ideal S8448x128 .f32 :=
  addf (Host.dotGeneral dot_S8448x1024_S1024x128_S8448x128_1_0_0_1_n_n none (extf .f32 A bitsLt_bf16_f32) (extf .f32 W bitsLt_bf16_f32)) (broadcastInDim S8448x128 ![0, 1] bcast_S1x128_S8448x128_0_1 B)

/-- The masked log-sigmoid. -/
abbrev lf (f : FVec Ideal S8448x128 .f32) : FVec Ideal S8448x128 .f32 :=
  select (andi (broadcastInDim S8448x128 ![0, 1] bcast_S8448x1_S8448x128_0_1 (cmpi .sge (broadcastInDim S8448x1 ![0] bcast_S8448_S8448x1_0 (iotaInDim S8448 32 0)) (broadcastInDim S8448x1 ![] bcast_S_S8448x1 (constantI S_ 32 240#32)))) (broadcastInDim S8448x128 ![0, 1] bcast_S1x128_S8448x128_0_1 (cmpi .slt (broadcastInDim S1x128 ![1] bcast_S128_S1x128_1 (iotaInDim S128 32 0)) (broadcastInDim S1x128 ![] bcast_S_S1x128 (constantI S_ 32 8#32))))) (Host.negf (select (cmpf .une (subf (Host.negf f) (broadcastInDim S8448x128 ![] bcast_S_S8448x128 (constant S_ .f32 0x00000000#32))) (subf (Host.negf f) (broadcastInDim S8448x128 ![] bcast_S_S8448x128 (constant S_ .f32 0x00000000#32)))) (addf (Host.negf f) (broadcastInDim S8448x128 ![] bcast_S_S8448x128 (constant S_ .f32 0x00000000#32))) (addf (maximumf (Host.negf f) (broadcastInDim S8448x128 ![] bcast_S_S8448x128 (constant S_ .f32 0x00000000#32))) (Host.log1p (Host.exp (Host.negf (Host.absf (subf (Host.negf f) (broadcastInDim S8448x128 ![] bcast_S_S8448x128 (constant S_ .f32 0x00000000#32)))))))))) (broadcastInDim S8448x128 ![] bcast_S_S8448x128 (constant S_ .f32 0x00000000#32))

theorem fg_at (A : FVec Ideal S8448x1024 .bf16) (W : FVec Ideal S1024x128 .bf16) (B : FVec Ideal S1x128 .f32) (j : S8448x128.Idx) :
    fg A W B j = aff (fun k => el A (ix2 (j 0) k)) (fun k q => el W (ix2 k q)) (fun q => el B (ix2 0 q)) (j 1) := by
  pointwise [fg, aff]

theorem lf_at (f : FVec Ideal S8448x128 .f32) (j : S8448x128.Idx) : lf f j = ent (j 0) (j 1) (f j) := by
  unfold ent
  rw [← lsg_eq]
  obtain ⟨p, q, rfl⟩ : ∃ p q, j = ix2 p q := ⟨j 0, j 1, eq_ix2 j⟩
  pointwise [lf]
  rw [if_neg (fun h => h rfl)]
  rfl

end Cert.Reference15Ideal.LogF

namespace Cert.Kernel15Ideal.LogF

open Idealize.ShloMosaic Idealize.ShloMosaic.TcCoe Idealize.SL.Sem
open Idealize.ShloMosaic.Pipeline (Dat)
open Cert.Kernel15Ideal Cert.Kernel15Ideal.Gen
open Cert.KernelIdeal.NormBwd (rr el)
open Cert.Proof.LogF (ent aff lsg)

theorem part (i : grid0.Coords) (x : FVec Ideal S768x1024 .bf16) (w : FVec Ideal S1024x128 .bf16) (b : FVec Ideal S1x128 .f32) (j : S768x128.Idx) (r : Fin 8448) (h : r.val = (i 0).val * 768 + (j 0).val) :
    k0_pay1 (F := Ideal) i x w b j = ent r (j 1) (aff (fun k => el x (ix2 (j 0) k)) (fun k q => el w (ix2 k q)) (fun q => el b (ix2 0 q)) (j 1)) := by
  obtain ⟨p, q, rfl⟩ : ∃ p q, j = ix2 p q := ⟨j 0, j 1, eq_ix2 j⟩
  unfold ent
  rw [h, BitVec.ofNat_add, BitVec.ofNat_mul]
  pointwise [k0_pay1, aff, lsg]
  rfl

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![0, 0] ∧ win0_3.index t = ![t.val, 0] ∧ (grid0.coords t 0).val = t.val :=
  (by decide +kernel : ∀ t : Fin grid0.N, _)

/-- The arguments, by row and column. -/
abbrev A (c : Dev nD) (r : Fin 8448) (q : Fin 1024) : EReal := el (s := S8448x1024) (φ := .bf16) (m ((c : Thread nD τ).loc main_arg0)) (ix2 r q)
abbrev W (c : Dev nD) (k : Fin 1024) (q : Fin 128) : EReal := el (s := S1024x128) (φ := .bf16) (m ((c : Thread nD τ).loc main_arg1)) (ix2 k q)
abbrev B (c : Dev nD) (q : Fin 128) : EReal := el (s := S1x128) (φ := .f32) (m ((c : Thread nD τ).loc main_arg2)) (ix2 0 q)

theorem a_at (c : Dev nD) (t : Fin cfg0.N) (p : Fin 768) (q : Fin 1024) (r : Fin 8448) (h : r.val = t.val * 768 + p.val) :
    el (s := S768x1024) (φ := .bf16) (iblk m c 0 t) (ix2 p q) = A m c r q := by
  simp only [el]
  blk_point [iblk, V, idx t]

theorem w_at (c : Dev nD) (t : Fin cfg0.N) (k : Fin 1024) (q : Fin 128) : el (s := S1024x128) (φ := .bf16) (iblk m c 1 t) (ix2 k q) = W m c k q := by
  simp only [el]
  blk_point [iblk, V, idx t]

theorem b_at (c : Dev nD) (t : Fin cfg0.N) (q : Fin 128) : el (s := S1x128) (φ := .f32) (iblk m c 2 t) (ix2 0 q) = B m c q := by
  simp only [el]
  blk_point [iblk, V, idx t]

theorem ent_at (c : Dev nD) (t : Fin cfg0.N) (p : Fin 768) (q : Fin 128) (r : Fin 8448) (h : r.val = t.val * 768 + p.val) :
    k0_pay1 (F := Ideal) (grid0.coords t) (iblk m c 0 t) (iblk m c 1 t) (iblk m c 2 t) (ix2 p q) = ent r q (aff (A m c r) (W m c) (B m c) q) := by
  refine (part _ _ _ _ (ix2 p q) r (by rw [(idx t).2.2.2.2, h]; rfl)).trans (congrArg (ent r q) ?_)
  exact congrArg₂ (fun a b : EReal => a + b) (Reals.sum_eq _ _ fun k => congrArg₂ (fun a b : EReal => a * b) (a_at m c t p k r h) (w_at m c t k q)) (b_at m c t q)

/-- What a point leaves is the payload. -/
theorem left (c : Dev nD) (t : Fin cfg0.N) (y : S768x128.Idx) : (dats m 0 c).after 3 t y = k0_pay1 (F := Ideal) (grid0.coords t) (iblk m c 0 t) (iblk m c 1 t) (iblk m c 2 t) y := by
  rw [after0_3]
  frame_out

theorem row_of (t y0 r i0 : ℕ) (e : r = i0 * 768 + 1 * y0) (hi : i0 = t) : r = t * 768 + y0 := by
  rw [e, hi, one_mul]

theorem col_of (y1 q : Fin 128) (i1 : ℕ) (e : q.val = i1 * 128 + 1 * y1.val) (hi : i1 = 0) : q = y1 :=
  Fin.ext (by rw [e, hi, zero_mul, one_mul, zero_add])

attribute [local irreducible] k0_pay1 ent

theorem final (c : Dev nD) : (dats m 0 c).arrAt 3 (cfgs 0).N
    = fun j : S8448x128.Idx => ent (j 0) (j 1) (aff (A m c (j 0)) (W m c) (B m c) (j 1)) := by
  refine (dats m 0 c).arrAt_eq_of_covers 3 _ (by decide +kernel) fun t hf y => ?_
  blk_simp
  have h0 := row_of t.val (y 0).val ((win0_3.blk t).view.emb y 0).val _ rfl (by rw [(idx t).2.2.2.1]; rfl)
  have h1 := col_of (y 1) ((win0_3.blk t).view.emb y 1) _ rfl (by rw [(idx t).2.2.2.1]; rfl)
  rw [h1]
  refine (left m c t y).trans ?_
  rw [eq_ix2 y]
  exact ent_at m c t (y 0) (y 1) _ h0

end Cert.Kernel15Ideal.LogF

namespace Cert.Proof.LogF

open Idealize.ShloMosaic Idealize.SL.Sem
open Cert.KernelIdeal.NormBwd (rr el)
open Cert.Reference15Ideal.LogF
open Cert.Reference15Ideal (S8448x1024 S1024x128 S1x128 S8448x128)

theorem value_eq (A : FVec Ideal S8448x1024 .bf16) (W : FVec Ideal S1024x128 .bf16) (B : FVec Ideal S1x128 .f32) (A' : FVec Ideal S8448x1024 .bf16) (W' : FVec Ideal S1024x128 .bf16) (B' : FVec Ideal S1x128 .f32)
    (e : A' = A ∧ W' = W ∧ B' = B) (j : S8448x128.Idx) :
    lf (fg A' W' B') j = ent (j 0) (j 1) (aff (fun k => el A (ix2 (j 0) k)) (fun k q => el W (ix2 k q)) (fun q => el B (ix2 0 q)) (j 1)) := by
  obtain ⟨rfl, rfl, rfl⟩ := e
  exact (lf_at _ j).trans (congrArg _ (fg_at _ _ _ j))

/-- The forget gates' logarithms equal the lines over whole arrays. -/
theorem algebraic : Cert.algebraic_Kernel15Ideal_Reference15Ideal := by
  intro m ρ m' ρ' hpre hag
  refine ⟨fun c => (Cert.Kernel15Ideal.Gen.dats m 0 c).arrAt 3 (Cert.Kernel15Ideal.cfgs 0).N, Cert.Kernel15Ideal.Value.run_blocks m ρ,
    (θ_run Cert.Reference15Ideal.defs _ _).mono (fun r h c => ⟨(h c).1.trans ?_, (h c).2⟩) (Cert.Reference15Ideal.Value.run m' ρ')⟩
  refine Eq.trans ?_ (Cert.Kernel15Ideal.LogF.final m c).symm
  funext j
  exact value_eq _ _ _ _ _ _ (hag c) j

end Cert.Proof.LogF

end
-- ==== Proof.DwUp.lean ====
/- The gradient of a product by its matrix, `xᵀ · dy` accumulated over eleven row tiles, equals `jax.vjp`'s whole product:
   one row tile's part per grid point, the parts of a run of eleven points summed, the sum over all 8448 rows re-blocked. -/
module

public import proofs.«01_k».proof.Proof.Gen.Kernel2Ideal.Value
public import proofs.«01_k».proof.Proof.Gen.Reference2Ideal.Run
public import Idealize.ShloMosaic.Lib.Pipeline.ValueKit
public import proofs.«01_k».proof.Defs
public import proofs.«01_k».proof.Proof.Gen.Pre_finite
public import proofs.«01_k».proof.Proof.Gen.Kernel
public import proofs.«01_k».proof.Proof.Gen.Kernel2
public import proofs.«01_k».proof.Proof.Gen.KernelIdeal
public import proofs.«01_k».proof.Proof.Gen.ReferenceIdeal

@[expose] public section

set_option maxRecDepth 16384

noncomputable section

namespace Cert.Kernel2Ideal.Product

open Idealize.ShloMosaic Idealize.ShloMosaic.TcCoe Idealize.SL.Sem
open Idealize.ShloMosaic.Pipeline (Dat)
open Cert.Kernel2Ideal Cert.Kernel2Ideal.Gen

/-- The reference's result as a term of the two arguments. -/
abbrev gradW (X : FVec Ideal S8448x1024 .bf16) (D : FVec Ideal S8448x5632 .bf16) : FVec Ideal S1024x5632 .f32 :=
  transpose Cert.Reference2Ideal.S1024x5632 [1, 0]
    (Host.dotGeneral (F := Ideal) Cert.Reference2Ideal.dot_S8448x5632_S8448x1024_S5632x1024_0_0_1_1_n_n none
      (extf .f32 D Cert.Reference2Ideal.Gen.bitsLt_bf16_f32) (extf .f32 X Cert.Reference2Ideal.Gen.bitsLt_bf16_f32))
    Cert.Reference2Ideal.Gen.transposes_S5632x1024_S1024x5632_1_0

/-- The fill at a run's first point is zero. -/
theorem fill_zero (j : S1024x1408.Idx) : k0_pay1 (F := Ideal) j = 0 := by pointwise [k0_pay1]

/-- One point adds its row tile's part of the product. -/
theorem part (acc : FVec Ideal S1024x1408 .f32) (x : FVec Ideal S768x1024 .bf16) (d : FVec Ideal S768x1408 .bf16)
    (j : S1024x1408.Idx) :
    k0_pay2 acc x d j = acc j + ∑ r : Fin 768, x (ix2 r (j 0)) * d (ix2 r (j 1)) := by
  pointwise [k0_pay2]

/-- The reference at an index: the sum over all rows. -/
theorem gradW_at (X : FVec Ideal S8448x1024 .bf16) (D : FVec Ideal S8448x5632 .bf16) (j : S1024x5632.Idx) :
    gradW X D j = ∑ r : Fin 8448, X (ix2 r (j 0)) * D (ix2 r (j 1)) := by
  pointwise! [gradW]

/-- The windows' block indices at every grid point. -/
theorem idx : ∀ t : Fin cfg0.N, win0_0.index t = ![t.val % 11, 0] ∧ win0_1.index t = ![t.val % 11, t.val / 11]
    ∧ win0_2.index t = ![0, t.val / 11] := (by decide +kernel : ∀ t : Fin grid0.N, _)

variable (m : (ℓ : Loc nD τ sig) → Buf (Elt Ideal) ℓ)

/-- The result array after the run is the reference's. -/
theorem final (c : Dev nD) : (dats m 0 c).arrAt 2 (cfgs 0).N
    = gradW (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 11 (fun _ => 0) _
    (fun t h j => by rw [outsAt0_A m c t h]; frame_out; rw [part, fill_zero])
    (fun t h j => by rw [outsAt0_B m c t h]; frame_out; rw [part])
    t ((flush0_2 t).mp hf) _, zero_add]
  refine Eq.trans ?_ (gradW_at _ _ _).symm
  refine Fin.sum_mul_add_congr fun s k hl => ?_
  blk_point [iblk, V, idx t, idx ⟨_, Pipeline.run_point_lt_of_flush t ((flush0_2 t).mp hf) s⟩]

end Cert.Kernel2Ideal.Product

namespace Cert.Proof.Product

open Idealize.ShloMosaic Idealize.SL.Sem

theorem algebraic : Cert.algebraic_Kernel2Ideal_Reference2Ideal := by
  intro m ρ m' ρ' _ hag
  refine ⟨fun c => Cert.Kernel2Ideal.Value.G2 m c, Cert.Kernel2Ideal.Value.run m ρ,
    (θ_run Cert.Reference2Ideal.defs _ _).mono (fun r h c => ⟨(h c).1.trans ?_, (h c).2⟩) (Cert.Reference2Ideal.Value.run m' ρ')⟩
  refine Eq.trans ?_ ((Cert.Kernel2Ideal.Value.final2 m c).symm.trans (Cert.Kernel2Ideal.Product.final m c)).symm
  rw [(hag c).1, (hag c).2]

end Cert.Proof.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.DownBwd
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.DwMore
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.MergeBwd
public import proofs.«01_k».proof.Proof.Gen.Pre_finite6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.RmsMm
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.ConvT
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.MergeFwd
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.DownLoss
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.ConvFwd
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.LogF
public import Idealize.ShloMosaic.Adequacy
public import Idealize.ShloMosaic.Init
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.UpBwd
public import proofs.«01_k».proof.Proof.DwUp

@[expose] public section

noncomputable section

namespace Cert.Proof

open Idealize.ShloMosaic Idealize.SL.Sem Cert.Kernel

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference6 : Cert.quiescent_Reference6Ideal := fun m ρ _ =>
  (θ_run Cert.Reference6Ideal.defs _ _).mono (fun r h => ⟨fun c => (h c).2.2.2.2.2.2.2.2, sem_eq_zero_of_no_sems (by decide) r.2⟩)
    (Cert.Reference6Ideal.Value.run (F := Ideal) m ρ)

theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_reference11 : Cert.quiescent_Reference11Ideal := fun m ρ _ =>
  (θ_run Cert.Reference11Ideal.defs _ _).mono (fun r h => ⟨fun c => (h c).2.2.2.2.2, sem_eq_zero_of_no_sems (by decide) r.2⟩)
    (Cert.Reference11Ideal.Value.run (F := Ideal) m ρ)

theorem frame_reference12 : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem frame_reference14 : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel6.Gen.facts, Cert.Kernel6Ideal.Gen.facts, Cert.Reference6Ideal.Gen.facts, Cert.Kernel7.Gen.facts,
  Cert.Kernel7Ideal.Gen.facts, Cert.Reference7Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts, Cert.Kernel11.Gen.facts,
  Cert.Kernel11Ideal.Gen.facts, Cert.Reference11Ideal.Gen.facts, Cert.Kernel12.Gen.facts, Cert.Kernel12Ideal.Gen.facts,
  Cert.Reference12Ideal.Gen.facts, Cert.Kernel13.Gen.facts, Cert.Kernel13Ideal.Gen.facts, Cert.Reference13Ideal.Gen.facts,
  Cert.Kernel14.Gen.facts, Cert.Kernel14Ideal.Gen.facts, Cert.Reference14Ideal.Gen.facts, Cert.Kernel15.Gen.facts,
  Cert.Kernel15Ideal.Gen.facts, Cert.Reference15Ideal.Gen.facts, Cert.Pre_finite.Gen.facts, Cert.Pre_finite3.Gen.facts,
  Cert.Pre_finite6.Gen.facts,
  fun m ρ _ => Cert.Kernel.Gen.frame m ρ, fun m ρ _ => Cert.KernelIdeal.Gen.frame m ρ, fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, fun m ρ _ => Cert.Kernel3Ideal.Gen.frame m ρ, frame_reference3, fun m ρ _ => frame_reference3 m ρ trivial,
  fun m ρ _ => Cert.Kernel4.Gen.frame m ρ, fun m ρ _ => Cert.Kernel4Ideal.Gen.frame m ρ, frame_reference4,
  fun m ρ _ => Cert.Kernel6.Gen.frame m ρ, fun m ρ _ => Cert.Kernel6Ideal.Gen.frame m ρ, fun m ρ _ => Cert.Kernel6Ideal.Gen.frame m ρ, frame_reference6, fun m ρ _ => frame_reference6 m ρ trivial,
  RmsMm.frame7, fun m ρ _ => Cert.Kernel7Ideal.Rms.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  RmsMm.frame14, fun m ρ _ => Cert.Kernel14Ideal.Rms.frame m ρ, frame_reference14,
  fun m ρ _ => Cert.Kernel15.Gen.frame m ρ, fun m ρ _ => Cert.Kernel15Ideal.Gen.frame m ρ, frame_reference15,
  trivial, NormBwd.algebraic,
  trivial, Product.algebraic,
  trivial, DownBwd.algebraic,
  trivial, Cert.Kernel4Ideal.Product.algebraic,
  trivial, Merge.algebraic,
  trivial, RmsMm.algebraic7,
  trivial, ConvT.algebraic,
  trivial, Cert.Kernel9Ideal.Product.algebraic,
  trivial, Cert.Kernel10Ideal.Product.algebraic,
  trivial, MergeFwd.algebraic,
  trivial, DownLoss.algebraic,
  trivial, ConvFwd.algebraic,
  trivial, RmsMm.algebraic14,
  trivial, LogF.algebraic⟩

end Cert.Proof

end
